-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_scores [hPre_finite_scores : Cert.Pre_finite_scores.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_scores.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_scores [hPre_finite_scores : Cert.Pre_finite_scores.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_scores.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Kernel4Ideal_pre_finite_scores [hKernel4Ideal : Cert.Kernel4Ideal.Facts] [hPre_finite_scores : Cert.Pre_finite_scores.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_scores m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Reference4Ideal_pre_finite_scores [hReference4Ideal : Cert.Reference4Ideal.Facts] [hPre_finite_scores : Cert.Pre_finite_scores.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_scores m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v341) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v34) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v20)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v20) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v87) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal_pre_finite_scores [hKernel4Ideal : Cert.Kernel4Ideal.Facts] [hReference4Ideal : Cert.Reference4Ideal.Facts] [hPre_finite_scores : Cert.Pre_finite_scores.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_scores m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v43) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_scores : Cert.Pre_finite_scores.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite_scores (hKernel4Ideal := hKernel4Ideal) (hPre_finite_scores := hPre_finite_scores)
    ∧ quiescent_Reference4Ideal (hReference4Ideal := hReference4Ideal)
    ∧ quiescent_Reference4Ideal_pre_finite_scores (hReference4Ideal := hReference4Ideal) (hPre_finite_scores := hPre_finite_scores)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite_scores (hKernel4Ideal := hKernel4Ideal) (hReference4Ideal := hReference4Ideal) (hPre_finite_scores := hPre_finite_scores)
-- ==== Pre_finite_scores.lean ====
abbrev S32768x1536 : Shape := ⟨2, ![32768, 1536]⟩
abbrev S32768x5120 : Shape := ⟨2, ![32768, 5120]⟩
abbrev S16x256x1024 : Shape := ⟨3, ![16, 256, 1024]⟩
abbrev S32768x2048 : Shape := ⟨2, ![32768, 2048]⟩
abbrev S2048 : Shape := ⟨1, ![2048]⟩
abbrev S2x2048x2048 : Shape := ⟨3, ![2, 2048, 2048]⟩
abbrev S32768x512 : Shape := ⟨2, ![32768, 512]⟩
abbrev S16x256x512 : Shape := ⟨3, ![16, 256, 512]⟩
abbrev S4096x512 : Shape := ⟨2, ![4096, 512]⟩
abbrev S36864x512 : Shape := ⟨2, ![36864, 512]⟩
abbrev S_ : Shape := ⟨0, ![]⟩

class Facts : Prop where
  slices_S32768x5120_S32768x512_0_4608 : S32768x5120.Slices ![0, 4608] S32768x512
  slices_S16x256x1024_S16x256x512_0_0_0 : S16x256x1024.Slices ![0, 0, 0] S16x256x512
  shapeCasts_S16x256x512_S4096x512 : S16x256x512.ShapeCasts S4096x512
  concatenates_S32768x512_S4096x512_S36864x512_d0 : Shape.Concatenates [S32768x512, S4096x512] S36864x512 0
  bcast_S_S36864x512 : S_.BroadcastsInDim S36864x512 (![] : Fin 0 → Fin S36864x512.rank)

variable [Facts]

def fn {F : FTy → Type} [FloatOps F] (main_arg0 : FVec F S32768x1536 .bf16) (main_arg1 : FVec F S32768x5120 .bf16) (main_arg2 : FVec F S16x256x1024 .bf16) (main_arg3 : FVec F S32768x2048 .f32) (main_arg4 : FVec F S2048 .f32) (main_arg5 : FVec F S2x2048x2048 .f32) : IVec S36864x512 1 :=
  let main_v0 : FVec F S32768x512 .bf16 := (extractStridedSlice S32768x512 ![0, 4608] · slices_S32768x5120_S32768x512_0_4608) main_arg1
  let main_v1 : FVec F S16x256x512 .bf16 := (extractStridedSlice S16x256x512 ![0, 0, 0] · slices_S16x256x1024_S16x256x512_0_0_0) main_arg2
  let main_v2 : FVec F S4096x512 .bf16 := shapeCast S4096x512 main_v1 shapeCasts_S16x256x512_S4096x512
  let main_v3 : FVec F S36864x512 .bf16 := (fun a b => concatenate S36864x512 0 [⟨S32768x512, a⟩, ⟨S4096x512, b⟩] concatenates_S32768x512_S4096x512_S36864x512_d0) main_v0 main_v2
  let main_v4 : FVec F S36864x512 .bf16 := Host.absf main_v3
  let main_cst : FVec F S_ .bf16 := constant S_ .bf16 0x7F80#16
  let main_v5 : FVec F S36864x512 .bf16 := broadcastInDim S36864x512 ![] bcast_S_S36864x512 main_cst
  let main_v6 : IVec S36864x512 1 := cmpf .olt main_v4 main_v5
  main_v6
-- ==== Kernel.lean ====
abbrev S16x2048x6656 : Shape := ⟨3, ![16, 2048, 6656]⟩
abbrev S2x12 : Shape := ⟨2, ![2, 12]⟩
abbrev S12x2 : Shape := ⟨2, ![12, 2]⟩
abbrev S12x2x1 : Shape := ⟨3, ![12, 2, 1]⟩
abbrev S12x2x128 : Shape := ⟨3, ![12, 2, 128]⟩
abbrev S16x2048x1536 : Shape := ⟨3, ![16, 2048, 1536]⟩
abbrev S1x2x128 : Shape := ⟨3, ![1, 2, 128]⟩
abbrev S4x2048x128 : Shape := ⟨3, ![4, 2048, 128]⟩
abbrev S64x128x128 : Shape := ⟨3, ![64, 128, 128]⟩
abbrev S2x128 : Shape := ⟨2, ![2, 128]⟩
abbrev S1x128 : Shape := ⟨2, ![1, 128]⟩
abbrev S128x128 : Shape := ⟨2, ![128, 128]⟩
abbrev S1x2048x128 : Shape := ⟨3, ![1, 2048, 128]⟩
abbrev S2048x128 : Shape := ⟨2, ![2048, 128]⟩
abbrev S1x128x128 : Shape := ⟨3, ![1, 128, 128]⟩
abbrev S256x128 : Shape := ⟨2, ![256, 128]⟩
abbrev S128x384 : Shape := ⟨2, ![128, 384]⟩
abbrev S384x128 : Shape := ⟨2, ![384, 128]⟩
abbrev S128 : Shape := ⟨1, ![128]⟩
abbrev S128x1 : Shape := ⟨2, ![128, 1]⟩

abbrev nBuf : Space → Nat
  | .hbm => 6
  | .vmem => 15
  | .smem => 0
  | _ => 0

abbrev bufTy : (tb : Table) → Fin (tcTables nBuf tb) → BufTy
  | .hbm, ⟨0, _⟩ => ⟨S16x2048x6656, .bf16⟩
  | .hbm, ⟨1, _⟩ => ⟨S2x12, .f32⟩
  | .hbm, ⟨2, _⟩ => ⟨S12x2, .f32⟩
  | .hbm, ⟨3, _⟩ => ⟨S12x2x1, .f32⟩
  | .hbm, ⟨4, _⟩ => ⟨S12x2x128, .f32⟩
  | .hbm, ⟨5, _⟩ => ⟨S16x2048x1536, .bf16⟩
  | .local _ .vmem, ⟨0, _⟩ => ⟨S1x2x128, .f32⟩
  | .local _ .vmem, ⟨1, _⟩ => ⟨S1x2x128, .f32⟩
  | .local _ .vmem, ⟨2, _⟩ => ⟨S4x2048x128, .bf16⟩
  | .local _ .vmem, ⟨3, _⟩ => ⟨S4x2048x128, .bf16⟩
  | .local _ .vmem, ⟨4, _⟩ => ⟨S4x2048x128, .bf16⟩
  | .local _ .vmem, ⟨5, _⟩ => ⟨S4x2048x128, .bf16⟩
  | .local _ .vmem, ⟨6, _⟩ => ⟨S4x2048x128, .bf16⟩
  | .local _ .vmem, ⟨7, _⟩ => ⟨S4x2048x128, .bf16⟩
  | .local _ .vmem, ⟨8, _⟩ => ⟨S4x2048x128, .bf16⟩
  | .local _ .vmem, ⟨9, _⟩ => ⟨S4x2048x128, .bf16⟩
  | .local _ .vmem, ⟨10, _⟩ => ⟨S4x2048x128, .bf16⟩
  | .local _ .vmem, ⟨11, _⟩ => ⟨S4x2048x128, .bf16⟩
  | .local _ .vmem, ⟨12, _⟩ => ⟨S64x128x128, .f32⟩
  | .local _ .vmem, ⟨13, _⟩ => ⟨S64x128x128, .bf16⟩
  | .local _ .vmem, ⟨14, _⟩ => ⟨S64x128x128, .bf16⟩
  | _, _ => ⟨S16x2048x6656, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 12], ![false, false]⟩

def k0_mult1 : BitVec 32 :=
  let c0_i32_12 : BitVec 32 := 0#32
  let c16_i32 : BitVec 32 := 16#32
  let v56 : BitVec 32 := Scalar.muli c0_i32_12 c16_i32
  let c0_i32_13 : BitVec 32 := 0#32
  let v57 : BitVec 32 := Scalar.addi v56 c0_i32_13
  let c128_i32 : BitVec 32 := 128#32
  let v88 : BitVec 32 := Scalar.muli v57 c128_i32
  v88
def k0_mult2 : BitVec 32 :=
  let c0_i32_12 : BitVec 32 := 0#32
  let c16_i32_14 : BitVec 32 := 16#32
  let v58 : BitVec 32 := Scalar.muli c0_i32_12 c16_i32_14
  let c1_i32 : BitVec 32 := 1#32
  let v59 : BitVec 32 := Scalar.addi v58 c1_i32
  let c128_i32_29 : BitVec 32 := 128#32
  let v90 : BitVec 32 := Scalar.muli v59 c128_i32_29
  v90
def k0_mult3 : BitVec 32 :=
  let c0_i32_12 : BitVec 32 := 0#32
  let c16_i32_15 : BitVec 32 := 16#32
  let v60 : BitVec 32 := Scalar.muli c0_i32_12 c16_i32_15
  let c2_i32 : BitVec 32 := 2#32
  let v61 : BitVec 32 := Scalar.addi v60 c2_i32
  let c128_i32_30 : BitVec 32 := 128#32
  let v92 : BitVec 32 := Scalar.muli v61 c128_i32_30
  v92
def k0_mult4 : BitVec 32 :=
  let c0_i32_12 : BitVec 32 := 0#32
  let c16_i32_16 : BitVec 32 := 16#32
  let v62 : BitVec 32 := Scalar.muli c0_i32_12 c16_i32_16
  let c3_i32 : BitVec 32 := 3#32
  let v63 : BitVec 32 := Scalar.addi v62 c3_i32
  let c128_i32_31 : BitVec 32 := 128#32
  let v94 : BitVec 32 := Scalar.muli v63 c128_i32_31
  v94
def k0_mult5 : BitVec 32 :=
  let c0_i32_12 : BitVec 32 := 0#32
  let c16_i32_17 : BitVec 32 := 16#32
  let v64 : BitVec 32 := Scalar.muli c0_i32_12 c16_i32_17
  let c4_i32 : BitVec 32 := 4#32
  let v65 : BitVec 32 := Scalar.addi v64 c4_i32
  let c128_i32_32 : BitVec 32 := 128#32
  let v96 : BitVec 32 := Scalar.muli v65 c128_i32_32
  v96
def k0_mult6 : BitVec 32 :=
  let c0_i32_12 : BitVec 32 := 0#32
  let c16_i32_18 : BitVec 32 := 16#32
  let v66 : BitVec 32 := Scalar.muli c0_i32_12 c16_i32_18
  let c5_i32 : BitVec 32 := 5#32
  let v67 : BitVec 32 := Scalar.addi v66 c5_i32
  let c128_i32_33 : BitVec 32 := 128#32
  let v98 : BitVec 32 := Scalar.muli v67 c128_i32_33
  v98
def k0_mult7 : BitVec 32 :=
  let c0_i32_12 : BitVec 32 := 0#32
  let c16_i32_19 : BitVec 32 := 16#32
  let v68 : BitVec 32 := Scalar.muli c0_i32_12 c16_i32_19
  let c6_i32 : BitVec 32 := 6#32
  let v69 : BitVec 32 := Scalar.addi v68 c6_i32
  let c128_i32_34 : BitVec 32 := 128#32
  let v100 : BitVec 32 := Scalar.muli v69 c128_i32_34
  v100
def k0_mult8 : BitVec 32 :=
  let c0_i32_12 : BitVec 32 := 0#32
  let c16_i32_20 : BitVec 32 := 16#32
  let v70 : BitVec 32 := Scalar.muli c0_i32_12 c16_i32_20
  let c7_i32 : BitVec 32 := 7#32
  let v71 : BitVec 32 := Scalar.addi v70 c7_i32
  let c128_i32_35 : BitVec 32 := 128#32
  let v102 : BitVec 32 := Scalar.muli v71 c128_i32_35
  v102
def k0_mult9 : BitVec 32 :=
  let c0_i32_12 : BitVec 32 := 0#32
  let c16_i32_21 : BitVec 32 := 16#32
  let v72 : BitVec 32 := Scalar.muli c0_i32_12 c16_i32_21
  let c8_i32 : BitVec 32 := 8#32
  let v73 : BitVec 32 := Scalar.addi v72 c8_i32
  let c128_i32_36 : BitVec 32 := 128#32
  let v104 : BitVec 32 := Scalar.muli v73 c128_i32_36
  v104
def k0_mult10 : BitVec 32 :=
  let c0_i32_12 : BitVec 32 := 0#32
  let c16_i32_22 : BitVec 32 := 16#32
  let v74 : BitVec 32 := Scalar.muli c0_i32_12 c16_i32_22
  let c9_i32 : BitVec 32 := 9#32
  let v75 : BitVec 32 := Scalar.addi v74 c9_i32
  let c128_i32_37 : BitVec 32 := 128#32
  let v106 : BitVec 32 := Scalar.muli v75 c128_i32_37
  v106
def k0_mult11 : BitVec 32 :=
  let c0_i32_12 : BitVec 32 := 0#32
  let c16_i32_23 : BitVec 32 := 16#32
  let v76 : BitVec 32 := Scalar.muli c0_i32_12 c16_i32_23
  let c10_i32 : BitVec 32 := 10#32
  let v77 : BitVec 32 := Scalar.addi v76 c10_i32
  let c128_i32_38 : BitVec 32 := 128#32
  let v108 : BitVec 32 := Scalar.muli v77 c128_i32_38
  v108
def k0_mult12 : BitVec 32 :=
  let c0_i32_12 : BitVec 32 := 0#32
  let c16_i32_24 : BitVec 32 := 16#32
  let v78 : BitVec 32 := Scalar.muli c0_i32_12 c16_i32_24
  let c11_i32 : BitVec 32 := 11#32
  let v79 : BitVec 32 := Scalar.addi v78 c11_i32
  let c128_i32_39 : BitVec 32 := 128#32
  let v110 : BitVec 32 := Scalar.muli v79 c128_i32_39
  v110
def k0_mult13 : BitVec 32 :=
  let c0_i32_12 : BitVec 32 := 0#32
  let c16_i32_25 : BitVec 32 := 16#32
  let v80 : BitVec 32 := Scalar.muli c0_i32_12 c16_i32_25
  let c12_i32 : BitVec 32 := 12#32
  let v81 : BitVec 32 := Scalar.addi v80 c12_i32
  let c128_i32_40 : BitVec 32 := 128#32
  let v112 : BitVec 32 := Scalar.muli v81 c128_i32_40
  v112
def k0_mult14 : BitVec 32 :=
  let c0_i32_12 : BitVec 32 := 0#32
  let c16_i32_26 : BitVec 32 := 16#32
  let v82 : BitVec 32 := Scalar.muli c0_i32_12 c16_i32_26
  let c13_i32 : BitVec 32 := 13#32
  let v83 : BitVec 32 := Scalar.addi v82 c13_i32
  let c128_i32_41 : BitVec 32 := 128#32
  let v114 : BitVec 32 := Scalar.muli v83 c128_i32_41
  v114
def k0_mult15 : BitVec 32 :=
  let c0_i32_12 : BitVec 32 := 0#32
  let c16_i32_27 : BitVec 32 := 16#32
  let v84 : BitVec 32 := Scalar.muli c0_i32_12 c16_i32_27
  let c14_i32 : BitVec 32 := 14#32
  let v85 : BitVec 32 := Scalar.addi v84 c14_i32
  let c128_i32_42 : BitVec 32 := 128#32
  let v116 : BitVec 32 := Scalar.muli v85 c128_i32_42
  v116
def k0_mult16 : BitVec 32 :=
  let c0_i32_12 : BitVec 32 := 0#32
  let c16_i32_28 : BitVec 32 := 16#32
  let v86 : BitVec 32 := Scalar.muli c0_i32_12 c16_i32_28
  let c15_i32 : BitVec 32 := 15#32
  let v87 : BitVec 32 := Scalar.addi v86 c15_i32
  let c128_i32_43 : BitVec 32 := 128#32
  let v118 : BitVec 32 := Scalar.muli v87 c128_i32_43
  v118
def k0_off1 (c0_i32_13 : BitVec 32) : Fin 2 → Nat :=
  let c0_i32_12 : BitVec 32 := 0#32
  let c16_i32 : BitVec 32 := 16#32
  let v56 : BitVec 32 := Scalar.muli c0_i32_12 c16_i32
  let v57 : BitVec 32 := Scalar.addi v56 c0_i32_13
  let c128_i32 : BitVec 32 := 128#32
  let v88 : BitVec 32 := Scalar.muli v57 c128_i32
  let v89 : BitVec 32 := v88
  let v122 : Index := Scalar.indexCast v89
  let c0_46 : Index := 0#32
  ![v122.toNat, 0]
def k0_off2 (c0_i32_47 : BitVec 32) (c0_i32_13 : BitVec 32) : Fin 3 → Nat :=
  let c0_i32_12 : BitVec 32 := 0#32
  let c16_i32 : BitVec 32 := 16#32
  let v56 : BitVec 32 := Scalar.muli c0_i32_12 c16_i32
  let v57 : BitVec 32 := Scalar.addi v56 c0_i32_13
  let v125 : BitVec 32 := Scalar.addi c0_i32_47 v57
  let v126 : Index := Scalar.indexCast v125
  let c0_48 : Index := 0#32
  let c0_49 : Index := 0#32
  ![v126.toNat, 0, 0]
def k0_mult17 : BitVec 32 :=
  let c0_i32_306 : BitVec 32 := 0#32
  let c0_i32_305 : BitVec 32 := 0#32
  let v696 : BitVec 32 := Scalar.subi c0_i32_306 c0_i32_305
  let c16_i32_307 : BitVec 32 := 16#32
  let v697 : BitVec 32 := Scalar.muli v696 c16_i32_307
  let c0_i32_308 : BitVec 32 := 0#32
  let v698 : BitVec 32 := Scalar.addi v697 c0_i32_308
  let c128_i32_339 : BitVec 32 := 128#32
  let v729 : BitVec 32 := Scalar.muli v698 c128_i32_339
  v729
def k0_mult18 : BitVec 32 :=
  let c0_i32_306 : BitVec 32 := 0#32
  let c0_i32_305 : BitVec 32 := 0#32
  let v696 : BitVec 32 := Scalar.subi c0_i32_306 c0_i32_305
  let c16_i32_309 : BitVec 32 := 16#32
  let v699 : BitVec 32 := Scalar.muli v696 c16_i32_309
  let c1_i32_310 : BitVec 32 := 1#32
  let v700 : BitVec 32 := Scalar.addi v699 c1_i32_310
  let c128_i32_340 : BitVec 32 := 128#32
  let v731 : BitVec 32 := Scalar.muli v700 c128_i32_340
  v731
def k0_mult19 : BitVec 32 :=
  let c0_i32_306 : BitVec 32 := 0#32
  let c0_i32_305 : BitVec 32 := 0#32
  let v696 : BitVec 32 := Scalar.subi c0_i32_306 c0_i32_305
  let c16_i32_311 : BitVec 32 := 16#32
  let v701 : BitVec 32 := Scalar.muli v696 c16_i32_311
  let c2_i32_312 : BitVec 32 := 2#32
  let v702 : BitVec 32 := Scalar.addi v701 c2_i32_312
  let c128_i32_341 : BitVec 32 := 128#32
  let v733 : BitVec 32 := Scalar.muli v702 c128_i32_341
  v733
def k0_mult20 : BitVec 32 :=
  let c0_i32_306 : BitVec 32 := 0#32
  let c0_i32_305 : BitVec 32 := 0#32
  let v696 : BitVec 32 := Scalar.subi c0_i32_306 c0_i32_305
  let c16_i32_313 : BitVec 32 := 16#32
  let v703 : BitVec 32 := Scalar.muli v696 c16_i32_313
  let c3_i32_314 : BitVec 32 := 3#32
  let v704 : BitVec 32 := Scalar.addi v703 c3_i32_314
  let c128_i32_342 : BitVec 32 := 128#32
  let v735 : BitVec 32 := Scalar.muli v704 c128_i32_342
  v735
def k0_mult21 : BitVec 32 :=
  let c0_i32_306 : BitVec 32 := 0#32
  let c0_i32_305 : BitVec 32 := 0#32
  let v696 : BitVec 32 := Scalar.subi c0_i32_306 c0_i32_305
  let c16_i32_315 : BitVec 32 := 16#32
  let v705 : BitVec 32 := Scalar.muli v696 c16_i32_315
  let c4_i32_316 : BitVec 32 := 4#32
  let v706 : BitVec 32 := Scalar.addi v705 c4_i32_316
  let c128_i32_343 : BitVec 32 := 128#32
  let v737 : BitVec 32 := Scalar.muli v706 c128_i32_343
  v737
def k0_mult22 : BitVec 32 :=
  let c0_i32_306 : BitVec 32 := 0#32
  let c0_i32_305 : BitVec 32 := 0#32
  let v696 : BitVec 32 := Scalar.subi c0_i32_306 c0_i32_305
  let c16_i32_317 : BitVec 32 := 16#32
  let v707 : BitVec 32 := Scalar.muli v696 c16_i32_317
  let c5_i32_318 : BitVec 32 := 5#32
  let v708 : BitVec 32 := Scalar.addi v707 c5_i32_318
  let c128_i32_344 : BitVec 32 := 128#32
  let v739 : BitVec 32 := Scalar.muli v708 c128_i32_344
  v739
def k0_mult23 : BitVec 32 :=
  let c0_i32_306 : BitVec 32 := 0#32
  let c0_i32_305 : BitVec 32 := 0#32
  let v696 : BitVec 32 := Scalar.subi c0_i32_306 c0_i32_305
  let c16_i32_319 : BitVec 32 := 16#32
  let v709 : BitVec 32 := Scalar.muli v696 c16_i32_319
  let c6_i32_320 : BitVec 32 := 6#32
  let v710 : BitVec 32 := Scalar.addi v709 c6_i32_320
  let c128_i32_345 : BitVec 32 := 128#32
  let v741 : BitVec 32 := Scalar.muli v710 c128_i32_345
  v741
def k0_mult24 : BitVec 32 :=
  let c0_i32_306 : BitVec 32 := 0#32
  let c0_i32_305 : BitVec 32 := 0#32
  let v696 : BitVec 32 := Scalar.subi c0_i32_306 c0_i32_305
  let c16_i32_321 : BitVec 32 := 16#32
  let v711 : BitVec 32 := Scalar.muli v696 c16_i32_321
  let c7_i32_322 : BitVec 32 := 7#32
  let v712 : BitVec 32 := Scalar.addi v711 c7_i32_322
  let c128_i32_346 : BitVec 32 := 128#32
  let v743 : BitVec 32 := Scalar.muli v712 c128_i32_346
  v743
def k0_mult25 : BitVec 32 :=
  let c0_i32_306 : BitVec 32 := 0#32
  let c0_i32_305 : BitVec 32 := 0#32
  let v696 : BitVec 32 := Scalar.subi c0_i32_306 c0_i32_305
  let c16_i32_323 : BitVec 32 := 16#32
  let v713 : BitVec 32 := Scalar.muli v696 c16_i32_323
  let c8_i32_324 : BitVec 32 := 8#32
  let v714 : BitVec 32 := Scalar.addi v713 c8_i32_324
  let c128_i32_347 : BitVec 32 := 128#32
  let v745 : BitVec 32 := Scalar.muli v714 c128_i32_347
  v745
def k0_mult26 : BitVec 32 :=
  let c0_i32_306 : BitVec 32 := 0#32
  let c0_i32_305 : BitVec 32 := 0#32
  let v696 : BitVec 32 := Scalar.subi c0_i32_306 c0_i32_305
  let c16_i32_325 : BitVec 32 := 16#32
  let v715 : BitVec 32 := Scalar.muli v696 c16_i32_325
  let c9_i32_326 : BitVec 32 := 9#32
  let v716 : BitVec 32 := Scalar.addi v715 c9_i32_326
  let c128_i32_348 : BitVec 32 := 128#32
  let v747 : BitVec 32 := Scalar.muli v716 c128_i32_348
  v747
def k0_mult27 : BitVec 32 :=
  let c0_i32_306 : BitVec 32 := 0#32
  let c0_i32_305 : BitVec 32 := 0#32
  let v696 : BitVec 32 := Scalar.subi c0_i32_306 c0_i32_305
  let c16_i32_327 : BitVec 32 := 16#32
  let v717 : BitVec 32 := Scalar.muli v696 c16_i32_327
  let c10_i32_328 : BitVec 32 := 10#32
  let v718 : BitVec 32 := Scalar.addi v717 c10_i32_328
  let c128_i32_349 : BitVec 32 := 128#32
  let v749 : BitVec 32 := Scalar.muli v718 c128_i32_349
  v749
def k0_mult28 : BitVec 32 :=
  let c0_i32_306 : BitVec 32 := 0#32
  let c0_i32_305 : BitVec 32 := 0#32
  let v696 : BitVec 32 := Scalar.subi c0_i32_306 c0_i32_305
  let c16_i32_329 : BitVec 32 := 16#32
  let v719 : BitVec 32 := Scalar.muli v696 c16_i32_329
  let c11_i32_330 : BitVec 32 := 11#32
  let v720 : BitVec 32 := Scalar.addi v719 c11_i32_330
  let c128_i32_350 : BitVec 32 := 128#32
  let v751 : BitVec 32 := Scalar.muli v720 c128_i32_350
  v751
def k0_mult29 : BitVec 32 :=
  let c0_i32_306 : BitVec 32 := 0#32
  let c0_i32_305 : BitVec 32 := 0#32
  let v696 : BitVec 32 := Scalar.subi c0_i32_306 c0_i32_305
  let c16_i32_331 : BitVec 32 := 16#32
  let v721 : BitVec 32 := Scalar.muli v696 c16_i32_331
  let c12_i32_332 : BitVec 32 := 12#32
  let v722 : BitVec 32 := Scalar.addi v721 c12_i32_332
  let c128_i32_351 : BitVec 32 := 128#32
  let v753 : BitVec 32 := Scalar.muli v722 c128_i32_351
  v753
def k0_mult30 : BitVec 32 :=
  let c0_i32_306 : BitVec 32 := 0#32
  let c0_i32_305 : BitVec 32 := 0#32
  let v696 : BitVec 32 := Scalar.subi c0_i32_306 c0_i32_305
  let c16_i32_333 : BitVec 32 := 16#32
  let v723 : BitVec 32 := Scalar.muli v696 c16_i32_333
  let c13_i32_334 : BitVec 32 := 13#32
  let v724 : BitVec 32 := Scalar.addi v723 c13_i32_334
  let c128_i32_352 : BitVec 32 := 128#32
  let v755 : BitVec 32 := Scalar.muli v724 c128_i32_352
  v755
def k0_mult31 : BitVec 32 :=
  let c0_i32_306 : BitVec 32 := 0#32
  let c0_i32_305 : BitVec 32 := 0#32
  let v696 : BitVec 32 := Scalar.subi c0_i32_306 c0_i32_305
  let c16_i32_335 : BitVec 32 := 16#32
  let v725 : BitVec 32 := Scalar.muli v696 c16_i32_335
  let c14_i32_336 : BitVec 32 := 14#32
  let v726 : BitVec 32 := Scalar.addi v725 c14_i32_336
  let c128_i32_353 : BitVec 32 := 128#32
  let v757 : BitVec 32 := Scalar.muli v726 c128_i32_353
  v757
def k0_mult32 : BitVec 32 :=
  let c0_i32_306 : BitVec 32 := 0#32
  let c0_i32_305 : BitVec 32 := 0#32
  let v696 : BitVec 32 := Scalar.subi c0_i32_306 c0_i32_305
  let c16_i32_337 : BitVec 32 := 16#32
  let v727 : BitVec 32 := Scalar.muli v696 c16_i32_337
  let c15_i32_338 : BitVec 32 := 15#32
  let v728 : BitVec 32 := Scalar.addi v727 c15_i32_338
  let c128_i32_354 : BitVec 32 := 128#32
  let v759 : BitVec 32 := Scalar.muli v728 c128_i32_354
  v759
def k0_off3 (c0_i32_308 : BitVec 32) : Fin 2 → Nat :=
  let c0_i32_306 : BitVec 32 := 0#32
  let c0_i32_305 : BitVec 32 := 0#32
  let v696 : BitVec 32 := Scalar.subi c0_i32_306 c0_i32_305
  let c16_i32_307 : BitVec 32 := 16#32
  let v697 : BitVec 32 := Scalar.muli v696 c16_i32_307
  let v698 : BitVec 32 := Scalar.addi v697 c0_i32_308
  let c128_i32_339 : BitVec 32 := 128#32
  let v729 : BitVec 32 := Scalar.muli v698 c128_i32_339
  let v730 : BitVec 32 := v729
  let v763 : Index := Scalar.indexCast v730
  let c0_357 : Index := 0#32
  ![v763.toNat, 0]
def k0_off4 (c0_i32_358 : BitVec 32) (c0_i32_308 : BitVec 32) : Fin 3 → Nat :=
  let c0_i32_306 : BitVec 32 := 0#32
  let c0_i32_305 : BitVec 32 := 0#32
  let v696 : BitVec 32 := Scalar.subi c0_i32_306 c0_i32_305
  let c16_i32_307 : BitVec 32 := 16#32
  let v697 : BitVec 32 := Scalar.muli v696 c16_i32_307
  let v698 : BitVec 32 := Scalar.addi v697 c0_i32_308
  let v765 : BitVec 32 := Scalar.addi c0_i32_358 v698
  let v766 : Index := Scalar.indexCast v765
  let c0_359 : Index := 0#32
  let c0_360 : Index := 0#32
  ![v766.toNat, 0, 0]
def k0_off5 (c0_i32_308 : BitVec 32) : Fin 3 → Nat :=
  let c0_i32_304 : BitVec 32 := 0#32
  let c0_i32_306 : BitVec 32 := 0#32
  let c0_i32_305 : BitVec 32 := 0#32
  let v696 : BitVec 32 := Scalar.subi c0_i32_306 c0_i32_305
  let c16_i32_307 : BitVec 32 := 16#32
  let v697 : BitVec 32 := Scalar.muli v696 c16_i32_307
  let v698 : BitVec 32 := Scalar.addi v697 c0_i32_308
  let c128_i32_339 : BitVec 32 := 128#32
  let v729 : BitVec 32 := Scalar.muli v698 c128_i32_339
  let v730 : BitVec 32 := v729
  let v1356 : Index := Scalar.indexCast v730
  let c0_i32_682 : BitVec 32 := 0#32
  ![0, v1356.toNat, 0]
def k0_mult33 : BitVec 32 :=
  let c0_i32_822 : BitVec 32 := 0#32
  let c16_i32_823 : BitVec 32 := 16#32
  let v1673 : BitVec 32 := Scalar.muli c0_i32_822 c16_i32_823
  let c0_i32_824 : BitVec 32 := 0#32
  let v1674 : BitVec 32 := Scalar.addi v1673 c0_i32_824
  let c128_i32_855 : BitVec 32 := 128#32
  let v1705 : BitVec 32 := Scalar.muli v1674 c128_i32_855
  v1705
def k0_mult34 : BitVec 32 :=
  let c0_i32_822 : BitVec 32 := 0#32
  let c16_i32_825 : BitVec 32 := 16#32
  let v1675 : BitVec 32 := Scalar.muli c0_i32_822 c16_i32_825
  let c1_i32_826 : BitVec 32 := 1#32
  let v1676 : BitVec 32 := Scalar.addi v1675 c1_i32_826
  let c128_i32_856 : BitVec 32 := 128#32
  let v1707 : BitVec 32 := Scalar.muli v1676 c128_i32_856
  v1707
def k0_mult35 : BitVec 32 :=
  let c0_i32_822 : BitVec 32 := 0#32
  let c16_i32_827 : BitVec 32 := 16#32
  let v1677 : BitVec 32 := Scalar.muli c0_i32_822 c16_i32_827
  let c2_i32_828 : BitVec 32 := 2#32
  let v1678 : BitVec 32 := Scalar.addi v1677 c2_i32_828
  let c128_i32_857 : BitVec 32 := 128#32
  let v1709 : BitVec 32 := Scalar.muli v1678 c128_i32_857
  v1709
def k0_mult36 : BitVec 32 :=
  let c0_i32_822 : BitVec 32 := 0#32
  let c16_i32_829 : BitVec 32 := 16#32
  let v1679 : BitVec 32 := Scalar.muli c0_i32_822 c16_i32_829
  let c3_i32_830 : BitVec 32 := 3#32
  let v1680 : BitVec 32 := Scalar.addi v1679 c3_i32_830
  let c128_i32_858 : BitVec 32 := 128#32
  let v1711 : BitVec 32 := Scalar.muli v1680 c128_i32_858
  v1711
def k0_mult37 : BitVec 32 :=
  let c0_i32_822 : BitVec 32 := 0#32
  let c16_i32_831 : BitVec 32 := 16#32
  let v1681 : BitVec 32 := Scalar.muli c0_i32_822 c16_i32_831
  let c4_i32_832 : BitVec 32 := 4#32
  let v1682 : BitVec 32 := Scalar.addi v1681 c4_i32_832
  let c128_i32_859 : BitVec 32 := 128#32
  let v1713 : BitVec 32 := Scalar.muli v1682 c128_i32_859
  v1713
def k0_mult38 : BitVec 32 :=
  let c0_i32_822 : BitVec 32 := 0#32
  let c16_i32_833 : BitVec 32 := 16#32
  let v1683 : BitVec 32 := Scalar.muli c0_i32_822 c16_i32_833
  let c5_i32_834 : BitVec 32 := 5#32
  let v1684 : BitVec 32 := Scalar.addi v1683 c5_i32_834
  let c128_i32_860 : BitVec 32 := 128#32
  let v1715 : BitVec 32 := Scalar.muli v1684 c128_i32_860
  v1715
def k0_mult39 : BitVec 32 :=
  let c0_i32_822 : BitVec 32 := 0#32
  let c16_i32_835 : BitVec 32 := 16#32
  let v1685 : BitVec 32 := Scalar.muli c0_i32_822 c16_i32_835
  let c6_i32_836 : BitVec 32 := 6#32
  let v1686 : BitVec 32 := Scalar.addi v1685 c6_i32_836
  let c128_i32_861 : BitVec 32 := 128#32
  let v1717 : BitVec 32 := Scalar.muli v1686 c128_i32_861
  v1717
def k0_mult40 : BitVec 32 :=
  let c0_i32_822 : BitVec 32 := 0#32
  let c16_i32_837 : BitVec 32 := 16#32
  let v1687 : BitVec 32 := Scalar.muli c0_i32_822 c16_i32_837
  let c7_i32_838 : BitVec 32 := 7#32
  let v1688 : BitVec 32 := Scalar.addi v1687 c7_i32_838
  let c128_i32_862 : BitVec 32 := 128#32
  let v1719 : BitVec 32 := Scalar.muli v1688 c128_i32_862
  v1719
def k0_mult41 : BitVec 32 :=
  let c0_i32_822 : BitVec 32 := 0#32
  let c16_i32_839 : BitVec 32 := 16#32
  let v1689 : BitVec 32 := Scalar.muli c0_i32_822 c16_i32_839
  let c8_i32_840 : BitVec 32 := 8#32
  let v1690 : BitVec 32 := Scalar.addi v1689 c8_i32_840
  let c128_i32_863 : BitVec 32 := 128#32
  let v1721 : BitVec 32 := Scalar.muli v1690 c128_i32_863
  v1721
def k0_mult42 : BitVec 32 :=
  let c0_i32_822 : BitVec 32 := 0#32
  let c16_i32_841 : BitVec 32 := 16#32
  let v1691 : BitVec 32 := Scalar.muli c0_i32_822 c16_i32_841
  let c9_i32_842 : BitVec 32 := 9#32
  let v1692 : BitVec 32 := Scalar.addi v1691 c9_i32_842
  let c128_i32_864 : BitVec 32 := 128#32
  let v1723 : BitVec 32 := Scalar.muli v1692 c128_i32_864
  v1723
def k0_mult43 : BitVec 32 :=
  let c0_i32_822 : BitVec 32 := 0#32
  let c16_i32_843 : BitVec 32 := 16#32
  let v1693 : BitVec 32 := Scalar.muli c0_i32_822 c16_i32_843
  let c10_i32_844 : BitVec 32 := 10#32
  let v1694 : BitVec 32 := Scalar.addi v1693 c10_i32_844
  let c128_i32_865 : BitVec 32 := 128#32
  let v1725 : BitVec 32 := Scalar.muli v1694 c128_i32_865
  v1725
def k0_mult44 : BitVec 32 :=
  let c0_i32_822 : BitVec 32 := 0#32
  let c16_i32_845 : BitVec 32 := 16#32
  let v1695 : BitVec 32 := Scalar.muli c0_i32_822 c16_i32_845
  let c11_i32_846 : BitVec 32 := 11#32
  let v1696 : BitVec 32 := Scalar.addi v1695 c11_i32_846
  let c128_i32_866 : BitVec 32 := 128#32
  let v1727 : BitVec 32 := Scalar.muli v1696 c128_i32_866
  v1727
def k0_mult45 : BitVec 32 :=
  let c0_i32_822 : BitVec 32 := 0#32
  let c16_i32_847 : BitVec 32 := 16#32
  let v1697 : BitVec 32 := Scalar.muli c0_i32_822 c16_i32_847
  let c12_i32_848 : BitVec 32 := 12#32
  let v1698 : BitVec 32 := Scalar.addi v1697 c12_i32_848
  let c128_i32_867 : BitVec 32 := 128#32
  let v1729 : BitVec 32 := Scalar.muli v1698 c128_i32_867
  v1729
def k0_mult46 : BitVec 32 :=
  let c0_i32_822 : BitVec 32 := 0#32
  let c16_i32_849 : BitVec 32 := 16#32
  let v1699 : BitVec 32 := Scalar.muli c0_i32_822 c16_i32_849
  let c13_i32_850 : BitVec 32 := 13#32
  let v1700 : BitVec 32 := Scalar.addi v1699 c13_i32_850
  let c128_i32_868 : BitVec 32 := 128#32
  let v1731 : BitVec 32 := Scalar.muli v1700 c128_i32_868
  v1731
def k0_mult47 : BitVec 32 :=
  let c0_i32_822 : BitVec 32 := 0#32
  let c16_i32_851 : BitVec 32 := 16#32
  let v1701 : BitVec 32 := Scalar.muli c0_i32_822 c16_i32_851
  let c14_i32_852 : BitVec 32 := 14#32
  let v1702 : BitVec 32 := Scalar.addi v1701 c14_i32_852
  let c128_i32_869 : BitVec 32 := 128#32
  let v1733 : BitVec 32 := Scalar.muli v1702 c128_i32_869
  v1733
def k0_mult48 : BitVec 32 :=
  let c0_i32_822 : BitVec 32 := 0#32
  let c16_i32_853 : BitVec 32 := 16#32
  let v1703 : BitVec 32 := Scalar.muli c0_i32_822 c16_i32_853
  let c15_i32_854 : BitVec 32 := 15#32
  let v1704 : BitVec 32 := Scalar.addi v1703 c15_i32_854
  let c128_i32_870 : BitVec 32 := 128#32
  let v1735 : BitVec 32 := Scalar.muli v1704 c128_i32_870
  v1735
def k0_mult49 : BitVec 32 :=
  let c0_i32_1133 : BitVec 32 := 0#32
  let c0_i32_1132 : BitVec 32 := 0#32
  let v2313 : BitVec 32 := Scalar.subi c0_i32_1133 c0_i32_1132
  let c16_i32_1134 : BitVec 32 := 16#32
  let v2314 : BitVec 32 := Scalar.muli v2313 c16_i32_1134
  let c0_i32_1135 : BitVec 32 := 0#32
  let v2315 : BitVec 32 := Scalar.addi v2314 c0_i32_1135
  let c128_i32_1166 : BitVec 32 := 128#32
  let v2346 : BitVec 32 := Scalar.muli v2315 c128_i32_1166
  v2346
def k0_mult50 : BitVec 32 :=
  let c0_i32_1133 : BitVec 32 := 0#32
  let c0_i32_1132 : BitVec 32 := 0#32
  let v2313 : BitVec 32 := Scalar.subi c0_i32_1133 c0_i32_1132
  let c16_i32_1136 : BitVec 32 := 16#32
  let v2316 : BitVec 32 := Scalar.muli v2313 c16_i32_1136
  let c1_i32_1137 : BitVec 32 := 1#32
  let v2317 : BitVec 32 := Scalar.addi v2316 c1_i32_1137
  let c128_i32_1167 : BitVec 32 := 128#32
  let v2348 : BitVec 32 := Scalar.muli v2317 c128_i32_1167
  v2348
def k0_mult51 : BitVec 32 :=
  let c0_i32_1133 : BitVec 32 := 0#32
  let c0_i32_1132 : BitVec 32 := 0#32
  let v2313 : BitVec 32 := Scalar.subi c0_i32_1133 c0_i32_1132
  let c16_i32_1138 : BitVec 32 := 16#32
  let v2318 : BitVec 32 := Scalar.muli v2313 c16_i32_1138
  let c2_i32_1139 : BitVec 32 := 2#32
  let v2319 : BitVec 32 := Scalar.addi v2318 c2_i32_1139
  let c128_i32_1168 : BitVec 32 := 128#32
  let v2350 : BitVec 32 := Scalar.muli v2319 c128_i32_1168
  v2350
def k0_mult52 : BitVec 32 :=
  let c0_i32_1133 : BitVec 32 := 0#32
  let c0_i32_1132 : BitVec 32 := 0#32
  let v2313 : BitVec 32 := Scalar.subi c0_i32_1133 c0_i32_1132
  let c16_i32_1140 : BitVec 32 := 16#32
  let v2320 : BitVec 32 := Scalar.muli v2313 c16_i32_1140
  let c3_i32_1141 : BitVec 32 := 3#32
  let v2321 : BitVec 32 := Scalar.addi v2320 c3_i32_1141
  let c128_i32_1169 : BitVec 32 := 128#32
  let v2352 : BitVec 32 := Scalar.muli v2321 c128_i32_1169
  v2352
def k0_mult53 : BitVec 32 :=
  let c0_i32_1133 : BitVec 32 := 0#32
  let c0_i32_1132 : BitVec 32 := 0#32
  let v2313 : BitVec 32 := Scalar.subi c0_i32_1133 c0_i32_1132
  let c16_i32_1142 : BitVec 32 := 16#32
  let v2322 : BitVec 32 := Scalar.muli v2313 c16_i32_1142
  let c4_i32_1143 : BitVec 32 := 4#32
  let v2323 : BitVec 32 := Scalar.addi v2322 c4_i32_1143
  let c128_i32_1170 : BitVec 32 := 128#32
  let v2354 : BitVec 32 := Scalar.muli v2323 c128_i32_1170
  v2354
def k0_mult54 : BitVec 32 :=
  let c0_i32_1133 : BitVec 32 := 0#32
  let c0_i32_1132 : BitVec 32 := 0#32
  let v2313 : BitVec 32 := Scalar.subi c0_i32_1133 c0_i32_1132
  let c16_i32_1144 : BitVec 32 := 16#32
  let v2324 : BitVec 32 := Scalar.muli v2313 c16_i32_1144
  let c5_i32_1145 : BitVec 32 := 5#32
  let v2325 : BitVec 32 := Scalar.addi v2324 c5_i32_1145
  let c128_i32_1171 : BitVec 32 := 128#32
  let v2356 : BitVec 32 := Scalar.muli v2325 c128_i32_1171
  v2356
def k0_mult55 : BitVec 32 :=
  let c0_i32_1133 : BitVec 32 := 0#32
  let c0_i32_1132 : BitVec 32 := 0#32
  let v2313 : BitVec 32 := Scalar.subi c0_i32_1133 c0_i32_1132
  let c16_i32_1146 : BitVec 32 := 16#32
  let v2326 : BitVec 32 := Scalar.muli v2313 c16_i32_1146
  let c6_i32_1147 : BitVec 32 := 6#32
  let v2327 : BitVec 32 := Scalar.addi v2326 c6_i32_1147
  let c128_i32_1172 : BitVec 32 := 128#32
  let v2358 : BitVec 32 := Scalar.muli v2327 c128_i32_1172
  v2358
def k0_mult56 : BitVec 32 :=
  let c0_i32_1133 : BitVec 32 := 0#32
  let c0_i32_1132 : BitVec 32 := 0#32
  let v2313 : BitVec 32 := Scalar.subi c0_i32_1133 c0_i32_1132
  let c16_i32_1148 : BitVec 32 := 16#32
  let v2328 : BitVec 32 := Scalar.muli v2313 c16_i32_1148
  let c7_i32_1149 : BitVec 32 := 7#32
  let v2329 : BitVec 32 := Scalar.addi v2328 c7_i32_1149
  let c128_i32_1173 : BitVec 32 := 128#32
  let v2360 : BitVec 32 := Scalar.muli v2329 c128_i32_1173
  v2360
def k0_mult57 : BitVec 32 :=
  let c0_i32_1133 : BitVec 32 := 0#32
  let c0_i32_1132 : BitVec 32 := 0#32
  let v2313 : BitVec 32 := Scalar.subi c0_i32_1133 c0_i32_1132
  let c16_i32_1150 : BitVec 32 := 16#32
  let v2330 : BitVec 32 := Scalar.muli v2313 c16_i32_1150
  let c8_i32_1151 : BitVec 32 := 8#32
  let v2331 : BitVec 32 := Scalar.addi v2330 c8_i32_1151
  let c128_i32_1174 : BitVec 32 := 128#32
  let v2362 : BitVec 32 := Scalar.muli v2331 c128_i32_1174
  v2362
def k0_mult58 : BitVec 32 :=
  let c0_i32_1133 : BitVec 32 := 0#32
  let c0_i32_1132 : BitVec 32 := 0#32
  let v2313 : BitVec 32 := Scalar.subi c0_i32_1133 c0_i32_1132
  let c16_i32_1152 : BitVec 32 := 16#32
  let v2332 : BitVec 32 := Scalar.muli v2313 c16_i32_1152
  let c9_i32_1153 : BitVec 32 := 9#32
  let v2333 : BitVec 32 := Scalar.addi v2332 c9_i32_1153
  let c128_i32_1175 : BitVec 32 := 128#32
  let v2364 : BitVec 32 := Scalar.muli v2333 c128_i32_1175
  v2364
def k0_mult59 : BitVec 32 :=
  let c0_i32_1133 : BitVec 32 := 0#32
  let c0_i32_1132 : BitVec 32 := 0#32
  let v2313 : BitVec 32 := Scalar.subi c0_i32_1133 c0_i32_1132
  let c16_i32_1154 : BitVec 32 := 16#32
  let v2334 : BitVec 32 := Scalar.muli v2313 c16_i32_1154
  let c10_i32_1155 : BitVec 32 := 10#32
  let v2335 : BitVec 32 := Scalar.addi v2334 c10_i32_1155
  let c128_i32_1176 : BitVec 32 := 128#32
  let v2366 : BitVec 32 := Scalar.muli v2335 c128_i32_1176
  v2366
def k0_mult60 : BitVec 32 :=
  let c0_i32_1133 : BitVec 32 := 0#32
  let c0_i32_1132 : BitVec 32 := 0#32
  let v2313 : BitVec 32 := Scalar.subi c0_i32_1133 c0_i32_1132
  let c16_i32_1156 : BitVec 32 := 16#32
  let v2336 : BitVec 32 := Scalar.muli v2313 c16_i32_1156
  let c11_i32_1157 : BitVec 32 := 11#32
  let v2337 : BitVec 32 := Scalar.addi v2336 c11_i32_1157
  let c128_i32_1177 : BitVec 32 := 128#32
  let v2368 : BitVec 32 := Scalar.muli v2337 c128_i32_1177
  v2368
def k0_mult61 : BitVec 32 :=
  let c0_i32_1133 : BitVec 32 := 0#32
  let c0_i32_1132 : BitVec 32 := 0#32
  let v2313 : BitVec 32 := Scalar.subi c0_i32_1133 c0_i32_1132
  let c16_i32_1158 : BitVec 32 := 16#32
  let v2338 : BitVec 32 := Scalar.muli v2313 c16_i32_1158
  let c12_i32_1159 : BitVec 32 := 12#32
  let v2339 : BitVec 32 := Scalar.addi v2338 c12_i32_1159
  let c128_i32_1178 : BitVec 32 := 128#32
  let v2370 : BitVec 32 := Scalar.muli v2339 c128_i32_1178
  v2370
def k0_mult62 : BitVec 32 :=
  let c0_i32_1133 : BitVec 32 := 0#32
  let c0_i32_1132 : BitVec 32 := 0#32
  let v2313 : BitVec 32 := Scalar.subi c0_i32_1133 c0_i32_1132
  let c16_i32_1160 : BitVec 32 := 16#32
  let v2340 : BitVec 32 := Scalar.muli v2313 c16_i32_1160
  let c13_i32_1161 : BitVec 32 := 13#32
  let v2341 : BitVec 32 := Scalar.addi v2340 c13_i32_1161
  let c128_i32_1179 : BitVec 32 := 128#32
  let v2372 : BitVec 32 := Scalar.muli v2341 c128_i32_1179
  v2372
def k0_mult63 : BitVec 32 :=
  let c0_i32_1133 : BitVec 32 := 0#32
  let c0_i32_1132 : BitVec 32 := 0#32
  let v2313 : BitVec 32 := Scalar.subi c0_i32_1133 c0_i32_1132
  let c16_i32_1162 : BitVec 32 := 16#32
  let v2342 : BitVec 32 := Scalar.muli v2313 c16_i32_1162
  let c14_i32_1163 : BitVec 32 := 14#32
  let v2343 : BitVec 32 := Scalar.addi v2342 c14_i32_1163
  let c128_i32_1180 : BitVec 32 := 128#32
  let v2374 : BitVec 32 := Scalar.muli v2343 c128_i32_1180
  v2374
def k0_mult64 : BitVec 32 :=
  let c0_i32_1133 : BitVec 32 := 0#32
  let c0_i32_1132 : BitVec 32 := 0#32
  let v2313 : BitVec 32 := Scalar.subi c0_i32_1133 c0_i32_1132
  let c16_i32_1164 : BitVec 32 := 16#32
  let v2344 : BitVec 32 := Scalar.muli v2313 c16_i32_1164
  let c15_i32_1165 : BitVec 32 := 15#32
  let v2345 : BitVec 32 := Scalar.addi v2344 c15_i32_1165
  let c128_i32_1181 : BitVec 32 := 128#32
  let v2376 : BitVec 32 := Scalar.muli v2345 c128_i32_1181
  v2376
def k0_off6 (c0_i32_1135 : BitVec 32) : Fin 3 → Nat :=
  let c1_i32_1131 : BitVec 32 := 1#32
  let c0_i32_1133 : BitVec 32 := 0#32
  let c0_i32_1132 : BitVec 32 := 0#32
  let v2313 : BitVec 32 := Scalar.subi c0_i32_1133 c0_i32_1132
  let c16_i32_1134 : BitVec 32 := 16#32
  let v2314 : BitVec 32 := Scalar.muli v2313 c16_i32_1134
  let v2315 : BitVec 32 := Scalar.addi v2314 c0_i32_1135
  let c128_i32_1166 : BitVec 32 := 128#32
  let v2346 : BitVec 32 := Scalar.muli v2315 c128_i32_1166
  let v2347 : BitVec 32 := v2346
  let v2973 : Index := Scalar.indexCast v2347
  let c0_i32_1509 : BitVec 32 := 0#32
  ![1, v2973.toNat, 0]
def k0_mult65 : BitVec 32 :=
  let c0_i32_1649 : BitVec 32 := 0#32
  let c16_i32_1650 : BitVec 32 := 16#32
  let v3290 : BitVec 32 := Scalar.muli c0_i32_1649 c16_i32_1650
  let c0_i32_1651 : BitVec 32 := 0#32
  let v3291 : BitVec 32 := Scalar.addi v3290 c0_i32_1651
  let c128_i32_1682 : BitVec 32 := 128#32
  let v3322 : BitVec 32 := Scalar.muli v3291 c128_i32_1682
  v3322
def k0_mult66 : BitVec 32 :=
  let c0_i32_1649 : BitVec 32 := 0#32
  let c16_i32_1652 : BitVec 32 := 16#32
  let v3292 : BitVec 32 := Scalar.muli c0_i32_1649 c16_i32_1652
  let c1_i32_1653 : BitVec 32 := 1#32
  let v3293 : BitVec 32 := Scalar.addi v3292 c1_i32_1653
  let c128_i32_1683 : BitVec 32 := 128#32
  let v3324 : BitVec 32 := Scalar.muli v3293 c128_i32_1683
  v3324
def k0_mult67 : BitVec 32 :=
  let c0_i32_1649 : BitVec 32 := 0#32
  let c16_i32_1654 : BitVec 32 := 16#32
  let v3294 : BitVec 32 := Scalar.muli c0_i32_1649 c16_i32_1654
  let c2_i32_1655 : BitVec 32 := 2#32
  let v3295 : BitVec 32 := Scalar.addi v3294 c2_i32_1655
  let c128_i32_1684 : BitVec 32 := 128#32
  let v3326 : BitVec 32 := Scalar.muli v3295 c128_i32_1684
  v3326
def k0_mult68 : BitVec 32 :=
  let c0_i32_1649 : BitVec 32 := 0#32
  let c16_i32_1656 : BitVec 32 := 16#32
  let v3296 : BitVec 32 := Scalar.muli c0_i32_1649 c16_i32_1656
  let c3_i32_1657 : BitVec 32 := 3#32
  let v3297 : BitVec 32 := Scalar.addi v3296 c3_i32_1657
  let c128_i32_1685 : BitVec 32 := 128#32
  let v3328 : BitVec 32 := Scalar.muli v3297 c128_i32_1685
  v3328
def k0_mult69 : BitVec 32 :=
  let c0_i32_1649 : BitVec 32 := 0#32
  let c16_i32_1658 : BitVec 32 := 16#32
  let v3298 : BitVec 32 := Scalar.muli c0_i32_1649 c16_i32_1658
  let c4_i32_1659 : BitVec 32 := 4#32
  let v3299 : BitVec 32 := Scalar.addi v3298 c4_i32_1659
  let c128_i32_1686 : BitVec 32 := 128#32
  let v3330 : BitVec 32 := Scalar.muli v3299 c128_i32_1686
  v3330
def k0_mult70 : BitVec 32 :=
  let c0_i32_1649 : BitVec 32 := 0#32
  let c16_i32_1660 : BitVec 32 := 16#32
  let v3300 : BitVec 32 := Scalar.muli c0_i32_1649 c16_i32_1660
  let c5_i32_1661 : BitVec 32 := 5#32
  let v3301 : BitVec 32 := Scalar.addi v3300 c5_i32_1661
  let c128_i32_1687 : BitVec 32 := 128#32
  let v3332 : BitVec 32 := Scalar.muli v3301 c128_i32_1687
  v3332
def k0_mult71 : BitVec 32 :=
  let c0_i32_1649 : BitVec 32 := 0#32
  let c16_i32_1662 : BitVec 32 := 16#32
  let v3302 : BitVec 32 := Scalar.muli c0_i32_1649 c16_i32_1662
  let c6_i32_1663 : BitVec 32 := 6#32
  let v3303 : BitVec 32 := Scalar.addi v3302 c6_i32_1663
  let c128_i32_1688 : BitVec 32 := 128#32
  let v3334 : BitVec 32 := Scalar.muli v3303 c128_i32_1688
  v3334
def k0_mult72 : BitVec 32 :=
  let c0_i32_1649 : BitVec 32 := 0#32
  let c16_i32_1664 : BitVec 32 := 16#32
  let v3304 : BitVec 32 := Scalar.muli c0_i32_1649 c16_i32_1664
  let c7_i32_1665 : BitVec 32 := 7#32
  let v3305 : BitVec 32 := Scalar.addi v3304 c7_i32_1665
  let c128_i32_1689 : BitVec 32 := 128#32
  let v3336 : BitVec 32 := Scalar.muli v3305 c128_i32_1689
  v3336
def k0_mult73 : BitVec 32 :=
  let c0_i32_1649 : BitVec 32 := 0#32
  let c16_i32_1666 : BitVec 32 := 16#32
  let v3306 : BitVec 32 := Scalar.muli c0_i32_1649 c16_i32_1666
  let c8_i32_1667 : BitVec 32 := 8#32
  let v3307 : BitVec 32 := Scalar.addi v3306 c8_i32_1667
  let c128_i32_1690 : BitVec 32 := 128#32
  let v3338 : BitVec 32 := Scalar.muli v3307 c128_i32_1690
  v3338
def k0_mult74 : BitVec 32 :=
  let c0_i32_1649 : BitVec 32 := 0#32
  let c16_i32_1668 : BitVec 32 := 16#32
  let v3308 : BitVec 32 := Scalar.muli c0_i32_1649 c16_i32_1668
  let c9_i32_1669 : BitVec 32 := 9#32
  let v3309 : BitVec 32 := Scalar.addi v3308 c9_i32_1669
  let c128_i32_1691 : BitVec 32 := 128#32
  let v3340 : BitVec 32 := Scalar.muli v3309 c128_i32_1691
  v3340
def k0_mult75 : BitVec 32 :=
  let c0_i32_1649 : BitVec 32 := 0#32
  let c16_i32_1670 : BitVec 32 := 16#32
  let v3310 : BitVec 32 := Scalar.muli c0_i32_1649 c16_i32_1670
  let c10_i32_1671 : BitVec 32 := 10#32
  let v3311 : BitVec 32 := Scalar.addi v3310 c10_i32_1671
  let c128_i32_1692 : BitVec 32 := 128#32
  let v3342 : BitVec 32 := Scalar.muli v3311 c128_i32_1692
  v3342
def k0_mult76 : BitVec 32 :=
  let c0_i32_1649 : BitVec 32 := 0#32
  let c16_i32_1672 : BitVec 32 := 16#32
  let v3312 : BitVec 32 := Scalar.muli c0_i32_1649 c16_i32_1672
  let c11_i32_1673 : BitVec 32 := 11#32
  let v3313 : BitVec 32 := Scalar.addi v3312 c11_i32_1673
  let c128_i32_1693 : BitVec 32 := 128#32
  let v3344 : BitVec 32 := Scalar.muli v3313 c128_i32_1693
  v3344
def k0_mult77 : BitVec 32 :=
  let c0_i32_1649 : BitVec 32 := 0#32
  let c16_i32_1674 : BitVec 32 := 16#32
  let v3314 : BitVec 32 := Scalar.muli c0_i32_1649 c16_i32_1674
  let c12_i32_1675 : BitVec 32 := 12#32
  let v3315 : BitVec 32 := Scalar.addi v3314 c12_i32_1675
  let c128_i32_1694 : BitVec 32 := 128#32
  let v3346 : BitVec 32 := Scalar.muli v3315 c128_i32_1694
  v3346
def k0_mult78 : BitVec 32 :=
  let c0_i32_1649 : BitVec 32 := 0#32
  let c16_i32_1676 : BitVec 32 := 16#32
  let v3316 : BitVec 32 := Scalar.muli c0_i32_1649 c16_i32_1676
  let c13_i32_1677 : BitVec 32 := 13#32
  let v3317 : BitVec 32 := Scalar.addi v3316 c13_i32_1677
  let c128_i32_1695 : BitVec 32 := 128#32
  let v3348 : BitVec 32 := Scalar.muli v3317 c128_i32_1695
  v3348
def k0_mult79 : BitVec 32 :=
  let c0_i32_1649 : BitVec 32 := 0#32
  let c16_i32_1678 : BitVec 32 := 16#32
  let v3318 : BitVec 32 := Scalar.muli c0_i32_1649 c16_i32_1678
  let c14_i32_1679 : BitVec 32 := 14#32
  let v3319 : BitVec 32 := Scalar.addi v3318 c14_i32_1679
  let c128_i32_1696 : BitVec 32 := 128#32
  let v3350 : BitVec 32 := Scalar.muli v3319 c128_i32_1696
  v3350
def k0_mult80 : BitVec 32 :=
  let c0_i32_1649 : BitVec 32 := 0#32
  let c16_i32_1680 : BitVec 32 := 16#32
  let v3320 : BitVec 32 := Scalar.muli c0_i32_1649 c16_i32_1680
  let c15_i32_1681 : BitVec 32 := 15#32
  let v3321 : BitVec 32 := Scalar.addi v3320 c15_i32_1681
  let c128_i32_1697 : BitVec 32 := 128#32
  let v3352 : BitVec 32 := Scalar.muli v3321 c128_i32_1697
  v3352
def k0_mult81 : BitVec 32 :=
  let c0_i32_1959 : BitVec 32 := 0#32
  let c0_i32_1958 : BitVec 32 := 0#32
  let v3930 : BitVec 32 := Scalar.subi c0_i32_1959 c0_i32_1958
  let c16_i32_1960 : BitVec 32 := 16#32
  let v3931 : BitVec 32 := Scalar.muli v3930 c16_i32_1960
  let c0_i32_1961 : BitVec 32 := 0#32
  let v3932 : BitVec 32 := Scalar.addi v3931 c0_i32_1961
  let c128_i32_1992 : BitVec 32 := 128#32
  let v3963 : BitVec 32 := Scalar.muli v3932 c128_i32_1992
  v3963
def k0_mult82 : BitVec 32 :=
  let c0_i32_1959 : BitVec 32 := 0#32
  let c0_i32_1958 : BitVec 32 := 0#32
  let v3930 : BitVec 32 := Scalar.subi c0_i32_1959 c0_i32_1958
  let c16_i32_1962 : BitVec 32 := 16#32
  let v3933 : BitVec 32 := Scalar.muli v3930 c16_i32_1962
  let c1_i32_1963 : BitVec 32 := 1#32
  let v3934 : BitVec 32 := Scalar.addi v3933 c1_i32_1963
  let c128_i32_1993 : BitVec 32 := 128#32
  let v3965 : BitVec 32 := Scalar.muli v3934 c128_i32_1993
  v3965
def k0_mult83 : BitVec 32 :=
  let c0_i32_1959 : BitVec 32 := 0#32
  let c0_i32_1958 : BitVec 32 := 0#32
  let v3930 : BitVec 32 := Scalar.subi c0_i32_1959 c0_i32_1958
  let c16_i32_1964 : BitVec 32 := 16#32
  let v3935 : BitVec 32 := Scalar.muli v3930 c16_i32_1964
  let c2_i32_1965 : BitVec 32 := 2#32
  let v3936 : BitVec 32 := Scalar.addi v3935 c2_i32_1965
  let c128_i32_1994 : BitVec 32 := 128#32
  let v3967 : BitVec 32 := Scalar.muli v3936 c128_i32_1994
  v3967
def k0_mult84 : BitVec 32 :=
  let c0_i32_1959 : BitVec 32 := 0#32
  let c0_i32_1958 : BitVec 32 := 0#32
  let v3930 : BitVec 32 := Scalar.subi c0_i32_1959 c0_i32_1958
  let c16_i32_1966 : BitVec 32 := 16#32
  let v3937 : BitVec 32 := Scalar.muli v3930 c16_i32_1966
  let c3_i32_1967 : BitVec 32 := 3#32
  let v3938 : BitVec 32 := Scalar.addi v3937 c3_i32_1967
  let c128_i32_1995 : BitVec 32 := 128#32
  let v3969 : BitVec 32 := Scalar.muli v3938 c128_i32_1995
  v3969
def k0_mult85 : BitVec 32 :=
  let c0_i32_1959 : BitVec 32 := 0#32
  let c0_i32_1958 : BitVec 32 := 0#32
  let v3930 : BitVec 32 := Scalar.subi c0_i32_1959 c0_i32_1958
  let c16_i32_1968 : BitVec 32 := 16#32
  let v3939 : BitVec 32 := Scalar.muli v3930 c16_i32_1968
  let c4_i32_1969 : BitVec 32 := 4#32
  let v3940 : BitVec 32 := Scalar.addi v3939 c4_i32_1969
  let c128_i32_1996 : BitVec 32 := 128#32
  let v3971 : BitVec 32 := Scalar.muli v3940 c128_i32_1996
  v3971
def k0_mult86 : BitVec 32 :=
  let c0_i32_1959 : BitVec 32 := 0#32
  let c0_i32_1958 : BitVec 32 := 0#32
  let v3930 : BitVec 32 := Scalar.subi c0_i32_1959 c0_i32_1958
  let c16_i32_1970 : BitVec 32 := 16#32
  let v3941 : BitVec 32 := Scalar.muli v3930 c16_i32_1970
  let c5_i32_1971 : BitVec 32 := 5#32
  let v3942 : BitVec 32 := Scalar.addi v3941 c5_i32_1971
  let c128_i32_1997 : BitVec 32 := 128#32
  let v3973 : BitVec 32 := Scalar.muli v3942 c128_i32_1997
  v3973
def k0_mult87 : BitVec 32 :=
  let c0_i32_1959 : BitVec 32 := 0#32
  let c0_i32_1958 : BitVec 32 := 0#32
  let v3930 : BitVec 32 := Scalar.subi c0_i32_1959 c0_i32_1958
  let c16_i32_1972 : BitVec 32 := 16#32
  let v3943 : BitVec 32 := Scalar.muli v3930 c16_i32_1972
  let c6_i32_1973 : BitVec 32 := 6#32
  let v3944 : BitVec 32 := Scalar.addi v3943 c6_i32_1973
  let c128_i32_1998 : BitVec 32 := 128#32
  let v3975 : BitVec 32 := Scalar.muli v3944 c128_i32_1998
  v3975
def k0_mult88 : BitVec 32 :=
  let c0_i32_1959 : BitVec 32 := 0#32
  let c0_i32_1958 : BitVec 32 := 0#32
  let v3930 : BitVec 32 := Scalar.subi c0_i32_1959 c0_i32_1958
  let c16_i32_1974 : BitVec 32 := 16#32
  let v3945 : BitVec 32 := Scalar.muli v3930 c16_i32_1974
  let c7_i32_1975 : BitVec 32 := 7#32
  let v3946 : BitVec 32 := Scalar.addi v3945 c7_i32_1975
  let c128_i32_1999 : BitVec 32 := 128#32
  let v3977 : BitVec 32 := Scalar.muli v3946 c128_i32_1999
  v3977
def k0_mult89 : BitVec 32 :=
  let c0_i32_1959 : BitVec 32 := 0#32
  let c0_i32_1958 : BitVec 32 := 0#32
  let v3930 : BitVec 32 := Scalar.subi c0_i32_1959 c0_i32_1958
  let c16_i32_1976 : BitVec 32 := 16#32
  let v3947 : BitVec 32 := Scalar.muli v3930 c16_i32_1976
  let c8_i32_1977 : BitVec 32 := 8#32
  let v3948 : BitVec 32 := Scalar.addi v3947 c8_i32_1977
  let c128_i32_2000 : BitVec 32 := 128#32
  let v3979 : BitVec 32 := Scalar.muli v3948 c128_i32_2000
  v3979
def k0_mult90 : BitVec 32 :=
  let c0_i32_1959 : BitVec 32 := 0#32
  let c0_i32_1958 : BitVec 32 := 0#32
  let v3930 : BitVec 32 := Scalar.subi c0_i32_1959 c0_i32_1958
  let c16_i32_1978 : BitVec 32 := 16#32
  let v3949 : BitVec 32 := Scalar.muli v3930 c16_i32_1978
  let c9_i32_1979 : BitVec 32 := 9#32
  let v3950 : BitVec 32 := Scalar.addi v3949 c9_i32_1979
  let c128_i32_2001 : BitVec 32 := 128#32
  let v3981 : BitVec 32 := Scalar.muli v3950 c128_i32_2001
  v3981
def k0_mult91 : BitVec 32 :=
  let c0_i32_1959 : BitVec 32 := 0#32
  let c0_i32_1958 : BitVec 32 := 0#32
  let v3930 : BitVec 32 := Scalar.subi c0_i32_1959 c0_i32_1958
  let c16_i32_1980 : BitVec 32 := 16#32
  let v3951 : BitVec 32 := Scalar.muli v3930 c16_i32_1980
  let c10_i32_1981 : BitVec 32 := 10#32
  let v3952 : BitVec 32 := Scalar.addi v3951 c10_i32_1981
  let c128_i32_2002 : BitVec 32 := 128#32
  let v3983 : BitVec 32 := Scalar.muli v3952 c128_i32_2002
  v3983
def k0_mult92 : BitVec 32 :=
  let c0_i32_1959 : BitVec 32 := 0#32
  let c0_i32_1958 : BitVec 32 := 0#32
  let v3930 : BitVec 32 := Scalar.subi c0_i32_1959 c0_i32_1958
  let c16_i32_1982 : BitVec 32 := 16#32
  let v3953 : BitVec 32 := Scalar.muli v3930 c16_i32_1982
  let c11_i32_1983 : BitVec 32 := 11#32
  let v3954 : BitVec 32 := Scalar.addi v3953 c11_i32_1983
  let c128_i32_2003 : BitVec 32 := 128#32
  let v3985 : BitVec 32 := Scalar.muli v3954 c128_i32_2003
  v3985
def k0_mult93 : BitVec 32 :=
  let c0_i32_1959 : BitVec 32 := 0#32
  let c0_i32_1958 : BitVec 32 := 0#32
  let v3930 : BitVec 32 := Scalar.subi c0_i32_1959 c0_i32_1958
  let c16_i32_1984 : BitVec 32 := 16#32
  let v3955 : BitVec 32 := Scalar.muli v3930 c16_i32_1984
  let c12_i32_1985 : BitVec 32 := 12#32
  let v3956 : BitVec 32 := Scalar.addi v3955 c12_i32_1985
  let c128_i32_2004 : BitVec 32 := 128#32
  let v3987 : BitVec 32 := Scalar.muli v3956 c128_i32_2004
  v3987
def k0_mult94 : BitVec 32 :=
  let c0_i32_1959 : BitVec 32 := 0#32
  let c0_i32_1958 : BitVec 32 := 0#32
  let v3930 : BitVec 32 := Scalar.subi c0_i32_1959 c0_i32_1958
  let c16_i32_1986 : BitVec 32 := 16#32
  let v3957 : BitVec 32 := Scalar.muli v3930 c16_i32_1986
  let c13_i32_1987 : BitVec 32 := 13#32
  let v3958 : BitVec 32 := Scalar.addi v3957 c13_i32_1987
  let c128_i32_2005 : BitVec 32 := 128#32
  let v3989 : BitVec 32 := Scalar.muli v3958 c128_i32_2005
  v3989
def k0_mult95 : BitVec 32 :=
  let c0_i32_1959 : BitVec 32 := 0#32
  let c0_i32_1958 : BitVec 32 := 0#32
  let v3930 : BitVec 32 := Scalar.subi c0_i32_1959 c0_i32_1958
  let c16_i32_1988 : BitVec 32 := 16#32
  let v3959 : BitVec 32 := Scalar.muli v3930 c16_i32_1988
  let c14_i32_1989 : BitVec 32 := 14#32
  let v3960 : BitVec 32 := Scalar.addi v3959 c14_i32_1989
  let c128_i32_2006 : BitVec 32 := 128#32
  let v3991 : BitVec 32 := Scalar.muli v3960 c128_i32_2006
  v3991
def k0_mult96 : BitVec 32 :=
  let c0_i32_1959 : BitVec 32 := 0#32
  let c0_i32_1958 : BitVec 32 := 0#32
  let v3930 : BitVec 32 := Scalar.subi c0_i32_1959 c0_i32_1958
  let c16_i32_1990 : BitVec 32 := 16#32
  let v3961 : BitVec 32 := Scalar.muli v3930 c16_i32_1990
  let c15_i32_1991 : BitVec 32 := 15#32
  let v3962 : BitVec 32 := Scalar.addi v3961 c15_i32_1991
  let c128_i32_2007 : BitVec 32 := 128#32
  let v3993 : BitVec 32 := Scalar.muli v3962 c128_i32_2007
  v3993
def k0_off7 (c0_i32_1961 : BitVec 32) : Fin 3 → Nat :=
  let c2_i32_1957 : BitVec 32 := 2#32
  let c0_i32_1959 : BitVec 32 := 0#32
  let c0_i32_1958 : BitVec 32 := 0#32
  let v3930 : BitVec 32 := Scalar.subi c0_i32_1959 c0_i32_1958
  let c16_i32_1960 : BitVec 32 := 16#32
  let v3931 : BitVec 32 := Scalar.muli v3930 c16_i32_1960
  let v3932 : BitVec 32 := Scalar.addi v3931 c0_i32_1961
  let c128_i32_1992 : BitVec 32 := 128#32
  let v3963 : BitVec 32 := Scalar.muli v3932 c128_i32_1992
  let v3964 : BitVec 32 := v3963
  let v4590 : Index := Scalar.indexCast v3964
  let c0_i32_2335 : BitVec 32 := 0#32
  ![2, v4590.toNat, 0]
def k0_mult97 : BitVec 32 :=
  let c0_i32_2475 : BitVec 32 := 0#32
  let c16_i32_2476 : BitVec 32 := 16#32
  let v4907 : BitVec 32 := Scalar.muli c0_i32_2475 c16_i32_2476
  let c0_i32_2477 : BitVec 32 := 0#32
  let v4908 : BitVec 32 := Scalar.addi v4907 c0_i32_2477
  let c128_i32_2508 : BitVec 32 := 128#32
  let v4939 : BitVec 32 := Scalar.muli v4908 c128_i32_2508
  v4939
def k0_mult98 : BitVec 32 :=
  let c0_i32_2475 : BitVec 32 := 0#32
  let c16_i32_2478 : BitVec 32 := 16#32
  let v4909 : BitVec 32 := Scalar.muli c0_i32_2475 c16_i32_2478
  let c1_i32_2479 : BitVec 32 := 1#32
  let v4910 : BitVec 32 := Scalar.addi v4909 c1_i32_2479
  let c128_i32_2509 : BitVec 32 := 128#32
  let v4941 : BitVec 32 := Scalar.muli v4910 c128_i32_2509
  v4941
def k0_mult99 : BitVec 32 :=
  let c0_i32_2475 : BitVec 32 := 0#32
  let c16_i32_2480 : BitVec 32 := 16#32
  let v4911 : BitVec 32 := Scalar.muli c0_i32_2475 c16_i32_2480
  let c2_i32_2481 : BitVec 32 := 2#32
  let v4912 : BitVec 32 := Scalar.addi v4911 c2_i32_2481
  let c128_i32_2510 : BitVec 32 := 128#32
  let v4943 : BitVec 32 := Scalar.muli v4912 c128_i32_2510
  v4943
def k0_mult100 : BitVec 32 :=
  let c0_i32_2475 : BitVec 32 := 0#32
  let c16_i32_2482 : BitVec 32 := 16#32
  let v4913 : BitVec 32 := Scalar.muli c0_i32_2475 c16_i32_2482
  let c3_i32_2483 : BitVec 32 := 3#32
  let v4914 : BitVec 32 := Scalar.addi v4913 c3_i32_2483
  let c128_i32_2511 : BitVec 32 := 128#32
  let v4945 : BitVec 32 := Scalar.muli v4914 c128_i32_2511
  v4945
def k0_mult101 : BitVec 32 :=
  let c0_i32_2475 : BitVec 32 := 0#32
  let c16_i32_2484 : BitVec 32 := 16#32
  let v4915 : BitVec 32 := Scalar.muli c0_i32_2475 c16_i32_2484
  let c4_i32_2485 : BitVec 32 := 4#32
  let v4916 : BitVec 32 := Scalar.addi v4915 c4_i32_2485
  let c128_i32_2512 : BitVec 32 := 128#32
  let v4947 : BitVec 32 := Scalar.muli v4916 c128_i32_2512
  v4947
def k0_mult102 : BitVec 32 :=
  let c0_i32_2475 : BitVec 32 := 0#32
  let c16_i32_2486 : BitVec 32 := 16#32
  let v4917 : BitVec 32 := Scalar.muli c0_i32_2475 c16_i32_2486
  let c5_i32_2487 : BitVec 32 := 5#32
  let v4918 : BitVec 32 := Scalar.addi v4917 c5_i32_2487
  let c128_i32_2513 : BitVec 32 := 128#32
  let v4949 : BitVec 32 := Scalar.muli v4918 c128_i32_2513
  v4949
def k0_mult103 : BitVec 32 :=
  let c0_i32_2475 : BitVec 32 := 0#32
  let c16_i32_2488 : BitVec 32 := 16#32
  let v4919 : BitVec 32 := Scalar.muli c0_i32_2475 c16_i32_2488
  let c6_i32_2489 : BitVec 32 := 6#32
  let v4920 : BitVec 32 := Scalar.addi v4919 c6_i32_2489
  let c128_i32_2514 : BitVec 32 := 128#32
  let v4951 : BitVec 32 := Scalar.muli v4920 c128_i32_2514
  v4951
def k0_mult104 : BitVec 32 :=
  let c0_i32_2475 : BitVec 32 := 0#32
  let c16_i32_2490 : BitVec 32 := 16#32
  let v4921 : BitVec 32 := Scalar.muli c0_i32_2475 c16_i32_2490
  let c7_i32_2491 : BitVec 32 := 7#32
  let v4922 : BitVec 32 := Scalar.addi v4921 c7_i32_2491
  let c128_i32_2515 : BitVec 32 := 128#32
  let v4953 : BitVec 32 := Scalar.muli v4922 c128_i32_2515
  v4953
def k0_mult105 : BitVec 32 :=
  let c0_i32_2475 : BitVec 32 := 0#32
  let c16_i32_2492 : BitVec 32 := 16#32
  let v4923 : BitVec 32 := Scalar.muli c0_i32_2475 c16_i32_2492
  let c8_i32_2493 : BitVec 32 := 8#32
  let v4924 : BitVec 32 := Scalar.addi v4923 c8_i32_2493
  let c128_i32_2516 : BitVec 32 := 128#32
  let v4955 : BitVec 32 := Scalar.muli v4924 c128_i32_2516
  v4955
def k0_mult106 : BitVec 32 :=
  let c0_i32_2475 : BitVec 32 := 0#32
  let c16_i32_2494 : BitVec 32 := 16#32
  let v4925 : BitVec 32 := Scalar.muli c0_i32_2475 c16_i32_2494
  let c9_i32_2495 : BitVec 32 := 9#32
  let v4926 : BitVec 32 := Scalar.addi v4925 c9_i32_2495
  let c128_i32_2517 : BitVec 32 := 128#32
  let v4957 : BitVec 32 := Scalar.muli v4926 c128_i32_2517
  v4957
def k0_mult107 : BitVec 32 :=
  let c0_i32_2475 : BitVec 32 := 0#32
  let c16_i32_2496 : BitVec 32 := 16#32
  let v4927 : BitVec 32 := Scalar.muli c0_i32_2475 c16_i32_2496
  let c10_i32_2497 : BitVec 32 := 10#32
  let v4928 : BitVec 32 := Scalar.addi v4927 c10_i32_2497
  let c128_i32_2518 : BitVec 32 := 128#32
  let v4959 : BitVec 32 := Scalar.muli v4928 c128_i32_2518
  v4959
def k0_mult108 : BitVec 32 :=
  let c0_i32_2475 : BitVec 32 := 0#32
  let c16_i32_2498 : BitVec 32 := 16#32
  let v4929 : BitVec 32 := Scalar.muli c0_i32_2475 c16_i32_2498
  let c11_i32_2499 : BitVec 32 := 11#32
  let v4930 : BitVec 32 := Scalar.addi v4929 c11_i32_2499
  let c128_i32_2519 : BitVec 32 := 128#32
  let v4961 : BitVec 32 := Scalar.muli v4930 c128_i32_2519
  v4961
def k0_mult109 : BitVec 32 :=
  let c0_i32_2475 : BitVec 32 := 0#32
  let c16_i32_2500 : BitVec 32 := 16#32
  let v4931 : BitVec 32 := Scalar.muli c0_i32_2475 c16_i32_2500
  let c12_i32_2501 : BitVec 32 := 12#32
  let v4932 : BitVec 32 := Scalar.addi v4931 c12_i32_2501
  let c128_i32_2520 : BitVec 32 := 128#32
  let v4963 : BitVec 32 := Scalar.muli v4932 c128_i32_2520
  v4963
def k0_mult110 : BitVec 32 :=
  let c0_i32_2475 : BitVec 32 := 0#32
  let c16_i32_2502 : BitVec 32 := 16#32
  let v4933 : BitVec 32 := Scalar.muli c0_i32_2475 c16_i32_2502
  let c13_i32_2503 : BitVec 32 := 13#32
  let v4934 : BitVec 32 := Scalar.addi v4933 c13_i32_2503
  let c128_i32_2521 : BitVec 32 := 128#32
  let v4965 : BitVec 32 := Scalar.muli v4934 c128_i32_2521
  v4965
def k0_mult111 : BitVec 32 :=
  let c0_i32_2475 : BitVec 32 := 0#32
  let c16_i32_2504 : BitVec 32 := 16#32
  let v4935 : BitVec 32 := Scalar.muli c0_i32_2475 c16_i32_2504
  let c14_i32_2505 : BitVec 32 := 14#32
  let v4936 : BitVec 32 := Scalar.addi v4935 c14_i32_2505
  let c128_i32_2522 : BitVec 32 := 128#32
  let v4967 : BitVec 32 := Scalar.muli v4936 c128_i32_2522
  v4967
def k0_mult112 : BitVec 32 :=
  let c0_i32_2475 : BitVec 32 := 0#32
  let c16_i32_2506 : BitVec 32 := 16#32
  let v4937 : BitVec 32 := Scalar.muli c0_i32_2475 c16_i32_2506
  let c15_i32_2507 : BitVec 32 := 15#32
  let v4938 : BitVec 32 := Scalar.addi v4937 c15_i32_2507
  let c128_i32_2523 : BitVec 32 := 128#32
  let v4969 : BitVec 32 := Scalar.muli v4938 c128_i32_2523
  v4969
def k0_mult113 : BitVec 32 :=
  let c0_i32_2785 : BitVec 32 := 0#32
  let c0_i32_2784 : BitVec 32 := 0#32
  let v5547 : BitVec 32 := Scalar.subi c0_i32_2785 c0_i32_2784
  let c16_i32_2786 : BitVec 32 := 16#32
  let v5548 : BitVec 32 := Scalar.muli v5547 c16_i32_2786
  let c0_i32_2787 : BitVec 32 := 0#32
  let v5549 : BitVec 32 := Scalar.addi v5548 c0_i32_2787
  let c128_i32_2818 : BitVec 32 := 128#32
  let v5580 : BitVec 32 := Scalar.muli v5549 c128_i32_2818
  v5580
def k0_mult114 : BitVec 32 :=
  let c0_i32_2785 : BitVec 32 := 0#32
  let c0_i32_2784 : BitVec 32 := 0#32
  let v5547 : BitVec 32 := Scalar.subi c0_i32_2785 c0_i32_2784
  let c16_i32_2788 : BitVec 32 := 16#32
  let v5550 : BitVec 32 := Scalar.muli v5547 c16_i32_2788
  let c1_i32_2789 : BitVec 32 := 1#32
  let v5551 : BitVec 32 := Scalar.addi v5550 c1_i32_2789
  let c128_i32_2819 : BitVec 32 := 128#32
  let v5582 : BitVec 32 := Scalar.muli v5551 c128_i32_2819
  v5582
def k0_mult115 : BitVec 32 :=
  let c0_i32_2785 : BitVec 32 := 0#32
  let c0_i32_2784 : BitVec 32 := 0#32
  let v5547 : BitVec 32 := Scalar.subi c0_i32_2785 c0_i32_2784
  let c16_i32_2790 : BitVec 32 := 16#32
  let v5552 : BitVec 32 := Scalar.muli v5547 c16_i32_2790
  let c2_i32_2791 : BitVec 32 := 2#32
  let v5553 : BitVec 32 := Scalar.addi v5552 c2_i32_2791
  let c128_i32_2820 : BitVec 32 := 128#32
  let v5584 : BitVec 32 := Scalar.muli v5553 c128_i32_2820
  v5584
def k0_mult116 : BitVec 32 :=
  let c0_i32_2785 : BitVec 32 := 0#32
  let c0_i32_2784 : BitVec 32 := 0#32
  let v5547 : BitVec 32 := Scalar.subi c0_i32_2785 c0_i32_2784
  let c16_i32_2792 : BitVec 32 := 16#32
  let v5554 : BitVec 32 := Scalar.muli v5547 c16_i32_2792
  let c3_i32_2793 : BitVec 32 := 3#32
  let v5555 : BitVec 32 := Scalar.addi v5554 c3_i32_2793
  let c128_i32_2821 : BitVec 32 := 128#32
  let v5586 : BitVec 32 := Scalar.muli v5555 c128_i32_2821
  v5586
def k0_mult117 : BitVec 32 :=
  let c0_i32_2785 : BitVec 32 := 0#32
  let c0_i32_2784 : BitVec 32 := 0#32
  let v5547 : BitVec 32 := Scalar.subi c0_i32_2785 c0_i32_2784
  let c16_i32_2794 : BitVec 32 := 16#32
  let v5556 : BitVec 32 := Scalar.muli v5547 c16_i32_2794
  let c4_i32_2795 : BitVec 32 := 4#32
  let v5557 : BitVec 32 := Scalar.addi v5556 c4_i32_2795
  let c128_i32_2822 : BitVec 32 := 128#32
  let v5588 : BitVec 32 := Scalar.muli v5557 c128_i32_2822
  v5588
def k0_mult118 : BitVec 32 :=
  let c0_i32_2785 : BitVec 32 := 0#32
  let c0_i32_2784 : BitVec 32 := 0#32
  let v5547 : BitVec 32 := Scalar.subi c0_i32_2785 c0_i32_2784
  let c16_i32_2796 : BitVec 32 := 16#32
  let v5558 : BitVec 32 := Scalar.muli v5547 c16_i32_2796
  let c5_i32_2797 : BitVec 32 := 5#32
  let v5559 : BitVec 32 := Scalar.addi v5558 c5_i32_2797
  let c128_i32_2823 : BitVec 32 := 128#32
  let v5590 : BitVec 32 := Scalar.muli v5559 c128_i32_2823
  v5590
def k0_mult119 : BitVec 32 :=
  let c0_i32_2785 : BitVec 32 := 0#32
  let c0_i32_2784 : BitVec 32 := 0#32
  let v5547 : BitVec 32 := Scalar.subi c0_i32_2785 c0_i32_2784
  let c16_i32_2798 : BitVec 32 := 16#32
  let v5560 : BitVec 32 := Scalar.muli v5547 c16_i32_2798
  let c6_i32_2799 : BitVec 32 := 6#32
  let v5561 : BitVec 32 := Scalar.addi v5560 c6_i32_2799
  let c128_i32_2824 : BitVec 32 := 128#32
  let v5592 : BitVec 32 := Scalar.muli v5561 c128_i32_2824
  v5592
def k0_mult120 : BitVec 32 :=
  let c0_i32_2785 : BitVec 32 := 0#32
  let c0_i32_2784 : BitVec 32 := 0#32
  let v5547 : BitVec 32 := Scalar.subi c0_i32_2785 c0_i32_2784
  let c16_i32_2800 : BitVec 32 := 16#32
  let v5562 : BitVec 32 := Scalar.muli v5547 c16_i32_2800
  let c7_i32_2801 : BitVec 32 := 7#32
  let v5563 : BitVec 32 := Scalar.addi v5562 c7_i32_2801
  let c128_i32_2825 : BitVec 32 := 128#32
  let v5594 : BitVec 32 := Scalar.muli v5563 c128_i32_2825
  v5594
def k0_mult121 : BitVec 32 :=
  let c0_i32_2785 : BitVec 32 := 0#32
  let c0_i32_2784 : BitVec 32 := 0#32
  let v5547 : BitVec 32 := Scalar.subi c0_i32_2785 c0_i32_2784
  let c16_i32_2802 : BitVec 32 := 16#32
  let v5564 : BitVec 32 := Scalar.muli v5547 c16_i32_2802
  let c8_i32_2803 : BitVec 32 := 8#32
  let v5565 : BitVec 32 := Scalar.addi v5564 c8_i32_2803
  let c128_i32_2826 : BitVec 32 := 128#32
  let v5596 : BitVec 32 := Scalar.muli v5565 c128_i32_2826
  v5596
def k0_mult122 : BitVec 32 :=
  let c0_i32_2785 : BitVec 32 := 0#32
  let c0_i32_2784 : BitVec 32 := 0#32
  let v5547 : BitVec 32 := Scalar.subi c0_i32_2785 c0_i32_2784
  let c16_i32_2804 : BitVec 32 := 16#32
  let v5566 : BitVec 32 := Scalar.muli v5547 c16_i32_2804
  let c9_i32_2805 : BitVec 32 := 9#32
  let v5567 : BitVec 32 := Scalar.addi v5566 c9_i32_2805
  let c128_i32_2827 : BitVec 32 := 128#32
  let v5598 : BitVec 32 := Scalar.muli v5567 c128_i32_2827
  v5598
def k0_mult123 : BitVec 32 :=
  let c0_i32_2785 : BitVec 32 := 0#32
  let c0_i32_2784 : BitVec 32 := 0#32
  let v5547 : BitVec 32 := Scalar.subi c0_i32_2785 c0_i32_2784
  let c16_i32_2806 : BitVec 32 := 16#32
  let v5568 : BitVec 32 := Scalar.muli v5547 c16_i32_2806
  let c10_i32_2807 : BitVec 32 := 10#32
  let v5569 : BitVec 32 := Scalar.addi v5568 c10_i32_2807
  let c128_i32_2828 : BitVec 32 := 128#32
  let v5600 : BitVec 32 := Scalar.muli v5569 c128_i32_2828
  v5600
def k0_mult124 : BitVec 32 :=
  let c0_i32_2785 : BitVec 32 := 0#32
  let c0_i32_2784 : BitVec 32 := 0#32
  let v5547 : BitVec 32 := Scalar.subi c0_i32_2785 c0_i32_2784
  let c16_i32_2808 : BitVec 32 := 16#32
  let v5570 : BitVec 32 := Scalar.muli v5547 c16_i32_2808
  let c11_i32_2809 : BitVec 32 := 11#32
  let v5571 : BitVec 32 := Scalar.addi v5570 c11_i32_2809
  let c128_i32_2829 : BitVec 32 := 128#32
  let v5602 : BitVec 32 := Scalar.muli v5571 c128_i32_2829
  v5602
def k0_mult125 : BitVec 32 :=
  let c0_i32_2785 : BitVec 32 := 0#32
  let c0_i32_2784 : BitVec 32 := 0#32
  let v5547 : BitVec 32 := Scalar.subi c0_i32_2785 c0_i32_2784
  let c16_i32_2810 : BitVec 32 := 16#32
  let v5572 : BitVec 32 := Scalar.muli v5547 c16_i32_2810
  let c12_i32_2811 : BitVec 32 := 12#32
  let v5573 : BitVec 32 := Scalar.addi v5572 c12_i32_2811
  let c128_i32_2830 : BitVec 32 := 128#32
  let v5604 : BitVec 32 := Scalar.muli v5573 c128_i32_2830
  v5604
def k0_mult126 : BitVec 32 :=
  let c0_i32_2785 : BitVec 32 := 0#32
  let c0_i32_2784 : BitVec 32 := 0#32
  let v5547 : BitVec 32 := Scalar.subi c0_i32_2785 c0_i32_2784
  let c16_i32_2812 : BitVec 32 := 16#32
  let v5574 : BitVec 32 := Scalar.muli v5547 c16_i32_2812
  let c13_i32_2813 : BitVec 32 := 13#32
  let v5575 : BitVec 32 := Scalar.addi v5574 c13_i32_2813
  let c128_i32_2831 : BitVec 32 := 128#32
  let v5606 : BitVec 32 := Scalar.muli v5575 c128_i32_2831
  v5606
def k0_mult127 : BitVec 32 :=
  let c0_i32_2785 : BitVec 32 := 0#32
  let c0_i32_2784 : BitVec 32 := 0#32
  let v5547 : BitVec 32 := Scalar.subi c0_i32_2785 c0_i32_2784
  let c16_i32_2814 : BitVec 32 := 16#32
  let v5576 : BitVec 32 := Scalar.muli v5547 c16_i32_2814
  let c14_i32_2815 : BitVec 32 := 14#32
  let v5577 : BitVec 32 := Scalar.addi v5576 c14_i32_2815
  let c128_i32_2832 : BitVec 32 := 128#32
  let v5608 : BitVec 32 := Scalar.muli v5577 c128_i32_2832
  v5608
def k0_mult128 : BitVec 32 :=
  let c0_i32_2785 : BitVec 32 := 0#32
  let c0_i32_2784 : BitVec 32 := 0#32
  let v5547 : BitVec 32 := Scalar.subi c0_i32_2785 c0_i32_2784
  let c16_i32_2816 : BitVec 32 := 16#32
  let v5578 : BitVec 32 := Scalar.muli v5547 c16_i32_2816
  let c15_i32_2817 : BitVec 32 := 15#32
  let v5579 : BitVec 32 := Scalar.addi v5578 c15_i32_2817
  let c128_i32_2833 : BitVec 32 := 128#32
  let v5610 : BitVec 32 := Scalar.muli v5579 c128_i32_2833
  v5610
def k0_off8 (c0_i32_2787 : BitVec 32) : Fin 3 → Nat :=
  let c3_i32_2783 : BitVec 32 := 3#32
  let c0_i32_2785 : BitVec 32 := 0#32
  let c0_i32_2784 : BitVec 32 := 0#32
  let v5547 : BitVec 32 := Scalar.subi c0_i32_2785 c0_i32_2784
  let c16_i32_2786 : BitVec 32 := 16#32
  let v5548 : BitVec 32 := Scalar.muli v5547 c16_i32_2786
  let v5549 : BitVec 32 := Scalar.addi v5548 c0_i32_2787
  let c128_i32_2818 : BitVec 32 := 128#32
  let v5580 : BitVec 32 := Scalar.muli v5549 c128_i32_2818
  let v5581 : BitVec 32 := v5580
  let v6207 : Index := Scalar.indexCast v5581
  let c0_i32_3161 : BitVec 32 := 0#32
  ![3, v6207.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_2 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c36_i32 : BitVec 32 := 36#32
  let v0 : BitVec 32 := Scalar.addi c36_i32 arg1
  let c0_i32 : BitVec 32 := 0#32
  let c0_i32_0 : BitVec 32 := 0#32
  ![arg0.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S16x2048x6656 : Shape := ⟨3, ![16, 2048, 6656]⟩
abbrev S2x12 : Shape := ⟨2, ![2, 12]⟩
abbrev S16x2048x1536 : Shape := ⟨3, ![16, 2048, 1536]⟩
abbrev S16x2048x512 : Shape := ⟨3, ![16, 2048, 512]⟩
abbrev S_ : Shape := ⟨0, ![]⟩
abbrev S16x2048x12x128 : Shape := ⟨4, ![16, 2048, 12, 128]⟩
abbrev S16x16x128x12x128 : Shape := ⟨5, ![16, 16, 128, 12, 128]⟩
abbrev S16x12x16x128x128 : Shape := ⟨5, ![16, 12, 16, 128, 128]⟩
abbrev S1x12 : Shape := ⟨2, ![1, 12]⟩
abbrev S12 : Shape := ⟨1, ![12]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S12x1x1 : Shape := ⟨3, ![12, 1, 1]⟩
abbrev S12x128x128 : Shape := ⟨3, ![12, 128, 128]⟩
abbrev S1x12x1x128x128 : Shape := ⟨5, ![1, 12, 1, 128, 128]⟩
abbrev S12x1 : Shape := ⟨2, ![12, 1]⟩
abbrev S12x128 : Shape := ⟨2, ![12, 128]⟩
abbrev S1x12x1x128x1 : Shape := ⟨5, ![1, 12, 1, 128, 1]⟩
abbrev S16x16x12x128x128 : Shape := ⟨5, ![16, 16, 12, 128, 128]⟩
abbrev S1x12x1x1 : Shape := ⟨4, ![1, 12, 1, 1]⟩
abbrev S16x12x128x128 : Shape := ⟨4, ![16, 12, 128, 128]⟩
abbrev S1x16x12x128x128 : Shape := ⟨5, ![1, 16, 12, 128, 128]⟩
abbrev S16x2048x12 : Shape := ⟨3, ![16, 2048, 12]⟩
abbrev S16x2048x12x1 : Shape := ⟨4, ![16, 2048, 12, 1]⟩

abbrev nBuf : Space → Nat
  | .hbm => 372
  | .vmem => 0
  | .smem => 0
  | _ => 0

abbrev hbmTy0_0 (i : Nat) : BufTy := match i % 128 with
  | 0 => ⟨S16x2048x6656, .bf16⟩
  | 1 => ⟨S2x12, .f32⟩
  | 2 => ⟨S16x2048x6656, .f32⟩
  | 3 => ⟨S16x2048x1536, .f32⟩
  | 4 => ⟨S16x2048x1536, .f32⟩
  | 5 => ⟨S16x2048x1536, .f32⟩
  | 6 => ⟨S16x2048x1536, .f32⟩
  | 7 => ⟨S16x2048x512, .f32⟩
  | 8 => ⟨S2x12, .f32⟩
  | 9 => ⟨S_, .f32⟩
  | 10 => ⟨S2x12, .f32⟩
  | 11 => ⟨S2x12, .f32⟩
  | 12 => ⟨S2x12, .f32⟩
  | 13 => ⟨S2x12, .f32⟩
  | 14 => ⟨S16x2048x12x128, .f32⟩
  | 15 => ⟨S16x16x128x12x128, .f32⟩
  | 16 => ⟨S16x12x16x128x128, .f32⟩
  | 17 => ⟨S16x2048x12x128, .f32⟩
  | 18 => ⟨S16x16x128x12x128, .f32⟩
  | 19 => ⟨S16x12x16x128x128, .f32⟩
  | 20 => ⟨S16x2048x12x128, .f32⟩
  | 21 => ⟨S16x16x128x12x128, .f32⟩
  | 22 => ⟨S16x12x16x128x128, .f32⟩
  | 23 => ⟨S1x12, .f32⟩
  | 24 => ⟨S12, .f32⟩
  | 25 => ⟨S128, .f32⟩
  | 26 => ⟨S128x1, .f32⟩
  | 27 => ⟨S1x128, .f32⟩
  | 28 => ⟨S128x128, .f32⟩
  | 29 => ⟨S128x128, .f32⟩
  | 30 => ⟨S128x128, .f32⟩
  | 31 => ⟨S_, .f32⟩
  | 32 => ⟨S128x128, .f32⟩
  | 33 => ⟨S128x128, .i1⟩
  | 34 => ⟨S1x128x128, .i1⟩
  | 35 => ⟨S_, .f32⟩
  | 36 => ⟨S_, .f32⟩
  | 37 => ⟨S128x128, .f32⟩
  | 38 => ⟨S128x128, .f32⟩
  | 39 => ⟨S1x128x128, .f32⟩
  | 40 => ⟨S12x1x1, .f32⟩
  | 41 => ⟨S12x128x128, .f32⟩
  | 42 => ⟨S12x128x128, .f32⟩
  | 43 => ⟨S12x128x128, .f32⟩
  | 44 => ⟨S12x128x128, .f32⟩
  | 45 => ⟨S_, .f32⟩
  | 46 => ⟨S_, .f32⟩
  | 47 => ⟨S12x128x128, .i1⟩
  | 48 => ⟨S12x128x128, .f32⟩
  | 49 => ⟨S12x128x128, .f32⟩
  | 50 => ⟨S16x12x16x128x128, .f32⟩
  | 51 => ⟨S1x12x1x128x128, .f32⟩
  | 52 => ⟨S16x12x16x128x128, .f32⟩
  | 53 => ⟨S16x12x16x128x128, .f32⟩
  | 54 => ⟨S16x12x16x128x128, .f32⟩
  | 55 => ⟨S_, .f32⟩
  | 56 => ⟨S128, .f32⟩
  | 57 => ⟨S128, .f32⟩
  | 58 => ⟨S1x128, .f32⟩
  | 59 => ⟨S12x1, .f32⟩
  | 60 => ⟨S12x128, .f32⟩
  | 61 => ⟨S12x128, .f32⟩
  | 62 => ⟨S12x128, .f32⟩
  | 63 => ⟨S12x128, .f32⟩
  | 64 => ⟨S1x12x1x128x1, .f32⟩
  | 65 => ⟨S16x12x16x128x128, .f32⟩
  | 66 => ⟨S16x12x16x128x128, .f32⟩
  | 67 => ⟨S16x16x12x128x128, .f32⟩
  | 68 => ⟨S_, .f32⟩
  | 69 => ⟨S12, .f32⟩
  | 70 => ⟨S12, .f32⟩
  | 71 => ⟨S12, .f32⟩
  | 72 => ⟨S1x12x1x1, .f32⟩
  | 73 => ⟨S_, .f32⟩
  | 74 => ⟨S16x12x128x128, .f32⟩
  | 75 => ⟨S1x16x12x128x128, .f32⟩
  | 76 => ⟨S16x12x128x128, .f32⟩
  | 77 => ⟨S1x16x12x128x128, .f32⟩
  | 78 => ⟨S16x12x128x128, .f32⟩
  | 79 => ⟨S1x16x12x128x128, .f32⟩
  | 80 => ⟨S16x12x128x128, .f32⟩
  | 81 => ⟨S1x16x12x128x128, .f32⟩
  | 82 => ⟨S16x12x128x128, .f32⟩
  | 83 => ⟨S1x16x12x128x128, .f32⟩
  | 84 => ⟨S16x12x128x128, .f32⟩
  | 85 => ⟨S1x16x12x128x128, .f32⟩
  | 86 => ⟨S16x12x128x128, .f32⟩
  | 87 => ⟨S1x16x12x128x128, .f32⟩
  | 88 => ⟨S16x12x128x128, .f32⟩
  | 89 => ⟨S1x16x12x128x128, .f32⟩
  | 90 => ⟨S16x12x128x128, .f32⟩
  | 91 => ⟨S1x16x12x128x128, .f32⟩
  | 92 => ⟨S16x12x128x128, .f32⟩
  | 93 => ⟨S1x16x12x128x128, .f32⟩
  | 94 => ⟨S16x12x128x128, .f32⟩
  | 95 => ⟨S1x16x12x128x128, .f32⟩
  | 96 => ⟨S16x12x128x128, .f32⟩
  | 97 => ⟨S1x16x12x128x128, .f32⟩
  | 98 => ⟨S16x12x128x128, .f32⟩
  | 99 => ⟨S1x16x12x128x128, .f32⟩
  | 100 => ⟨S16x12x128x128, .f32⟩
  | 101 => ⟨S1x16x12x128x128, .f32⟩
  | 102 => ⟨S16x12x128x128, .f32⟩
  | 103 => ⟨S1x16x12x128x128, .f32⟩
  | 104 => ⟨S16x12x128x128, .f32⟩
  | 105 => ⟨S1x16x12x128x128, .f32⟩
  | 106 => ⟨S16x12x128x128, .f32⟩
  | 107 => ⟨S16x12x128x128, .f32⟩
  | 108 => ⟨S16x12x128x128, .f32⟩
  | 109 => ⟨S16x12x128x128, .f32⟩
  | 110 => ⟨S16x12x128x128, .f32⟩
  | 111 => ⟨S16x12x128x128, .f32⟩
  | 112 => ⟨S16x12x128x128, .f32⟩
  | 113 => ⟨S16x12x128x128, .f32⟩
  | 114 => ⟨S16x12x128x128, .f32⟩
  | 115 => ⟨S16x12x128x128, .f32⟩
  | 116 => ⟨S16x12x128x128, .f32⟩
  | 117 => ⟨S16x12x128x128, .f32⟩
  | 118 => ⟨S16x12x128x128, .f32⟩
  | 119 => ⟨S16x12x128x128, .f32⟩
  | 120 => ⟨S16x12x128x128, .f32⟩
  | 121 => ⟨S16x12x128x128, .f32⟩
  | 122 => ⟨S16x12x128x128, .f32⟩
  | 123 => ⟨S16x12x128x128, .f32⟩
  | 124 => ⟨S16x12x128x128, .f32⟩
  | 125 => ⟨S16x12x128x128, .f32⟩
  | 126 => ⟨S16x12x128x128, .f32⟩
  | 127 => ⟨S16x12x128x128, .f32⟩
  | _ => ⟨S16x2048x6656, .bf16⟩

abbrev hbmTy0_1 (i : Nat) : BufTy := match i % 128 with
  | 0 => ⟨S16x12x128x128, .f32⟩
  | 1 => ⟨S16x12x128x128, .f32⟩
  | 2 => ⟨S16x12x128x128, .f32⟩
  | 3 => ⟨S16x12x128x128, .f32⟩
  | 4 => ⟨S16x12x128x128, .f32⟩
  | 5 => ⟨S16x12x128x128, .f32⟩
  | 6 => ⟨S16x12x128x128, .f32⟩
  | 7 => ⟨S16x12x128x128, .f32⟩
  | 8 => ⟨S16x12x128x128, .f32⟩
  | 9 => ⟨S16x12x128x128, .f32⟩
  | 10 => ⟨S16x12x128x128, .f32⟩
  | 11 => ⟨S16x12x128x128, .f32⟩
  | 12 => ⟨S16x12x128x128, .f32⟩
  | 13 => ⟨S16x12x128x128, .f32⟩
  | 14 => ⟨S16x12x128x128, .f32⟩
  | 15 => ⟨S16x12x128x128, .f32⟩
  | 16 => ⟨S16x12x128x128, .f32⟩
  | 17 => ⟨S16x12x128x128, .f32⟩
  | 18 => ⟨S16x12x128x128, .f32⟩
  | 19 => ⟨S16x12x128x128, .f32⟩
  | 20 => ⟨S16x12x128x128, .f32⟩
  | 21 => ⟨S16x12x128x128, .f32⟩
  | 22 => ⟨S16x12x128x128, .f32⟩
  | 23 => ⟨S16x12x128x128, .f32⟩
  | 24 => ⟨S16x12x128x128, .f32⟩
  | 25 => ⟨S16x12x128x128, .f32⟩
  | 26 => ⟨S16x12x128x128, .f32⟩
  | 27 => ⟨S1x16x12x128x128, .f32⟩
  | 28 => ⟨S1x16x12x128x128, .f32⟩
  | 29 => ⟨S1x16x12x128x128, .f32⟩
  | 30 => ⟨S1x16x12x128x128, .f32⟩
  | 31 => ⟨S1x16x12x128x128, .f32⟩
  | 32 => ⟨S1x16x12x128x128, .f32⟩
  | 33 => ⟨S1x16x12x128x128, .f32⟩
  | 34 => ⟨S1x16x12x128x128, .f32⟩
  | 35 => ⟨S1x16x12x128x128, .f32⟩
  | 36 => ⟨S1x16x12x128x128, .f32⟩
  | 37 => ⟨S1x16x12x128x128, .f32⟩
  | 38 => ⟨S1x16x12x128x128, .f32⟩
  | 39 => ⟨S1x16x12x128x128, .f32⟩
  | 40 => ⟨S1x16x12x128x128, .f32⟩
  | 41 => ⟨S1x16x12x128x128, .f32⟩
  | 42 => ⟨S1x16x12x128x128, .f32⟩
  | 43 => ⟨S16x16x12x128x128, .f32⟩
  | 44 => ⟨S_, .f32⟩
  | 45 => ⟨S128, .f32⟩
  | 46 => ⟨S128, .f32⟩
  | 47 => ⟨S1x128, .f32⟩
  | 48 => ⟨S12x1, .f32⟩
  | 49 => ⟨S12x128, .f32⟩
  | 50 => ⟨S12x128, .f32⟩
  | 51 => ⟨S12x128, .f32⟩
  | 52 => ⟨S12x128, .f32⟩
  | 53 => ⟨S1x12x1x128x1, .f32⟩
  | 54 => ⟨S16x12x16x128x128, .f32⟩
  | 55 => ⟨S16x12x16x128x128, .f32⟩
  | 56 => ⟨S16x12x16x128x128, .f32⟩
  | 57 => ⟨S16x12x16x128x128, .f32⟩
  | 58 => ⟨S16x12x16x128x128, .f32⟩
  | 59 => ⟨S16x12x16x128x128, .f32⟩
  | 60 => ⟨S16x12x16x128x128, .f32⟩
  | 61 => ⟨S1x12, .f32⟩
  | 62 => ⟨S12, .f32⟩
  | 63 => ⟨S128, .f32⟩
  | 64 => ⟨S128x1, .f32⟩
  | 65 => ⟨S1x128, .f32⟩
  | 66 => ⟨S128x128, .f32⟩
  | 67 => ⟨S128x128, .f32⟩
  | 68 => ⟨S128x128, .f32⟩
  | 69 => ⟨S_, .f32⟩
  | 70 => ⟨S128x128, .f32⟩
  | 71 => ⟨S128x128, .i1⟩
  | 72 => ⟨S1x128x128, .i1⟩
  | 73 => ⟨S_, .f32⟩
  | 74 => ⟨S_, .f32⟩
  | 75 => ⟨S128x128, .f32⟩
  | 76 => ⟨S128x128, .f32⟩
  | 77 => ⟨S1x128x128, .f32⟩
  | 78 => ⟨S12x1x1, .f32⟩
  | 79 => ⟨S12x128x128, .f32⟩
  | 80 => ⟨S12x128x128, .f32⟩
  | 81 => ⟨S12x128x128, .f32⟩
  | 82 => ⟨S12x128x128, .f32⟩
  | 83 => ⟨S_, .f32⟩
  | 84 => ⟨S_, .f32⟩
  | 85 => ⟨S12x128x128, .i1⟩
  | 86 => ⟨S12x128x128, .f32⟩
  | 87 => ⟨S12x128x128, .f32⟩
  | 88 => ⟨S16x12x16x128x128, .f32⟩
  | 89 => ⟨S1x12x1x128x128, .f32⟩
  | 90 => ⟨S16x12x16x128x128, .f32⟩
  | 91 => ⟨S16x12x16x128x128, .f32⟩
  | 92 => ⟨S16x12x16x128x128, .f32⟩
  | 93 => ⟨S_, .f32⟩
  | 94 => ⟨S128, .f32⟩
  | 95 => ⟨S128, .f32⟩
  | 96 => ⟨S1x128, .f32⟩
  | 97 => ⟨S12x1, .f32⟩
  | 98 => ⟨S12x128, .f32⟩
  | 99 => ⟨S12x128, .f32⟩
  | 100 => ⟨S12x128, .f32⟩
  | 101 => ⟨S12x128, .f32⟩
  | 102 => ⟨S1x12x1x128x1, .f32⟩
  | 103 => ⟨S16x12x16x128x128, .f32⟩
  | 104 => ⟨S16x12x16x128x128, .f32⟩
  | 105 => ⟨S16x16x12x128x128, .f32⟩
  | 106 => ⟨S_, .f32⟩
  | 107 => ⟨S12, .f32⟩
  | 108 => ⟨S12, .f32⟩
  | 109 => ⟨S12, .f32⟩
  | 110 => ⟨S1x12x1x1, .f32⟩
  | 111 => ⟨S_, .f32⟩
  | 112 => ⟨S16x12x128x128, .f32⟩
  | 113 => ⟨S1x16x12x128x128, .f32⟩
  | 114 => ⟨S16x12x128x128, .f32⟩
  | 115 => ⟨S1x16x12x128x128, .f32⟩
  | 116 => ⟨S16x12x128x128, .f32⟩
  | 117 => ⟨S1x16x12x128x128, .f32⟩
  | 118 => ⟨S16x12x128x128, .f32⟩
  | 119 => ⟨S1x16x12x128x128, .f32⟩
  | 120 => ⟨S16x12x128x128, .f32⟩
  | 121 => ⟨S1x16x12x128x128, .f32⟩
  | 122 => ⟨S16x12x128x128, .f32⟩
  | 123 => ⟨S1x16x12x128x128, .f32⟩
  | 124 => ⟨S16x12x128x128, .f32⟩
  | 125 => ⟨S1x16x12x128x128, .f32⟩
  | 126 => ⟨S16x12x128x128, .f32⟩
  | 127 => ⟨S1x16x12x128x128, .f32⟩
  | _ => ⟨S16x2048x6656, .bf16⟩

abbrev hbmTy0_2 (i : Nat) : BufTy := match i % 128 with
  | 0 => ⟨S16x12x128x128, .f32⟩
  | 1 => ⟨S1x16x12x128x128, .f32⟩
  | 2 => ⟨S16x12x128x128, .f32⟩
  | 3 => ⟨S1x16x12x128x128, .f32⟩
  | 4 => ⟨S16x12x128x128, .f32⟩
  | 5 => ⟨S1x16x12x128x128, .f32⟩
  | 6 => ⟨S16x12x128x128, .f32⟩
  | 7 => ⟨S1x16x12x128x128, .f32⟩
  | 8 => ⟨S16x12x128x128, .f32⟩
  | 9 => ⟨S1x16x12x128x128, .f32⟩
  | 10 => ⟨S16x12x128x128, .f32⟩
  | 11 => ⟨S1x16x12x128x128, .f32⟩
  | 12 => ⟨S16x12x128x128, .f32⟩
  | 13 => ⟨S1x16x12x128x128, .f32⟩
  | 14 => ⟨S16x12x128x128, .f32⟩
  | 15 => ⟨S1x16x12x128x128, .f32⟩
  | 16 => ⟨S16x12x128x128, .f32⟩
  | 17 => ⟨S16x12x128x128, .f32⟩
  | 18 => ⟨S16x12x128x128, .f32⟩
  | 19 => ⟨S16x12x128x128, .f32⟩
  | 20 => ⟨S16x12x128x128, .f32⟩
  | 21 => ⟨S16x12x128x128, .f32⟩
  | 22 => ⟨S16x12x128x128, .f32⟩
  | 23 => ⟨S16x12x128x128, .f32⟩
  | 24 => ⟨S16x12x128x128, .f32⟩
  | 25 => ⟨S16x12x128x128, .f32⟩
  | 26 => ⟨S16x12x128x128, .f32⟩
  | 27 => ⟨S16x12x128x128, .f32⟩
  | 28 => ⟨S16x12x128x128, .f32⟩
  | 29 => ⟨S16x12x128x128, .f32⟩
  | 30 => ⟨S16x12x128x128, .f32⟩
  | 31 => ⟨S16x12x128x128, .f32⟩
  | 32 => ⟨S16x12x128x128, .f32⟩
  | 33 => ⟨S16x12x128x128, .f32⟩
  | 34 => ⟨S16x12x128x128, .f32⟩
  | 35 => ⟨S16x12x128x128, .f32⟩
  | 36 => ⟨S16x12x128x128, .f32⟩
  | 37 => ⟨S16x12x128x128, .f32⟩
  | 38 => ⟨S16x12x128x128, .f32⟩
  | 39 => ⟨S16x12x128x128, .f32⟩
  | 40 => ⟨S16x12x128x128, .f32⟩
  | 41 => ⟨S16x12x128x128, .f32⟩
  | 42 => ⟨S16x12x128x128, .f32⟩
  | 43 => ⟨S16x12x128x128, .f32⟩
  | 44 => ⟨S16x12x128x128, .f32⟩
  | 45 => ⟨S16x12x128x128, .f32⟩
  | 46 => ⟨S16x12x128x128, .f32⟩
  | 47 => ⟨S16x12x128x128, .f32⟩
  | 48 => ⟨S16x12x128x128, .f32⟩
  | 49 => ⟨S16x12x128x128, .f32⟩
  | 50 => ⟨S16x12x128x128, .f32⟩
  | 51 => ⟨S16x12x128x128, .f32⟩
  | 52 => ⟨S16x12x128x128, .f32⟩
  | 53 => ⟨S16x12x128x128, .f32⟩
  | 54 => ⟨S16x12x128x128, .f32⟩
  | 55 => ⟨S16x12x128x128, .f32⟩
  | 56 => ⟨S16x12x128x128, .f32⟩
  | 57 => ⟨S16x12x128x128, .f32⟩
  | 58 => ⟨S16x12x128x128, .f32⟩
  | 59 => ⟨S16x12x128x128, .f32⟩
  | 60 => ⟨S16x12x128x128, .f32⟩
  | 61 => ⟨S16x12x128x128, .f32⟩
  | 62 => ⟨S16x12x128x128, .f32⟩
  | 63 => ⟨S16x12x128x128, .f32⟩
  | 64 => ⟨S16x12x128x128, .f32⟩
  | 65 => ⟨S1x16x12x128x128, .f32⟩
  | 66 => ⟨S1x16x12x128x128, .f32⟩
  | 67 => ⟨S1x16x12x128x128, .f32⟩
  | 68 => ⟨S1x16x12x128x128, .f32⟩
  | 69 => ⟨S1x16x12x128x128, .f32⟩
  | 70 => ⟨S1x16x12x128x128, .f32⟩
  | 71 => ⟨S1x16x12x128x128, .f32⟩
  | 72 => ⟨S1x16x12x128x128, .f32⟩
  | 73 => ⟨S1x16x12x128x128, .f32⟩
  | 74 => ⟨S1x16x12x128x128, .f32⟩
  | 75 => ⟨S1x16x12x128x128, .f32⟩
  | 76 => ⟨S1x16x12x128x128, .f32⟩
  | 77 => ⟨S1x16x12x128x128, .f32⟩
  | 78 => ⟨S1x16x12x128x128, .f32⟩
  | 79 => ⟨S1x16x12x128x128, .f32⟩
  | 80 => ⟨S1x16x12x128x128, .f32⟩
  | 81 => ⟨S16x16x12x128x128, .f32⟩
  | 82 => ⟨S_, .f32⟩
  | 83 => ⟨S128, .f32⟩
  | 84 => ⟨S128, .f32⟩
  | 85 => ⟨S1x128, .f32⟩
  | 86 => ⟨S12x1, .f32⟩
  | 87 => ⟨S12x128, .f32⟩
  | 88 => ⟨S12x128, .f32⟩
  | 89 => ⟨S12x128, .f32⟩
  | 90 => ⟨S12x128, .f32⟩
  | 91 => ⟨S1x12x1x128x1, .f32⟩
  | 92 => ⟨S16x12x16x128x128, .f32⟩
  | 93 => ⟨S16x12x16x128x128, .f32⟩
  | 94 => ⟨S16x12x16x128x128, .f32⟩
  | 95 => ⟨S16x12x16x128x128, .f32⟩
  | 96 => ⟨S16x12x16x128x128, .f32⟩
  | 97 => ⟨S16x12x16x128x128, .f32⟩
  | 98 => ⟨S16x16x128x12x128, .f32⟩
  | 99 => ⟨S16x2048x12x128, .f32⟩
  | 100 => ⟨S16x2048x12x128, .f32⟩
  | 101 => ⟨S_, .f32⟩
  | 102 => ⟨S16x2048x12, .f32⟩
  | 103 => ⟨S16x2048x12x1, .f32⟩
  | 104 => ⟨S_, .f32⟩
  | 105 => ⟨S16x2048x12x1, .f32⟩
  | 106 => ⟨S16x2048x12x1, .f32⟩
  | 107 => ⟨S_, .f32⟩
  | 108 => ⟨S16x2048x12x1, .f32⟩
  | 109 => ⟨S16x2048x12x1, .f32⟩
  | 110 => ⟨S16x2048x12x1, .f32⟩
  | 111 => ⟨S16x2048x12x128, .f32⟩
  | 112 => ⟨S16x2048x12x128, .f32⟩
  | 113 => ⟨S16x2048x1536, .f32⟩
  | 114 => ⟨S16x2048x1536, .f32⟩
  | 115 => ⟨S16x2048x1536, .bf16⟩
  | _ => ⟨S16x2048x6656, .bf16⟩

abbrev hbmTy (i : Nat) : BufTy := match i / 128 with
  | 0 => hbmTy0_0 i
  | 1 => hbmTy0_1 i
  | 2 => hbmTy0_2 i
  | _ => ⟨S16x2048x6656, .bf16⟩

abbrev bufTy : (tb : Table) → Fin (tcTables nBuf tb) → BufTy
  | .hbm, ⟨i, _⟩ => hbmTy i
  | _, _ => ⟨S16x2048x6656, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_cst_0 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_cst_1 : Ref sig .tc := ⟨.hbm, 35, rfl⟩
abbrev main_call0_v0 : Ref sig .tc := ⟨.hbm, 36, rfl⟩
abbrev main_call0_v1 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_cst_2 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_3 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_cst_4 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_cst_5 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_v122 : Ref sig .tc := ⟨.hbm, 136, rfl⟩
abbrev main_v123 : Ref sig .tc := ⟨.hbm, 137, rfl⟩
abbrev main_v124 : Ref sig .tc := ⟨.hbm, 138, rfl⟩
abbrev main_v125 : Ref sig .tc := ⟨.hbm, 139, rfl⟩
abbrev main_v126 : Ref sig .tc := ⟨.hbm, 140, rfl⟩
abbrev main_v127 : Ref sig .tc := ⟨.hbm, 141, rfl⟩
abbrev main_v128 : Ref sig .tc := ⟨.hbm, 142, rfl⟩
abbrev main_v129 : Ref sig .tc := ⟨.hbm, 143, rfl⟩
abbrev main_v130 : Ref sig .tc := ⟨.hbm, 144, rfl⟩
abbrev main_v131 : Ref sig .tc := ⟨.hbm, 145, rfl⟩
abbrev main_v132 : Ref sig .tc := ⟨.hbm, 146, rfl⟩
abbrev main_v133 : Ref sig .tc := ⟨.hbm, 147, rfl⟩
abbrev main_v134 : Ref sig .tc := ⟨.hbm, 148, rfl⟩
abbrev main_v135 : Ref sig .tc := ⟨.hbm, 149, rfl⟩
abbrev main_v136 : Ref sig .tc := ⟨.hbm, 150, rfl⟩
abbrev main_v137 : Ref sig .tc := ⟨.hbm, 151, rfl⟩
abbrev main_v138 : Ref sig .tc := ⟨.hbm, 152, rfl⟩
abbrev main_v139 : Ref sig .tc := ⟨.hbm, 153, rfl⟩
abbrev main_v140 : Ref sig .tc := ⟨.hbm, 154, rfl⟩
abbrev main_v141 : Ref sig .tc := ⟨.hbm, 155, rfl⟩
abbrev main_v142 : Ref sig .tc := ⟨.hbm, 156, rfl⟩
abbrev main_v143 : Ref sig .tc := ⟨.hbm, 157, rfl⟩
abbrev main_v144 : Ref sig .tc := ⟨.hbm, 158, rfl⟩
abbrev main_v145 : Ref sig .tc := ⟨.hbm, 159, rfl⟩
abbrev main_v146 : Ref sig .tc := ⟨.hbm, 160, rfl⟩
abbrev main_v147 : Ref sig .tc := ⟨.hbm, 161, rfl⟩
abbrev main_v148 : Ref sig .tc := ⟨.hbm, 162, rfl⟩
abbrev main_v149 : Ref sig .tc := ⟨.hbm, 163, rfl⟩
abbrev main_v150 : Ref sig .tc := ⟨.hbm, 164, rfl⟩
abbrev main_v151 : Ref sig .tc := ⟨.hbm, 165, rfl⟩
abbrev main_v152 : Ref sig .tc := ⟨.hbm, 166, rfl⟩
abbrev main_v153 : Ref sig .tc := ⟨.hbm, 167, rfl⟩
abbrev main_v154 : Ref sig .tc := ⟨.hbm, 168, rfl⟩
abbrev main_v155 : Ref sig .tc := ⟨.hbm, 169, rfl⟩
abbrev main_v156 : Ref sig .tc := ⟨.hbm, 170, rfl⟩
abbrev main_v157 : Ref sig .tc := ⟨.hbm, 171, rfl⟩
abbrev main_cst_6 : Ref sig .tc := ⟨.hbm, 172, rfl⟩
abbrev main_v158 : Ref sig .tc := ⟨.hbm, 173, rfl⟩
abbrev main_v159 : Ref sig .tc := ⟨.hbm, 174, rfl⟩
abbrev main_v160 : Ref sig .tc := ⟨.hbm, 175, rfl⟩
abbrev main_v161 : Ref sig .tc := ⟨.hbm, 176, rfl⟩
abbrev main_v162 : Ref sig .tc := ⟨.hbm, 177, rfl⟩
abbrev main_v163 : Ref sig .tc := ⟨.hbm, 178, rfl⟩
abbrev main_v164 : Ref sig .tc := ⟨.hbm, 179, rfl⟩
abbrev main_v165 : Ref sig .tc := ⟨.hbm, 180, rfl⟩
abbrev main_v166 : Ref sig .tc := ⟨.hbm, 181, rfl⟩
abbrev main_v167 : Ref sig .tc := ⟨.hbm, 182, rfl⟩
abbrev main_v168 : Ref sig .tc := ⟨.hbm, 183, rfl⟩
abbrev main_v169 : Ref sig .tc := ⟨.hbm, 184, rfl⟩
abbrev main_v170 : Ref sig .tc := ⟨.hbm, 185, rfl⟩
abbrev main_v171 : Ref sig .tc := ⟨.hbm, 186, rfl⟩
abbrev main_v172 : Ref sig .tc := ⟨.hbm, 187, rfl⟩
abbrev main_v173 : Ref sig .tc := ⟨.hbm, 188, rfl⟩
abbrev main_v174 : Ref sig .tc := ⟨.hbm, 189, rfl⟩
abbrev main_v175 : Ref sig .tc := ⟨.hbm, 190, rfl⟩
abbrev main_v176 : Ref sig .tc := ⟨.hbm, 191, rfl⟩
abbrev main_v177 : Ref sig .tc := ⟨.hbm, 192, rfl⟩
abbrev main_v178 : Ref sig .tc := ⟨.hbm, 193, rfl⟩
abbrev main_v179 : Ref sig .tc := ⟨.hbm, 194, rfl⟩
abbrev main_v180 : Ref sig .tc := ⟨.hbm, 195, rfl⟩
abbrev main_v181 : Ref sig .tc := ⟨.hbm, 196, rfl⟩
abbrev main_cst_7 : Ref sig .tc := ⟨.hbm, 197, rfl⟩
abbrev main_v182 : Ref sig .tc := ⟨.hbm, 198, rfl⟩
abbrev main_v183 : Ref sig .tc := ⟨.hbm, 199, rfl⟩
abbrev main_v184 : Ref sig .tc := ⟨.hbm, 200, rfl⟩
abbrev main_cst_8 : Ref sig .tc := ⟨.hbm, 201, rfl⟩
abbrev main_call2_v0 : Ref sig .tc := ⟨.hbm, 202, rfl⟩
abbrev main_call2_v1 : Ref sig .tc := ⟨.hbm, 203, rfl⟩
abbrev main_v185 : Ref sig .tc := ⟨.hbm, 204, rfl⟩
abbrev main_v186 : Ref sig .tc := ⟨.hbm, 205, rfl⟩
abbrev main_v187 : Ref sig .tc := ⟨.hbm, 206, rfl⟩
abbrev main_v188 : Ref sig .tc := ⟨.hbm, 207, rfl⟩
abbrev main_v189 : Ref sig .tc := ⟨.hbm, 208, rfl⟩
abbrev main_v190 : Ref sig .tc := ⟨.hbm, 209, rfl⟩
abbrev main_v191 : Ref sig .tc := ⟨.hbm, 210, rfl⟩
abbrev main_cst_9 : Ref sig .tc := ⟨.hbm, 211, rfl⟩
abbrev main_call3_v0 : Ref sig .tc := ⟨.hbm, 212, rfl⟩
abbrev main_call3_v1 : Ref sig .tc := ⟨.hbm, 213, rfl⟩
abbrev main_call3_v2 : Ref sig .tc := ⟨.hbm, 214, rfl⟩
abbrev main_v192 : Ref sig .tc := ⟨.hbm, 215, rfl⟩
abbrev main_v193 : Ref sig .tc := ⟨.hbm, 216, rfl⟩
abbrev main_v194 : Ref sig .tc := ⟨.hbm, 217, rfl⟩
abbrev main_v195 : Ref sig .tc := ⟨.hbm, 218, rfl⟩
abbrev main_v196 : Ref sig .tc := ⟨.hbm, 219, rfl⟩
abbrev main_v197 : Ref sig .tc := ⟨.hbm, 220, rfl⟩
abbrev main_cst_10 : Ref sig .tc := ⟨.hbm, 221, rfl⟩
abbrev main_v198 : Ref sig .tc := ⟨.hbm, 222, rfl⟩
abbrev main_v199 : Ref sig .tc := ⟨.hbm, 223, rfl⟩
abbrev main_v200 : Ref sig .tc := ⟨.hbm, 224, rfl⟩
abbrev main_v201 : Ref sig .tc := ⟨.hbm, 225, rfl⟩
abbrev main_v202 : Ref sig .tc := ⟨.hbm, 226, rfl⟩
abbrev main_v203 : Ref sig .tc := ⟨.hbm, 227, rfl⟩
abbrev main_v204 : Ref sig .tc := ⟨.hbm, 228, rfl⟩
abbrev main_v205 : Ref sig .tc := ⟨.hbm, 229, rfl⟩
abbrev main_v206 : Ref sig .tc := ⟨.hbm, 230, rfl⟩
abbrev main_v207 : Ref sig .tc := ⟨.hbm, 231, rfl⟩
abbrev main_v208 : Ref sig .tc := ⟨.hbm, 232, rfl⟩
abbrev main_v209 : Ref sig .tc := ⟨.hbm, 233, rfl⟩
abbrev main_cst_11 : Ref sig .tc := ⟨.hbm, 234, rfl⟩
abbrev main_v210 : Ref sig .tc := ⟨.hbm, 235, rfl⟩
abbrev main_v211 : Ref sig .tc := ⟨.hbm, 236, rfl⟩
abbrev main_v212 : Ref sig .tc := ⟨.hbm, 237, rfl⟩
abbrev main_v213 : Ref sig .tc := ⟨.hbm, 238, rfl⟩
abbrev main_cst_12 : Ref sig .tc := ⟨.hbm, 239, rfl⟩
abbrev main_v214 : Ref sig .tc := ⟨.hbm, 240, rfl⟩
abbrev main_v215 : Ref sig .tc := ⟨.hbm, 241, rfl⟩
abbrev main_v216 : Ref sig .tc := ⟨.hbm, 242, rfl⟩
abbrev main_v217 : Ref sig .tc := ⟨.hbm, 243, rfl⟩
abbrev main_v218 : Ref sig .tc := ⟨.hbm, 244, rfl⟩
abbrev main_v219 : Ref sig .tc := ⟨.hbm, 245, rfl⟩
abbrev main_v220 : Ref sig .tc := ⟨.hbm, 246, rfl⟩
abbrev main_v221 : Ref sig .tc := ⟨.hbm, 247, rfl⟩
abbrev main_v222 : Ref sig .tc := ⟨.hbm, 248, rfl⟩
abbrev main_v223 : Ref sig .tc := ⟨.hbm, 249, rfl⟩
abbrev main_v224 : Ref sig .tc := ⟨.hbm, 250, rfl⟩
abbrev main_v225 : Ref sig .tc := ⟨.hbm, 251, rfl⟩
abbrev main_v226 : Ref sig .tc := ⟨.hbm, 252, rfl⟩
abbrev main_v227 : Ref sig .tc := ⟨.hbm, 253, rfl⟩
abbrev main_v228 : Ref sig .tc := ⟨.hbm, 254, rfl⟩
abbrev main_v229 : Ref sig .tc := ⟨.hbm, 255, rfl⟩
abbrev main_v230 : Ref sig .tc := ⟨.hbm, 256, rfl⟩
abbrev main_v231 : Ref sig .tc := ⟨.hbm, 257, rfl⟩
abbrev main_v232 : Ref sig .tc := ⟨.hbm, 258, rfl⟩
abbrev main_v233 : Ref sig .tc := ⟨.hbm, 259, rfl⟩
abbrev main_v234 : Ref sig .tc := ⟨.hbm, 260, rfl⟩
abbrev main_v235 : Ref sig .tc := ⟨.hbm, 261, rfl⟩
abbrev main_v236 : Ref sig .tc := ⟨.hbm, 262, rfl⟩
abbrev main_v237 : Ref sig .tc := ⟨.hbm, 263, rfl⟩
abbrev main_v238 : Ref sig .tc := ⟨.hbm, 264, rfl⟩
abbrev main_v239 : Ref sig .tc := ⟨.hbm, 265, rfl⟩
abbrev main_v240 : Ref sig .tc := ⟨.hbm, 266, rfl⟩
abbrev main_v241 : Ref sig .tc := ⟨.hbm, 267, rfl⟩
abbrev main_v242 : Ref sig .tc := ⟨.hbm, 268, rfl⟩
abbrev main_v243 : Ref sig .tc := ⟨.hbm, 269, rfl⟩
abbrev main_v244 : Ref sig .tc := ⟨.hbm, 270, rfl⟩
abbrev main_v245 : Ref sig .tc := ⟨.hbm, 271, rfl⟩
abbrev main_v246 : Ref sig .tc := ⟨.hbm, 272, rfl⟩
abbrev main_v247 : Ref sig .tc := ⟨.hbm, 273, rfl⟩
abbrev main_v248 : Ref sig .tc := ⟨.hbm, 274, rfl⟩
abbrev main_v249 : Ref sig .tc := ⟨.hbm, 275, rfl⟩
abbrev main_v250 : Ref sig .tc := ⟨.hbm, 276, rfl⟩
abbrev main_v251 : Ref sig .tc := ⟨.hbm, 277, rfl⟩
abbrev main_v252 : Ref sig .tc := ⟨.hbm, 278, rfl⟩
abbrev main_v253 : Ref sig .tc := ⟨.hbm, 279, rfl⟩
abbrev main_v254 : Ref sig .tc := ⟨.hbm, 280, rfl⟩
abbrev main_v255 : Ref sig .tc := ⟨.hbm, 281, rfl⟩
abbrev main_v256 : Ref sig .tc := ⟨.hbm, 282, rfl⟩
abbrev main_v257 : Ref sig .tc := ⟨.hbm, 283, rfl⟩
abbrev main_v258 : Ref sig .tc := ⟨.hbm, 284, rfl⟩
abbrev main_v259 : Ref sig .tc := ⟨.hbm, 285, rfl⟩
abbrev main_v260 : Ref sig .tc := ⟨.hbm, 286, rfl⟩
abbrev main_v261 : Ref sig .tc := ⟨.hbm, 287, rfl⟩
abbrev main_v262 : Ref sig .tc := ⟨.hbm, 288, rfl⟩
abbrev main_v263 : Ref sig .tc := ⟨.hbm, 289, rfl⟩
abbrev main_v264 : Ref sig .tc := ⟨.hbm, 290, rfl⟩
abbrev main_v265 : Ref sig .tc := ⟨.hbm, 291, rfl⟩
abbrev main_v266 : Ref sig .tc := ⟨.hbm, 292, rfl⟩
abbrev main_v267 : Ref sig .tc := ⟨.hbm, 293, rfl⟩
abbrev main_v268 : Ref sig .tc := ⟨.hbm, 294, rfl⟩
abbrev main_v269 : Ref sig .tc := ⟨.hbm, 295, rfl⟩
abbrev main_v270 : Ref sig .tc := ⟨.hbm, 296, rfl⟩
abbrev main_v271 : Ref sig .tc := ⟨.hbm, 297, rfl⟩
abbrev main_v272 : Ref sig .tc := ⟨.hbm, 298, rfl⟩
abbrev main_v273 : Ref sig .tc := ⟨.hbm, 299, rfl⟩
abbrev main_v274 : Ref sig .tc := ⟨.hbm, 300, rfl⟩
abbrev main_v275 : Ref sig .tc := ⟨.hbm, 301, rfl⟩
abbrev main_v276 : Ref sig .tc := ⟨.hbm, 302, rfl⟩
abbrev main_v277 : Ref sig .tc := ⟨.hbm, 303, rfl⟩
abbrev main_v278 : Ref sig .tc := ⟨.hbm, 304, rfl⟩
abbrev main_v279 : Ref sig .tc := ⟨.hbm, 305, rfl⟩
abbrev main_v280 : Ref sig .tc := ⟨.hbm, 306, rfl⟩
abbrev main_v281 : Ref sig .tc := ⟨.hbm, 307, rfl⟩
abbrev main_v282 : Ref sig .tc := ⟨.hbm, 308, rfl⟩
abbrev main_v283 : Ref sig .tc := ⟨.hbm, 309, rfl⟩
abbrev main_v284 : Ref sig .tc := ⟨.hbm, 310, rfl⟩
abbrev main_v285 : Ref sig .tc := ⟨.hbm, 311, rfl⟩
abbrev main_v286 : Ref sig .tc := ⟨.hbm, 312, rfl⟩
abbrev main_v287 : Ref sig .tc := ⟨.hbm, 313, rfl⟩
abbrev main_v288 : Ref sig .tc := ⟨.hbm, 314, rfl⟩
abbrev main_v289 : Ref sig .tc := ⟨.hbm, 315, rfl⟩
abbrev main_v290 : Ref sig .tc := ⟨.hbm, 316, rfl⟩
abbrev main_v291 : Ref sig .tc := ⟨.hbm, 317, rfl⟩
abbrev main_v292 : Ref sig .tc := ⟨.hbm, 318, rfl⟩
abbrev main_v293 : Ref sig .tc := ⟨.hbm, 319, rfl⟩
abbrev main_v294 : Ref sig .tc := ⟨.hbm, 320, rfl⟩
abbrev main_v295 : Ref sig .tc := ⟨.hbm, 321, rfl⟩
abbrev main_v296 : Ref sig .tc := ⟨.hbm, 322, rfl⟩
abbrev main_v297 : Ref sig .tc := ⟨.hbm, 323, rfl⟩
abbrev main_v298 : Ref sig .tc := ⟨.hbm, 324, rfl⟩
abbrev main_v299 : Ref sig .tc := ⟨.hbm, 325, rfl⟩
abbrev main_v300 : Ref sig .tc := ⟨.hbm, 326, rfl⟩
abbrev main_v301 : Ref sig .tc := ⟨.hbm, 327, rfl⟩
abbrev main_v302 : Ref sig .tc := ⟨.hbm, 328, rfl⟩
abbrev main_v303 : Ref sig .tc := ⟨.hbm, 329, rfl⟩
abbrev main_v304 : Ref sig .tc := ⟨.hbm, 330, rfl⟩
abbrev main_v305 : Ref sig .tc := ⟨.hbm, 331, rfl⟩
abbrev main_v306 : Ref sig .tc := ⟨.hbm, 332, rfl⟩
abbrev main_v307 : Ref sig .tc := ⟨.hbm, 333, rfl⟩
abbrev main_v308 : Ref sig .tc := ⟨.hbm, 334, rfl⟩
abbrev main_v309 : Ref sig .tc := ⟨.hbm, 335, rfl⟩
abbrev main_v310 : Ref sig .tc := ⟨.hbm, 336, rfl⟩
abbrev main_v311 : Ref sig .tc := ⟨.hbm, 337, rfl⟩
abbrev main_cst_13 : Ref sig .tc := ⟨.hbm, 338, rfl⟩
abbrev main_v312 : Ref sig .tc := ⟨.hbm, 339, rfl⟩
abbrev main_v313 : Ref sig .tc := ⟨.hbm, 340, rfl⟩
abbrev main_v314 : Ref sig .tc := ⟨.hbm, 341, rfl⟩
abbrev main_v315 : Ref sig .tc := ⟨.hbm, 342, rfl⟩
abbrev main_v316 : Ref sig .tc := ⟨.hbm, 343, rfl⟩
abbrev main_v317 : Ref sig .tc := ⟨.hbm, 344, rfl⟩
abbrev main_v318 : Ref sig .tc := ⟨.hbm, 345, rfl⟩
abbrev main_v319 : Ref sig .tc := ⟨.hbm, 346, rfl⟩
abbrev main_v320 : Ref sig .tc := ⟨.hbm, 347, rfl⟩
abbrev main_v321 : Ref sig .tc := ⟨.hbm, 348, rfl⟩
abbrev main_v322 : Ref sig .tc := ⟨.hbm, 349, rfl⟩
abbrev main_v323 : Ref sig .tc := ⟨.hbm, 350, rfl⟩
abbrev main_v324 : Ref sig .tc := ⟨.hbm, 351, rfl⟩
abbrev main_v325 : Ref sig .tc := ⟨.hbm, 352, rfl⟩
abbrev main_v326 : Ref sig .tc := ⟨.hbm, 353, rfl⟩
abbrev main_v327 : Ref sig .tc := ⟨.hbm, 354, rfl⟩
abbrev main_v328 : Ref sig .tc := ⟨.hbm, 355, rfl⟩
abbrev main_v329 : Ref sig .tc := ⟨.hbm, 356, rfl⟩
abbrev main_cst_14 : Ref sig .tc := ⟨.hbm, 357, rfl⟩
abbrev main_v330 : Ref sig .tc := ⟨.hbm, 358, rfl⟩
abbrev main_v331 : Ref sig .tc := ⟨.hbm, 359, rfl⟩
abbrev main_cst_15 : Ref sig .tc := ⟨.hbm, 360, rfl⟩
abbrev main_v332 : Ref sig .tc := ⟨.hbm, 361, rfl⟩
abbrev main_v333 : Ref sig .tc := ⟨.hbm, 362, rfl⟩
abbrev main_cst_16 : Ref sig .tc := ⟨.hbm, 363, rfl⟩
abbrev main_v334 : Ref sig .tc := ⟨.hbm, 364, rfl⟩
abbrev main_v335 : Ref sig .tc := ⟨.hbm, 365, rfl⟩
abbrev main_v336 : Ref sig .tc := ⟨.hbm, 366, rfl⟩
abbrev main_v337 : Ref sig .tc := ⟨.hbm, 367, rfl⟩
abbrev main_v338 : Ref sig .tc := ⟨.hbm, 368, rfl⟩
abbrev main_v339 : Ref sig .tc := ⟨.hbm, 369, rfl⟩
abbrev main_v340 : Ref sig .tc := ⟨.hbm, 370, rfl⟩
abbrev main_v341 : Ref sig .tc := ⟨.hbm, 371, rfl⟩

abbrev nD : Nat := 1
abbrev τ : Topo := Topo.v7x

variable {F : FTy → Type} [FloatOps F]
-- ==== Kernel2.lean ====
abbrev S32768x2048 : Shape := ⟨2, ![32768, 2048]⟩
abbrev S2048 : Shape := ⟨1, ![2048]⟩
abbrev S2x2048x8192 : Shape := ⟨3, ![2, 2048, 8192]⟩
abbrev S2x8192x2048 : Shape := ⟨3, ![2, 8192, 2048]⟩
abbrev S1x2048 : Shape := ⟨2, ![1, 2048]⟩
abbrev S1024x2048 : Shape := ⟨2, ![1024, 2048]⟩
abbrev S1x2048x1024 : Shape := ⟨3, ![1, 2048, 1024]⟩
abbrev S1x1024x2048 : Shape := ⟨3, ![1, 1024, 2048]⟩
abbrev S512x2048 : Shape := ⟨2, ![512, 2048]⟩
abbrev S512 : Shape := ⟨1, ![512]⟩
abbrev S512x1 : Shape := ⟨2, ![512, 1]⟩
abbrev S2048x1024 : Shape := ⟨2, ![2048, 1024]⟩
abbrev S512x1024 : Shape := ⟨2, ![512, 1024]⟩

abbrev nBuf : Space → Nat
  | .hbm => 10
  | .vmem => 11
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048, .f32⟩
  | .hbm, ⟨3, _⟩ => ⟨S2x2048x8192, .f32⟩
  | .hbm, ⟨4, _⟩ => ⟨S2x8192x2048, .f32⟩
  | .hbm, ⟨5, _⟩ => ⟨S2x2048x8192, .bf16⟩
  | .hbm, ⟨6, _⟩ => ⟨S2x8192x2048, .bf16⟩
  | .hbm, ⟨7, _⟩ => ⟨S1x2048, .f32⟩
  | .hbm, ⟨8, _⟩ => ⟨S1x2048, .f32⟩
  | .hbm, ⟨9, _⟩ => ⟨S32768x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048, .f32⟩
  | .local _ .vmem, ⟨4, _⟩ => ⟨S1x2048x1024, .bf16⟩
  | .local _ .vmem, ⟨5, _⟩ => ⟨S1x2048x1024, .bf16⟩
  | .local _ .vmem, ⟨6, _⟩ => ⟨S1x1024x2048, .bf16⟩
  | .local _ .vmem, ⟨7, _⟩ => ⟨S1x1024x2048, .bf16⟩
  | .local _ .vmem, ⟨8, _⟩ => ⟨S1024x2048, .f32⟩
  | .local _ .vmem, ⟨9, _⟩ => ⟨S1024x2048, .f32⟩
  | .local _ .vmem, ⟨10, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![32, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c7_i32 : BitVec 32 := 7#32
  let v4 : BitVec 1 := Scalar.cmpi .slt arg1 c7_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c7_i32_3 : BitVec 32 := 7#32
  let v8 : BitVec 1 := Scalar.cmpi .eq arg1 c7_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S32768x2048 : Shape := ⟨2, ![32768, 2048]⟩
abbrev S2048 : Shape := ⟨1, ![2048]⟩
abbrev S2x2048x8192 : Shape := ⟨3, ![2, 2048, 8192]⟩
abbrev S2x8192x2048 : Shape := ⟨3, ![2, 8192, 2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩
abbrev S1x2048x8192 : Shape := ⟨3, ![1, 2048, 8192]⟩
abbrev S2048x8192 : Shape := ⟨2, ![2048, 8192]⟩
abbrev S32768x8192 : Shape := ⟨2, ![32768, 8192]⟩
abbrev S1x8192x2048 : Shape := ⟨3, ![1, 8192, 2048]⟩
abbrev S8192x2048 : Shape := ⟨2, ![8192, 2048]⟩

abbrev nBuf : Space → Nat
  | .hbm => 48
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048, .f32⟩
  | .hbm, ⟨3, _⟩ => ⟨S2x2048x8192, .f32⟩
  | .hbm, ⟨4, _⟩ => ⟨S2x8192x2048, .f32⟩
  | .hbm, ⟨5, _⟩ => ⟨S32768x2048, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x2048, .f32⟩
  | .hbm, ⟨17, _⟩ => ⟨S32768x2048, .f32⟩
  | .hbm, ⟨18, _⟩ => ⟨S1x2048, .f32⟩
  | .hbm, ⟨19, _⟩ => ⟨S32768x2048, .f32⟩
  | .hbm, ⟨20, _⟩ => ⟨S32768x2048, .f32⟩
  | .hbm, ⟨21, _⟩ => ⟨S1x2048x8192, .f32⟩
  | .hbm, ⟨22, _⟩ => ⟨S2048x8192, .f32⟩
  | .hbm, ⟨23, _⟩ => ⟨S32768x8192, .f32⟩
  | .hbm, ⟨24, _⟩ => ⟨S_, .f32⟩
  | .hbm, ⟨25, _⟩ => ⟨S32768x8192, .f32⟩
  | .hbm, ⟨26, _⟩ => ⟨S32768x8192, .f32⟩
  | .hbm, ⟨27, _⟩ => ⟨S32768x8192, .f32⟩
  | .hbm, ⟨28, _⟩ => ⟨S1x8192x2048, .f32⟩
  | .hbm, ⟨29, _⟩ => ⟨S8192x2048, .f32⟩
  | .hbm, ⟨30, _⟩ => ⟨S32768x2048, .f32⟩
  | .hbm, ⟨31, _⟩ => ⟨S32768x2048, .f32⟩
  | .hbm, ⟨32, _⟩ => ⟨S_, .f32⟩
  | .hbm, ⟨33, _⟩ => ⟨S32768, .f32⟩
  | .hbm, ⟨34, _⟩ => ⟨S32768x1, .f32⟩
  | .hbm, ⟨35, _⟩ => ⟨S_, .f32⟩
  | .hbm, ⟨36, _⟩ => ⟨S32768x1, .f32⟩
  | .hbm, ⟨37, _⟩ => ⟨S32768x1, .f32⟩
  | .hbm, ⟨38, _⟩ => ⟨S_, .f32⟩
  | .hbm, ⟨39, _⟩ => ⟨S32768x1, .f32⟩
  | .hbm, ⟨40, _⟩ => ⟨S32768x1, .f32⟩
  | .hbm, ⟨41, _⟩ => ⟨S32768x1, .f32⟩
  | .hbm, ⟨42, _⟩ => ⟨S32768x2048, .f32⟩
  | .hbm, ⟨43, _⟩ => ⟨S32768x2048, .f32⟩
  | .hbm, ⟨44, _⟩ => ⟨S1x2048, .f32⟩
  | .hbm, ⟨45, _⟩ => ⟨S32768x2048, .f32⟩
  | .hbm, ⟨46, _⟩ => ⟨S32768x2048, .f32⟩
  | .hbm, ⟨47, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_cst : Ref sig .tc := ⟨.hbm, 24, rfl⟩
abbrev main_call0_v0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]
-- ==== Kernel3.lean ====
abbrev S16x2048x2048 : Shape := ⟨3, ![16, 2048, 2048]⟩
abbrev S2048 : Shape := ⟨1, ![2048]⟩
abbrev S1x2048x6656 : Shape := ⟨3, ![1, 2048, 6656]⟩
abbrev S32768x2048 : Shape := ⟨2, ![32768, 2048]⟩
abbrev S1x2048 : Shape := ⟨2, ![1, 2048]⟩
abbrev S64 : Shape := ⟨1, ![64]⟩
abbrev S_ : Shape := ⟨0, ![]⟩
abbrev S2048x1 : Shape := ⟨2, ![2048, 1]⟩
abbrev S1x64 : Shape := ⟨2, ![1, 64]⟩
abbrev S2048x64 : Shape := ⟨2, ![2048, 64]⟩
abbrev S2048x128 : Shape := ⟨2, ![2048, 128]⟩
abbrev S32768x6656 : Shape := ⟨2, ![32768, 6656]⟩
abbrev S512x2048 : Shape := ⟨2, ![512, 2048]⟩
abbrev S512x128 : Shape := ⟨2, ![512, 128]⟩
abbrev S512x6656 : Shape := ⟨2, ![512, 6656]⟩
abbrev S256x2048 : Shape := ⟨2, ![256, 2048]⟩
abbrev S256 : Shape := ⟨1, ![256]⟩
abbrev S256x1 : Shape := ⟨2, ![256, 1]⟩
abbrev S2048x6656 : Shape := ⟨2, ![2048, 6656]⟩
abbrev S256x6656 : Shape := ⟨2, ![256, 6656]⟩
abbrev S256x128 : Shape := ⟨2, ![256, 128]⟩

abbrev nBuf : Space → Nat
  | .hbm => 26
  | .vmem => 10
  | .smem => 0
  | _ => 0

abbrev bufTy : (tb : Table) → Fin (tcTables nBuf tb) → BufTy
  | .hbm, ⟨0, _⟩ => ⟨S16x2048x2048, .f32⟩
  | .hbm, ⟨1, _⟩ => ⟨S2048, .f32⟩
  | .hbm, ⟨2, _⟩ => ⟨S1x2048x6656, .f32⟩
  | .hbm, ⟨3, _⟩ => ⟨S32768x2048, .f32⟩
  | .hbm, ⟨4, _⟩ => ⟨S1x2048x6656, .bf16⟩
  | .hbm, ⟨5, _⟩ => ⟨S1x2048, .f32⟩
  | .hbm, ⟨6, _⟩ => ⟨S64, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S2048, .f32⟩
  | .hbm, ⟨15, _⟩ => ⟨S2048x1, .f32⟩
  | .hbm, ⟨16, _⟩ => ⟨S1x64, .f32⟩
  | .hbm, ⟨17, _⟩ => ⟨S2048x64, .f32⟩
  | .hbm, ⟨18, _⟩ => ⟨S2048x64, .f32⟩
  | .hbm, ⟨19, _⟩ => ⟨S2048x64, .f32⟩
  | .hbm, ⟨20, _⟩ => ⟨S2048x64, .f32⟩
  | .hbm, ⟨21, _⟩ => ⟨S2048x64, .f32⟩
  | .hbm, ⟨22, _⟩ => ⟨S2048x128, .f32⟩
  | .hbm, ⟨23, _⟩ => ⟨S2048x64, .f32⟩
  | .hbm, ⟨24, _⟩ => ⟨S2048x128, .f32⟩
  | .hbm, ⟨25, _⟩ => ⟨S32768x6656, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048x6656, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x6656, .bf16⟩
  | .local _ .vmem, ⟨9, _⟩ => ⟨S512x6656, .bf16⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048x6656 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x6656 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S16x2048x2048 : Shape := ⟨3, ![16, 2048, 2048]⟩
abbrev S2048 : Shape := ⟨1, ![2048]⟩
abbrev S1x2048x6656 : Shape := ⟨3, ![1, 2048, 6656]⟩
abbrev S_ : Shape := ⟨0, ![]⟩
abbrev S16x2048 : Shape := ⟨2, ![16, 2048]⟩
abbrev S16x2048x1 : Shape := ⟨3, ![16, 2048, 1]⟩
abbrev S1x1x2048 : Shape := ⟨3, ![1, 1, 2048]⟩
abbrev S2048x6656 : Shape := ⟨2, ![2048, 6656]⟩
abbrev S16x2048x6656 : Shape := ⟨3, ![16, 2048, 6656]⟩
abbrev S16x2048x1536 : Shape := ⟨3, ![16, 2048, 1536]⟩
abbrev S16x2048x512 : Shape := ⟨3, ![16, 2048, 512]⟩
abbrev S16x2048x12x128 : Shape := ⟨4, ![16, 2048, 12, 128]⟩
abbrev S64 : Shape := ⟨1, ![64]⟩
abbrev S2048x1 : Shape := ⟨2, ![2048, 1]⟩
abbrev S1x64 : Shape := ⟨2, ![1, 64]⟩
abbrev S2048x64 : Shape := ⟨2, ![2048, 64]⟩
abbrev S1x2048x1x64 : Shape := ⟨4, ![1, 2048, 1, 64]⟩
abbrev S16x2048x12x64 : Shape := ⟨4, ![16, 2048, 12, 64]⟩
abbrev S32768x6656 : Shape := ⟨2, ![32768, 6656]⟩

abbrev nBuf : Space → Nat
  | .hbm => 107
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S2048, .f32⟩
  | .hbm, ⟨2, _⟩ => ⟨S1x2048x6656, .f32⟩
  | .hbm, ⟨3, _⟩ => ⟨S16x2048x2048, .f32⟩
  | .hbm, ⟨4, _⟩ => ⟨S_, .f32⟩
  | .hbm, ⟨5, _⟩ => ⟨S16x2048, .f32⟩
  | .hbm, ⟨6, _⟩ => ⟨S16x2048x1, .f32⟩
  | .hbm, ⟨7, _⟩ => ⟨S_, .f32⟩
  | .hbm, ⟨8, _⟩ => ⟨S16x2048x1, .f32⟩
  | .hbm, ⟨9, _⟩ => ⟨S16x2048x1, .f32⟩
  | .hbm, ⟨10, _⟩ => ⟨S_, .f32⟩
  | .hbm, ⟨11, _⟩ => ⟨S16x2048x1, .f32⟩
  | .hbm, ⟨12, _⟩ => ⟨S16x2048x1, .f32⟩
  | .hbm, ⟨13, _⟩ => ⟨S16x2048x1, .f32⟩
  | .hbm, ⟨14, _⟩ => ⟨S16x2048x2048, .f32⟩
  | .hbm, ⟨15, _⟩ => ⟨S16x2048x2048, .f32⟩
  | .hbm, ⟨16, _⟩ => ⟨S1x1x2048, .f32⟩
  | .hbm, ⟨17, _⟩ => ⟨S16x2048x2048, .f32⟩
  | .hbm, ⟨18, _⟩ => ⟨S16x2048x2048, .f32⟩
  | .hbm, ⟨19, _⟩ => ⟨S2048x6656, .f32⟩
  | .hbm, ⟨20, _⟩ => ⟨S16x2048x6656, .f32⟩
  | .hbm, ⟨21, _⟩ => ⟨S16x2048x1536, .f32⟩
  | .hbm, ⟨22, _⟩ => ⟨S16x2048x1536, .f32⟩
  | .hbm, ⟨23, _⟩ => ⟨S16x2048x1536, .f32⟩
  | .hbm, ⟨24, _⟩ => ⟨S16x2048x1536, .f32⟩
  | .hbm, ⟨25, _⟩ => ⟨S16x2048x512, .f32⟩
  | .hbm, ⟨26, _⟩ => ⟨S16x2048x12x128, .f32⟩
  | .hbm, ⟨27, _⟩ => ⟨S64, .f32⟩
  | .hbm, ⟨28, _⟩ => ⟨S64, .f32⟩
  | .hbm, ⟨29, _⟩ => ⟨S_, .f32⟩
  | .hbm, ⟨30, _⟩ => ⟨S64, .f32⟩
  | .hbm, ⟨31, _⟩ => ⟨S64, .f32⟩
  | .hbm, ⟨32, _⟩ => ⟨S_, .f32⟩
  | .hbm, ⟨33, _⟩ => ⟨S64, .f32⟩
  | .hbm, ⟨34, _⟩ => ⟨S64, .f32⟩
  | .hbm, ⟨35, _⟩ => ⟨S2048, .f32⟩
  | .hbm, ⟨36, _⟩ => ⟨S2048x1, .f32⟩
  | .hbm, ⟨37, _⟩ => ⟨S1x64, .f32⟩
  | .hbm, ⟨38, _⟩ => ⟨S2048x64, .f32⟩
  | .hbm, ⟨39, _⟩ => ⟨S2048x64, .f32⟩
  | .hbm, ⟨40, _⟩ => ⟨S2048x64, .f32⟩
  | .hbm, ⟨41, _⟩ => ⟨S2048x64, .f32⟩
  | .hbm, ⟨42, _⟩ => ⟨S1x2048x1x64, .f32⟩
  | .hbm, ⟨43, _⟩ => ⟨S2048x64, .f32⟩
  | .hbm, ⟨44, _⟩ => ⟨S1x2048x1x64, .f32⟩
  | .hbm, ⟨45, _⟩ => ⟨S16x2048x12x64, .f32⟩
  | .hbm, ⟨46, _⟩ => ⟨S16x2048x12x64, .f32⟩
  | .hbm, ⟨47, _⟩ => ⟨S16x2048x12x64, .f32⟩
  | .hbm, ⟨48, _⟩ => ⟨S16x2048x12x64, .f32⟩
  | .hbm, ⟨49, _⟩ => ⟨S16x2048x12x64, .f32⟩
  | .hbm, ⟨50, _⟩ => ⟨S16x2048x12x64, .f32⟩
  | .hbm, ⟨51, _⟩ => ⟨S16x2048x12x64, .f32⟩
  | .hbm, ⟨52, _⟩ => ⟨S16x2048x12x64, .f32⟩
  | .hbm, ⟨53, _⟩ => ⟨S16x2048x12x64, .f32⟩
  | .hbm, ⟨54, _⟩ => ⟨S16x2048x12x64, .f32⟩
  | .hbm, ⟨55, _⟩ => ⟨S16x2048x12x64, .f32⟩
  | .hbm, ⟨56, _⟩ => ⟨S16x2048x12x64, .f32⟩
  | .hbm, ⟨57, _⟩ => ⟨S16x2048x12x128, .f32⟩
  | .hbm, ⟨58, _⟩ => ⟨S16x2048x1536, .f32⟩
  | .hbm, ⟨59, _⟩ => ⟨S16x2048x12x128, .f32⟩
  | .hbm, ⟨60, _⟩ => ⟨S64, .f32⟩
  | .hbm, ⟨61, _⟩ => ⟨S64, .f32⟩
  | .hbm, ⟨62, _⟩ => ⟨S_, .f32⟩
  | .hbm, ⟨63, _⟩ => ⟨S64, .f32⟩
  | .hbm, ⟨64, _⟩ => ⟨S64, .f32⟩
  | .hbm, ⟨65, _⟩ => ⟨S_, .f32⟩
  | .hbm, ⟨66, _⟩ => ⟨S64, .f32⟩
  | .hbm, ⟨67, _⟩ => ⟨S64, .f32⟩
  | .hbm, ⟨68, _⟩ => ⟨S2048, .f32⟩
  | .hbm, ⟨69, _⟩ => ⟨S2048x1, .f32⟩
  | .hbm, ⟨70, _⟩ => ⟨S1x64, .f32⟩
  | .hbm, ⟨71, _⟩ => ⟨S2048x64, .f32⟩
  | .hbm, ⟨72, _⟩ => ⟨S2048x64, .f32⟩
  | .hbm, ⟨73, _⟩ => ⟨S2048x64, .f32⟩
  | .hbm, ⟨74, _⟩ => ⟨S2048x64, .f32⟩
  | .hbm, ⟨75, _⟩ => ⟨S1x2048x1x64, .f32⟩
  | .hbm, ⟨76, _⟩ => ⟨S2048x64, .f32⟩
  | .hbm, ⟨77, _⟩ => ⟨S1x2048x1x64, .f32⟩
  | .hbm, ⟨78, _⟩ => ⟨S16x2048x12x64, .f32⟩
  | .hbm, ⟨79, _⟩ => ⟨S16x2048x12x64, .f32⟩
  | .hbm, ⟨80, _⟩ => ⟨S16x2048x12x64, .f32⟩
  | .hbm, ⟨81, _⟩ => ⟨S16x2048x12x64, .f32⟩
  | .hbm, ⟨82, _⟩ => ⟨S16x2048x12x64, .f32⟩
  | .hbm, ⟨83, _⟩ => ⟨S16x2048x12x64, .f32⟩
  | .hbm, ⟨84, _⟩ => ⟨S16x2048x12x64, .f32⟩
  | .hbm, ⟨85, _⟩ => ⟨S16x2048x12x64, .f32⟩
  | .hbm, ⟨86, _⟩ => ⟨S16x2048x12x64, .f32⟩
  | .hbm, ⟨87, _⟩ => ⟨S16x2048x12x64, .f32⟩
  | .hbm, ⟨88, _⟩ => ⟨S16x2048x12x64, .f32⟩
  | .hbm, ⟨89, _⟩ => ⟨S16x2048x12x64, .f32⟩
  | .hbm, ⟨90, _⟩ => ⟨S16x2048x12x128, .f32⟩
  | .hbm, ⟨91, _⟩ => ⟨S_, .f32⟩
  | .hbm, ⟨92, _⟩ => ⟨S16x2048x12x128, .f32⟩
  | .hbm, ⟨93, _⟩ => ⟨S16x2048x12x128, .f32⟩
  | .hbm, ⟨94, _⟩ => ⟨S16x2048x1536, .f32⟩
  | .hbm, ⟨95, _⟩ => ⟨S16x2048x1536, .f32⟩
  | .hbm, ⟨96, _⟩ => ⟨S16x2048x1536, .f32⟩
  | .hbm, ⟨97, _⟩ => ⟨S_, .f32⟩
  | .hbm, ⟨98, _⟩ => ⟨S16x2048x1536, .f32⟩
  | .hbm, ⟨99, _⟩ => ⟨S16x2048x1536, .f32⟩
  | .hbm, ⟨100, _⟩ => ⟨S_, .f32⟩
  | .hbm, ⟨101, _⟩ => ⟨S16x2048x1536, .f32⟩
  | .hbm, ⟨102, _⟩ => ⟨S16x2048x1536, .f32⟩
  | .hbm, ⟨103, _⟩ => ⟨S16x2048x1536, .f32⟩
  | .hbm, ⟨104, _⟩ => ⟨S16x2048x6656, .f32⟩
  | .hbm, ⟨105, _⟩ => ⟨S32768x6656, .f32⟩
  | .hbm, ⟨106, _⟩ => ⟨S32768x6656, .bf16⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_cst_4 : Ref sig .tc := ⟨.hbm, 62, rfl⟩
abbrev main_v54 : Ref sig .tc := ⟨.hbm, 63, rfl⟩
abbrev main_v55 : Ref sig .tc := ⟨.hbm, 64, rfl⟩
abbrev main_cst_5 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_cst_6 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_call0_v0 : Ref sig .tc := ⟨.hbm, 95, rfl⟩
abbrev main_call0_v1 : Ref sig .tc := ⟨.hbm, 96, rfl⟩
abbrev main_call0_cst : Ref sig .tc := ⟨.hbm, 97, rfl⟩
abbrev main_call0_v2 : Ref sig .tc := ⟨.hbm, 98, rfl⟩
abbrev main_call0_v3 : Ref sig .tc := ⟨.hbm, 99, rfl⟩
abbrev main_call0_cst_0 : Ref sig .tc := ⟨.hbm, 100, rfl⟩
abbrev main_call0_v4 : Ref sig .tc := ⟨.hbm, 101, rfl⟩
abbrev main_call0_v5 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩

abbrev nD : Nat := 1
abbrev τ : Topo := Topo.v7x

variable {F : FTy → Type} [FloatOps F]
-- ==== Kernel4.lean ====
abbrev S32768x1536 : Shape := ⟨2, ![32768, 1536]⟩
abbrev S32768x5120 : Shape := ⟨2, ![32768, 5120]⟩
abbrev S16x256x1024 : Shape := ⟨3, ![16, 256, 1024]⟩
abbrev S32768x2048 : Shape := ⟨2, ![32768, 2048]⟩
abbrev S2048 : Shape := ⟨1, ![2048]⟩
abbrev S2x2048x2048 : Shape := ⟨3, ![2, 2048, 2048]⟩
abbrev S1x2048 : Shape := ⟨2, ![1, 2048]⟩
abbrev S1024x1536 : Shape := ⟨2, ![1024, 1536]⟩
abbrev S1024x512 : Shape := ⟨2, ![1024, 512]⟩
abbrev S1x256x512 : Shape := ⟨3, ![1, 256, 512]⟩
abbrev S1024x2048 : Shape := ⟨2, ![1024, 2048]⟩
abbrev S1x1536x2048 : Shape := ⟨3, ![1, 1536, 2048]⟩
abbrev S1x512x2048 : Shape := ⟨3, ![1, 512, 2048]⟩
abbrev S256x512 : Shape := ⟨2, ![256, 512]⟩
abbrev S256x128 : Shape := ⟨2, ![256, 128]⟩
abbrev S1x256x128 : Shape := ⟨3, ![1, 256, 128]⟩
abbrev S256x256 : Shape := ⟨2, ![256, 256]⟩
abbrev S256 : Shape := ⟨1, ![256]⟩
abbrev S256x1 : Shape := ⟨2, ![256, 1]⟩
abbrev S256x1536 : Shape := ⟨2, ![256, 1536]⟩
abbrev S1536x2048 : Shape := ⟨2, ![1536, 2048]⟩
abbrev S256x2048 : Shape := ⟨2, ![256, 2048]⟩
abbrev S512x2048 : Shape := ⟨2, ![512, 2048]⟩

abbrev nBuf : Space → Nat
  | .hbm => 9
  | .vmem => 15
  | .smem => 0
  | _ => 0

abbrev bufTy : (tb : Table) → Fin (tcTables nBuf tb) → BufTy
  | .hbm, ⟨0, _⟩ => ⟨S32768x1536, .bf16⟩
  | .hbm, ⟨1, _⟩ => ⟨S32768x5120, .bf16⟩
  | .hbm, ⟨2, _⟩ => ⟨S16x256x1024, .bf16⟩
  | .hbm, ⟨3, _⟩ => ⟨S32768x2048, .f32⟩
  | .hbm, ⟨4, _⟩ => ⟨S2048, .f32⟩
  | .hbm, ⟨5, _⟩ => ⟨S2x2048x2048, .f32⟩
  | .hbm, ⟨6, _⟩ => ⟨S2x2048x2048, .bf16⟩
  | .hbm, ⟨7, _⟩ => ⟨S1x2048, .f32⟩
  | .hbm, ⟨8, _⟩ => ⟨S32768x2048, .f32⟩
  | .local _ .vmem, ⟨0, _⟩ => ⟨S1024x1536, .bf16⟩
  | .local _ .vmem, ⟨1, _⟩ => ⟨S1024x1536, .bf16⟩
  | .local _ .vmem, ⟨2, _⟩ => ⟨S1024x512, .bf16⟩
  | .local _ .vmem, ⟨3, _⟩ => ⟨S1024x512, .bf16⟩
  | .local _ .vmem, ⟨4, _⟩ => ⟨S1x256x512, .bf16⟩
  | .local _ .vmem, ⟨5, _⟩ => ⟨S1x256x512, .bf16⟩
  | .local _ .vmem, ⟨6, _⟩ => ⟨S1x256x512, .bf16⟩
  | .local _ .vmem, ⟨7, _⟩ => ⟨S1x256x512, .bf16⟩
  | .local _ .vmem, ⟨8, _⟩ => ⟨S1024x2048, .f32⟩
  | .local _ .vmem, ⟨9, _⟩ => ⟨S1024x2048, .f32⟩
  | .local _ .vmem, ⟨10, _⟩ => ⟨S1x2048, .f32⟩
  | .local _ .vmem, ⟨11, _⟩ => ⟨S1x1536x2048, .bf16⟩
  | .local _ .vmem, ⟨12, _⟩ => ⟨S1x512x2048, .bf16⟩
  | .local _ .vmem, ⟨13, _⟩ => ⟨S1024x2048, .f32⟩
  | .local _ .vmem, ⟨14, _⟩ => ⟨S1024x2048, .f32⟩
  | _, _ => ⟨S32768x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_2 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c1_i32_5 : BitVec 32 := 1#32
  let c0_i32_6 : BitVec 32 := 0#32
  ![v16.toNat, c0_i32_4.toNat, c1_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let c1_i32 : BitVec 32 := 1#32
  let c3_i32 : BitVec 32 := 3#32
  let c0_i32 : BitVec 32 := 0#32
  let c0_i32_0 : BitVec 32 := 0#32
  ![c1_i32.toNat, c3_i32.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1536x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference4Ideal.lean ====
abbrev S32768x1536 : Shape := ⟨2, ![32768, 1536]⟩
abbrev S32768x5120 : Shape := ⟨2, ![32768, 5120]⟩
abbrev S16x256x1024 : Shape := ⟨3, ![16, 256, 1024]⟩
abbrev S32768x2048 : Shape := ⟨2, ![32768, 2048]⟩
abbrev S2048 : Shape := ⟨1, ![2048]⟩
abbrev S2x2048x2048 : Shape := ⟨3, ![2, 2048, 2048]⟩
abbrev S32768x512 : Shape := ⟨2, ![32768, 512]⟩
abbrev S16x256x512 : Shape := ⟨3, ![16, 256, 512]⟩
abbrev S16x256x4x128 : Shape := ⟨4, ![16, 256, 4, 128]⟩
abbrev S16x2048x4x128 : Shape := ⟨4, ![16, 2048, 4, 128]⟩
abbrev S16x4x2048x256 : Shape := ⟨4, ![16, 4, 2048, 256]⟩
abbrev S_ : Shape := ⟨0, ![]⟩
abbrev S16x4x2048 : Shape := ⟨3, ![16, 4, 2048]⟩
abbrev S16x4x2048x1 : Shape := ⟨4, ![16, 4, 2048, 1]⟩
abbrev S16x4x128x2048 : Shape := ⟨4, ![16, 4, 128, 2048]⟩
abbrev S1x2048x2048 : Shape := ⟨3, ![1, 2048, 2048]⟩
abbrev S2048x2048 : Shape := ⟨2, ![2048, 2048]⟩
abbrev S32768 : Shape := ⟨1, ![32768]⟩
abbrev S32768x1 : Shape := ⟨2, ![32768, 1]⟩
abbrev S1x2048 : Shape := ⟨2, ![1, 2048]⟩

abbrev nBuf : Space → Nat
  | .hbm => 57
  | .vmem => 0
  | .smem => 0
  | _ => 0

abbrev bufTy : (tb : Table) → Fin (tcTables nBuf tb) → BufTy
  | .hbm, ⟨0, _⟩ => ⟨S32768x1536, .bf16⟩
  | .hbm, ⟨1, _⟩ => ⟨S32768x5120, .bf16⟩
  | .hbm, ⟨2, _⟩ => ⟨S16x256x1024, .bf16⟩
  | .hbm, ⟨3, _⟩ => ⟨S32768x2048, .f32⟩
  | .hbm, ⟨4, _⟩ => ⟨S2048, .f32⟩
  | .hbm, ⟨5, _⟩ => ⟨S2x2048x2048, .f32⟩
  | .hbm, ⟨6, _⟩ => ⟨S32768x5120, .f32⟩
  | .hbm, ⟨7, _⟩ => ⟨S32768x512, .f32⟩
  | .hbm, ⟨8, _⟩ => ⟨S16x256x1024, .f32⟩
  | .hbm, ⟨9, _⟩ => ⟨S16x256x512, .f32⟩
  | .hbm, ⟨10, _⟩ => ⟨S16x256x512, .f32⟩
  | .hbm, ⟨11, _⟩ => ⟨S16x256x4x128, .f32⟩
  | .hbm, ⟨12, _⟩ => ⟨S16x256x4x128, .f32⟩
  | .hbm, ⟨13, _⟩ => ⟨S16x2048x4x128, .f32⟩
  | .hbm, ⟨14, _⟩ => ⟨S16x4x2048x256, .f32⟩
  | .hbm, ⟨15, _⟩ => ⟨S_, .f32⟩
  | .hbm, ⟨16, _⟩ => ⟨S16x4x2048x256, .f32⟩
  | .hbm, ⟨17, _⟩ => ⟨S16x4x2048x256, .f32⟩
  | .hbm, ⟨18, _⟩ => ⟨S_, .f32⟩
  | .hbm, ⟨19, _⟩ => ⟨S16x4x2048, .f32⟩
  | .hbm, ⟨20, _⟩ => ⟨S_, .f32⟩
  | .hbm, ⟨21, _⟩ => ⟨S16x4x2048, .f32⟩
  | .hbm, ⟨22, _⟩ => ⟨S16x4x2048, .f32⟩
  | .hbm, ⟨23, _⟩ => ⟨S16x4x2048x1, .f32⟩
  | .hbm, ⟨24, _⟩ => ⟨S16x4x2048x256, .f32⟩
  | .hbm, ⟨25, _⟩ => ⟨S16x4x2048x256, .f32⟩
  | .hbm, ⟨26, _⟩ => ⟨S16x4x2048x256, .f32⟩
  | .hbm, ⟨27, _⟩ => ⟨S_, .f32⟩
  | .hbm, ⟨28, _⟩ => ⟨S16x4x2048, .f32⟩
  | .hbm, ⟨29, _⟩ => ⟨S16x4x2048x1, .f32⟩
  | .hbm, ⟨30, _⟩ => ⟨S16x4x2048x256, .f32⟩
  | .hbm, ⟨31, _⟩ => ⟨S16x4x2048x256, .f32⟩
  | .hbm, ⟨32, _⟩ => ⟨S16x4x128x2048, .f32⟩
  | .hbm, ⟨33, _⟩ => ⟨S16x2048x4x128, .f32⟩
  | .hbm, ⟨34, _⟩ => ⟨S32768x512, .f32⟩
  | .hbm, ⟨35, _⟩ => ⟨S32768x1536, .f32⟩
  | .hbm, ⟨36, _⟩ => ⟨S32768x2048, .f32⟩
  | .hbm, ⟨37, _⟩ => ⟨S1x2048x2048, .f32⟩
  | .hbm, ⟨38, _⟩ => ⟨S2048x2048, .f32⟩
  | .hbm, ⟨39, _⟩ => ⟨S32768x2048, .f32⟩
  | .hbm, ⟨40, _⟩ => ⟨S32768x2048, .f32⟩
  | .hbm, ⟨41, _⟩ => ⟨S_, .f32⟩
  | .hbm, ⟨42, _⟩ => ⟨S32768, .f32⟩
  | .hbm, ⟨43, _⟩ => ⟨S32768x1, .f32⟩
  | .hbm, ⟨44, _⟩ => ⟨S_, .f32⟩
  | .hbm, ⟨45, _⟩ => ⟨S32768x1, .f32⟩
  | .hbm, ⟨46, _⟩ => ⟨S32768x1, .f32⟩
  | .hbm, ⟨47, _⟩ => ⟨S_, .f32⟩
  | .hbm, ⟨48, _⟩ => ⟨S32768x1, .f32⟩
  | .hbm, ⟨49, _⟩ => ⟨S32768x1, .f32⟩
  | .hbm, ⟨50, _⟩ => ⟨S32768x1, .f32⟩
  | .hbm, ⟨51, _⟩ => ⟨S32768x2048, .f32⟩
  | .hbm, ⟨52, _⟩ => ⟨S32768x2048, .f32⟩
  | .hbm, ⟨53, _⟩ => ⟨S1x2048, .f32⟩
  | .hbm, ⟨54, _⟩ => ⟨S32768x2048, .f32⟩
  | .hbm, ⟨55, _⟩ => ⟨S32768x2048, .f32⟩
  | .hbm, ⟨56, _⟩ => ⟨S32768x2048, .f32⟩
  | _, _ => ⟨S32768x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_3 : Ref sig .tc := ⟨.hbm, 41, rfl⟩
abbrev main_v31 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_v34 : Ref sig .tc := ⟨.hbm, 46, rfl⟩
abbrev main_cst_5 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩

abbrev nD : Nat := 1
abbrev τ : Topo := Topo.v7x

variable {F : FTy → Type} [FloatOps F]
-- ==== Proof.RetRun.lean ====
/- One grid point of the retention kernel, run once: what its stores leave in the output block, as the list of
   the 64 pieces stored (four sequences of sixteen chunks), each piece's value as the run names it. -/
module

public import proofs.«01_k».proof.Proof.Gen.KernelIdeal.Frame
public import proofs.«01_k».proof.Proof.Gen.KernelIdeal.Skeleton

@[expose] public section

set_option maxRecDepth 16384

noncomputable section

namespace Cert.KernelIdeal.Ret

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 40000000 in
set_option sl_exec.squeezeSlice true in
/-- The pieces the body stores into the output block, last first, with the run that stores them: from whole
    staging buffers, the inputs at their contents and the output and the three scratches at anything, the body
    ends with the inputs as they were, the output's pieces written and the scratches at some contents. -/
noncomputable def pieces (c : Dev nD) (i : grid0.Coords) (arg2 : Memref sig .tc .vmem S1x2x128 .f32) (harg2 : arg2.IsWhole) (arg3 : Memref sig .tc .vmem S4x2048x128 .bf16) (harg3 : arg3.IsWhole) (arg4 : Memref sig .tc .vmem S4x2048x128 .bf16) (harg4 : arg4.IsWhole) (arg5 : Memref sig .tc .vmem S4x2048x128 .bf16) (harg5 : arg5.IsWhole) (arg6 : Memref sig .tc .vmem S4x2048x128 .bf16) (harg6 : arg6.IsWhole) (arg7 : Memref sig .tc .vmem S4x2048x128 .bf16) (harg7 : arg7.IsWhole) (arg8 : Memref sig .tc .vmem S64x128x128 .f32) (harg8 : arg8.IsWhole) (arg9 : Memref sig .tc .vmem S64x128x128 .bf16) (harg9 : arg9.IsWhole) (arg10 : Memref sig .tc .vmem S64x128x128 .bf16) (harg10 : arg10.IsWhole)
    (xd : Vec F S1x2x128 .f32) (xq : Vec F S4x2048x128 .bf16) (xk : Vec F S4x2048x128 .bf16) (xv : Vec F S4x2048x128 .bf16) (xg : Vec F S4x2048x128 .bf16) :
    { L : List (View.Piece (Elt F) S4x2048x128 .bf16) // ∀ (E : Set ℕ) (K : PUnit → sProp 𝕄),
        iprop(owns (c : Thread nD τ) arg2 fullShare xd ∗ owns (c : Thread nD τ) arg3 fullShare xq ∗ owns (c : Thread nD τ) arg4 fullShare xk ∗ owns (c : Thread nD τ) arg5 fullShare xv ∗ owns (c : Thread nD τ) arg6 fullShare xg ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare xd ∗ owns (c : Thread nD τ) arg3 fullShare xq ∗ owns (c : Thread nD τ) arg4 fullShare xk ∗ owns (c : Thread nD τ) arg5 fullShare xv ∗ owns (c : Thread nD τ) arg6 fullShare xg ∗ (∃ f, arg7.view.loc (c : Thread nD τ) ↦[arg7.view.set]{fullShare} arg7.view.writes (Elt F) f L) ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := F)) Variants.none c none) E (cc0_retention i arg2 harg2 arg3 harg3 arg4 harg4 arg5 harg5 arg6 harg6 arg7 harg7 arg8 harg8 arg9 harg9 arg10 harg10) K } := by
  refine ⟨?_, fun E K => ?run⟩
  case run =>
    simp only [cc0_retention_eq_skeleton]; unfold cc0_retention_skel
    simp only [k0_part170_eq_skeleton, k0_part1_eq_skeleton, k0_part2_eq_skeleton, k0_part3_eq_skeleton, k0_part4_eq_skeleton, k0_part5_eq_skeleton,
      k0_part6_eq_skeleton, k0_part7_eq_skeleton, k0_part8_eq_skeleton, k0_part9_eq_skeleton, k0_part10_eq_skeleton, k0_part11_eq_skeleton,
      k0_part12_eq_skeleton, k0_part13_eq_skeleton, k0_part14_eq_skeleton, k0_part15_eq_skeleton, k0_part16_eq_skeleton, k0_part17_eq_skeleton,
      k0_part18_eq_skeleton, k0_part19_eq_skeleton, k0_part20_eq_skeleton, k0_part21_eq_skeleton, k0_part22_eq_skeleton, k0_part23_eq_skeleton,
      k0_part24_eq_skeleton, k0_part25_eq_skeleton, k0_part26_eq_skeleton, k0_part27_eq_skeleton, k0_part28_eq_skeleton, k0_part29_eq_skeleton,
      k0_part30_eq_skeleton, k0_part31_eq_skeleton, k0_part32_eq_skeleton, k0_part33_eq_skeleton, k0_part34_eq_skeleton, k0_part35_eq_skeleton,
      k0_part36_eq_skeleton, k0_part37_eq_skeleton, k0_part38_eq_skeleton, k0_part39_eq_skeleton, k0_part40_eq_skeleton, k0_part41_eq_skeleton,
      k0_part42_eq_skeleton, k0_part43_eq_skeleton, k0_part44_eq_skeleton, k0_part45_eq_skeleton, k0_part46_eq_skeleton, k0_part47_eq_skeleton,
      k0_part48_eq_skeleton, k0_part49_eq_skeleton, k0_part50_eq_skeleton, k0_part51_eq_skeleton, k0_part52_eq_skeleton, k0_part53_eq_skeleton,
      k0_part54_eq_skeleton, k0_part55_eq_skeleton, k0_part56_eq_skeleton, k0_part57_eq_skeleton, k0_part58_eq_skeleton, k0_part59_eq_skeleton,
      k0_part60_eq_skeleton, k0_part61_eq_skeleton, k0_part62_eq_skeleton, k0_part63_eq_skeleton, k0_part64_eq_skeleton, k0_part65_eq_skeleton,
      k0_part66_eq_skeleton, k0_part67_eq_skeleton, k0_part68_eq_skeleton, k0_part69_eq_skeleton, k0_part70_eq_skeleton, k0_part71_eq_skeleton,
      k0_part72_eq_skeleton, k0_part73_eq_skeleton, k0_part74_eq_skeleton, k0_part75_eq_skeleton, k0_part76_eq_skeleton, k0_part77_eq_skeleton,
      k0_part78_eq_skeleton, k0_part79_eq_skeleton, k0_part80_eq_skeleton, k0_part81_eq_skeleton, k0_part82_eq_skeleton, k0_part83_eq_skeleton,
      k0_part84_eq_skeleton, k0_part85_eq_skeleton, k0_part86_eq_skeleton, k0_part87_eq_skeleton, k0_part88_eq_skeleton, k0_part89_eq_skeleton,
      k0_part90_eq_skeleton, k0_part91_eq_skeleton, k0_part92_eq_skeleton, k0_part93_eq_skeleton, k0_part94_eq_skeleton, k0_part95_eq_skeleton,
      k0_part96_eq_skeleton, k0_part97_eq_skeleton, k0_part98_eq_skeleton, k0_part99_eq_skeleton, k0_part100_eq_skeleton, k0_part101_eq_skeleton,
      k0_part102_eq_skeleton, k0_part103_eq_skeleton, k0_part104_eq_skeleton, k0_part105_eq_skeleton, k0_part106_eq_skeleton, k0_part107_eq_skeleton,
      k0_part108_eq_skeleton, k0_part109_eq_skeleton, k0_part110_eq_skeleton, k0_part111_eq_skeleton, k0_part112_eq_skeleton, k0_part113_eq_skeleton,
      k0_part114_eq_skeleton, k0_part115_eq_skeleton, k0_part116_eq_skeleton, k0_part117_eq_skeleton, k0_part118_eq_skeleton, k0_part119_eq_skeleton,
      k0_part120_eq_skeleton, k0_part121_eq_skeleton, k0_part122_eq_skeleton, k0_part123_eq_skeleton, k0_part124_eq_skeleton, k0_part125_eq_skeleton,
      k0_part126_eq_skeleton, k0_part127_eq_skeleton, k0_part128_eq_skeleton, k0_part129_eq_skeleton, k0_part130_eq_skeleton, k0_part131_eq_skeleton,
      k0_part132_eq_skeleton, k0_part133_eq_skeleton, k0_part134_eq_skeleton, k0_part135_eq_skeleton, k0_part136_eq_skeleton, k0_part137_eq_skeleton,
      k0_part138_eq_skeleton, k0_part139_eq_skeleton, k0_part140_eq_skeleton, k0_part141_eq_skeleton, k0_part142_eq_skeleton, k0_part143_eq_skeleton,
      k0_part144_eq_skeleton, k0_part145_eq_skeleton, k0_part146_eq_skeleton, k0_part147_eq_skeleton, k0_part148_eq_skeleton, k0_part149_eq_skeleton,
      k0_part150_eq_skeleton, k0_part151_eq_skeleton, k0_part152_eq_skeleton, k0_part153_eq_skeleton, k0_part154_eq_skeleton, k0_part155_eq_skeleton,
      k0_part156_eq_skeleton, k0_part157_eq_skeleton, k0_part158_eq_skeleton, k0_part159_eq_skeleton, k0_part160_eq_skeleton, k0_part161_eq_skeleton,
      k0_part162_eq_skeleton, k0_part163_eq_skeleton, k0_part164_eq_skeleton, k0_part165_eq_skeleton, k0_part166_eq_skeleton, k0_part167_eq_skeleton,
      k0_part168_eq_skeleton, k0_part169_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2
    obtain rfl := harg5.eq_unread hf3; obtain rfl := harg6.eq_unread hf4
    sl_exec
    sl_step
    iapply Hk
    isplitl [H0]; · iexists _; isplitr; · ipureintro; exact harg2.read_unread _
                    iexact H0
    isplitl [H1]; · iexists _; isplitr; · ipureintro; exact harg3.read_unread _
                    iexact H1
    isplitl [H2]; · iexists _; isplitr; · ipureintro; exact harg4.read_unread _
                    iexact H2
    isplitl [H3]; · iexists _; isplitr; · ipureintro; exact harg5.read_unread _
                    iexact H3
    isplitl [H4]; · iexists _; isplitr; · ipureintro; exact harg6.read_unread _
                    iexact H4
    isplitl [H5]; · iexists _; iexact H5
    isplitl [HS0]; · iexists _, _; isplitr; swap; · iexact HS0
                     ipureintro; rfl
    isplitl [HS1]; · iexists _, _; isplitr; swap; · iexact HS1
                     ipureintro; rfl
    iexists _, _; isplitr; swap; · iexact HS2
    ipureintro; rfl

end Cert.KernelIdeal.Ret

end
-- ==== Proof.RetPieces.lean ====
/- What one grid point of the retention kernel stores, as a function of the blocks it reads: each piece of the output is
   one chunk of one sequence, and every chunk is the same function of its number. -/
module

public import proofs.«01_k».proof.Proof.RetRun
public import Idealize.ShloMosaic.Lib.Pipeline.ReadBack
public import Idealize.ShloMosaic.Lib.WholeRead
public import Idealize.ShloMosaic.Lib.Pointwise.Index

@[expose] public section

set_option maxRecDepth 16384

noncomputable section

namespace Cert.KernelIdeal.Ret

open Cert.KernelIdeal Cert.KernelIdeal.Gen
open Idealize.ShloMosaic Idealize.ShloMosaic.TcCoe Idealize.ShloMosaic.Tactic
open Idealize.SL Idealize.SL.RA Idealize.SL.BI

variable {F : FTy → Type} [FloatOps F]

theorem row_inb (n : ℕ) (a : Fin 2) : (![128 * (n % 16), 0] : Fin 2 → ℕ) a + (![128, 128] : Fin 2 → ℕ) a ≤ (![2048, 128] : Fin 2 → ℕ) a := by
  fin_cases a
  · show 128 * (n % 16) + 128 ≤ 2048; omega
  · show 0 + 128 ≤ 128; omega

theorem seq_inb (s : ℕ) (a : Fin 3) : (![s % 4, 0, 0] : Fin 3 → ℕ) a + (![1, 2048, 128] : Fin 3 → ℕ) a ≤ (![4, 2048, 128] : Fin 3 → ℕ) a := by
  fin_cases a
  · show s % 4 + 1 ≤ 4; omega
  · show 0 + 2048 ≤ 2048; omega
  · show 0 + 128 ≤ 128; omega

/-- Chunk `n`'s rows of a sequence. -/
abbrev rowRect (n : ℕ) : Rect S2048x128 := Rect.unit ![128 * (n % 16), 0] ![128, 128] (row_inb n)

/-- Sequence `s` of a block of four. -/
abbrev seqRect (s : ℕ) : Rect S4x2048x128 := Rect.unit ![s % 4, 0, 0] ![1, 2048, 128] (seq_inb s)

theorem lift_size (i : Fin 2) : (![1, 2048, 128] : Fin 3 → ℕ) i.succ = (![2048, 128] : Fin 2 → ℕ) i := by
  fin_cases i <;> rfl

theorem lift_zero : (![1, 2048, 128] : Fin 3 → ℕ) 0 = 1 := rfl

/-- The rows of chunk `n` of sequence `s`, as the body loads them from a staging buffer. -/
def chunk (m : Memref sig .tc .vmem S4x2048x128 .bf16) (hm : m.IsWhole) (x : Vec F S4x2048x128 .bf16) (s n : ℕ) :
    Vec F S128x128 .bf16 :=
  LoadRect.valAlong (lr := (rowRect n).toLoadRect)
    ((rowRect n).toLoadRect.numel_consLift ![1, 2048, 128] lift_zero lift_size)
    (View.readAt (Elt F) m.view
      ((seqRect s).withinL ((rowRect n).toLoadRect.consLift ![1, 2048, 128] lift_zero lift_size) (fun _ => rfl)) (hm.unread x))

/-- The rows of chunk `n` of sequence `s` of a block of four. -/
def rows (x : Vec F S4x2048x128 .bf16) (s n : ℕ) : Vec F S128x128 .bf16 := fun z =>
  x (ix3 (⟨s % 4, Nat.mod_lt _ (by decide)⟩ : Fin 4)
    (⟨128 * (n % 16) + (z 0).val, by have h : (z 0).val < 128 := (z 0).isLt; omega⟩ : Fin 2048) (z 1))

/-- The load reads those rows of the buffer's contents. -/
theorem chunk_eq (m : Memref sig .tc .vmem S4x2048x128 .bf16) (hm : m.IsWhole) (x : Vec F S4x2048x128 .bf16) :
    chunk m hm x = rows x := by
  funext s n z
  unfold chunk rows
  show View.readAt (Elt F) m.view _ (hm.unread x) (Shape.reshapeEquiv _ z) = _
  rw [hm.readAt_unread]
  have hx : Shape.reshapeEquiv ((rowRect n).toLoadRect.numel_consLift ![1, 2048, 128] lift_zero lift_size) z
      = Fin.cons ⟨0, Nat.one_pos⟩ z := Shape.reshapeEquiv_cons_one (d := ![128, 128]) _ _
  refine (congrArg (fun z => x (((seqRect s).withinL ((rowRect n).toLoadRect.consLift ![1, 2048, 128] lift_zero lift_size)
    (fun _ => rfl)).idx z)) hx).trans ?_
  show x (((seqRect s).withinL ((rowRect n).toLoadRect.consLift ![1, 2048, 128] lift_zero lift_size)
    (fun _ => rfl)).idx (Fin.cons ⟨0, Nat.one_pos⟩ z)) = _
  refine congrArg x ?_
  funext a; apply Fin.ext
  fin_cases a
  · show s % 4 + 0 + 1 * 0 = s % 4; omega
  · show 0 + 128 * (n % 16) + 1 * (z 0).val = 128 * (n % 16) + (z 0).val; omega
  · show 0 + 0 + 1 * (z 1).val = (z 1).val; omega

/-- The two decays of a head, as the body loads them from their staging buffer. -/
def decs (m : Memref sig .tc .vmem S1x2x128 .f32) (hm : m.IsWhole) (x : Vec F S1x2x128 .f32) : Vec F S1x2x128 .f32 :=
  View.readAt (Elt F) m.view (Rect.unit (s := S1x2x128) ![0, 0, 0] ![1, 2, 128] inb_S1x2x128_S1x2x128_0_0_0).toLoadRect (hm.unread x)

theorem decs_eq (m : Memref sig .tc .vmem S1x2x128 .f32) (hm : m.IsWhole) (x : Vec F S1x2x128 .f32) : decs m hm x = x := by
  funext y
  unfold decs
  rw [hm.readAt_unread]
  refine congrArg x ?_
  funext a; apply Fin.ext
  fin_cases a
  · show 0 + 1 * (y 0).val = (y 0).val; omega
  · show 0 + 1 * (y 1).val = (y 1).val; omega
  · show 0 + 1 * (y 2).val = (y 2).val; omega

/-! ## The retention of one head, chunk by chunk

The decays are `xd`; `q`, `k`, `v` and `g` give the chunks of the queries, keys, values and gates. -/

variable (xd : Vec F S1x2x128 .f32) (q k v g : ℕ → ℕ → Vec F S128x128 .bf16)

/-- The 256×128 product of the keys' two decayed transposes with the values. -/
def kvC (s n : ℕ) : FVec F S256x128 .f32 :=
  k0_pay66 (k0_pay18 (k0_pay6 xd) (k0_pay7 xd) (k s n)) (v s n)

/-- The forward state before chunk `n`. -/
def sfC (s : ℕ) : ℕ → FVec F S128x128 .f32
  | 0 => k0_pay15
  | n + 1 => k0_pay83 (k0_pay8 xd) (sfC s n) (kvC xd k v s n)

/-- The backward state before the chunk `t` chunks from the last. -/
def sbC (s : ℕ) : ℕ → FVec F S128x128 .f32
  | 0 => k0_pay15
  | t + 1 => addf (mulf (broadcastTo S128x128 (k0_pay9 xd) broadcasts_S1x128_S128x128) (sbC s t))
      (shapeCast S128x128 (k0_pay84 (kvC xd k v s (15 - t))) shapeCasts_S1x128x128_S128x128)

/-- The scores of chunk `n`. -/
def scC (s n : ℕ) : FVec F S128x128 .f32 :=
  k0_pay132 (q s n) (shapeCast S128x128 (k0_pay17 (k s n)) shapeCasts_S1x128x128_S128x128)

/-- The unnormalised retention of chunk `n`. -/
def yC (s n : ℕ) : FVec F S128x128 .f32 :=
  k0_pay181 (k0_pay10 xd) (k0_pay13 (k0_pay12 xd)) (k0_pay14 (k0_pay4 xd) k0_pay11) (scC q k s n)
    (truncf .bf16 (sbC xd k v s (15 - n)) bitsLt_bf16_f32) (q s n) (v s n) (k0_pay82 (sfC xd k v s n))

/-- The block of the output that chunk `n` stores. -/
def outC (s n : ℕ) : Vec F S1x128x128 .bf16 :=
  k0_pay204 (k0_pay203 (yC xd q k v s n)) (g s n)

/-- The piece of the output that the store numbered `p` leaves: the sequences in order, each sequence's chunks in
    order. -/
def piece (p : ℕ) : View.Piece (Elt F) S4x2048x128 .bf16 :=
  have hp : p % 64 < 64 := Nat.mod_lt _ (by decide)
  ⟨Rect.unit (s := S4x2048x128) ![p % 64 / 16, 128 * (p % 16), 0] ![1, 128, 128]
    (by intro a; fin_cases a; · (show p % 64 / 16 + 1 ≤ 4; omega)
        · (show 128 * (p % 16) + 128 ≤ 2048; omega)
        · (show 0 + 128 ≤ 128; omega)), outC xd q k v g (p % 64 / 16) (p % 16)⟩

/-- The first `n` pieces, last first. -/
def pieceList : ℕ → List (View.Piece (Elt F) S4x2048x128 .bf16)
  | 0 => []
  | n + 1 => piece xd q k v g n :: pieceList n

set_option maxHeartbeats 40000000 in
/-- What the run lists is that list. -/
theorem pieces_eq (c : Dev nD) (i : grid0.Coords) (arg2 : Memref sig .tc .vmem S1x2x128 .f32) (harg2 : arg2.IsWhole) (arg3 : Memref sig .tc .vmem S4x2048x128 .bf16) (harg3 : arg3.IsWhole) (arg4 : Memref sig .tc .vmem S4x2048x128 .bf16) (harg4 : arg4.IsWhole) (arg5 : Memref sig .tc .vmem S4x2048x128 .bf16) (harg5 : arg5.IsWhole) (arg6 : Memref sig .tc .vmem S4x2048x128 .bf16) (harg6 : arg6.IsWhole) (arg7 : Memref sig .tc .vmem S4x2048x128 .bf16) (harg7 : arg7.IsWhole) (arg8 : Memref sig .tc .vmem S64x128x128 .f32) (harg8 : arg8.IsWhole) (arg9 : Memref sig .tc .vmem S64x128x128 .bf16) (harg9 : arg9.IsWhole) (arg10 : Memref sig .tc .vmem S64x128x128 .bf16) (harg10 : arg10.IsWhole)
    (xd : Vec F S1x2x128 .f32) (xq : Vec F S4x2048x128 .bf16) (xk : Vec F S4x2048x128 .bf16) (xv : Vec F S4x2048x128 .bf16) (xg : Vec F S4x2048x128 .bf16) :
    (pieces c i arg2 harg2 arg3 harg3 arg4 harg4 arg5 harg5 arg6 harg6 arg7 harg7 arg8 harg8 arg9 harg9 arg10 harg10 xd xq xk xv xg).1
      = pieceList (decs arg2 harg2 xd) (chunk arg3 harg3 xq) (chunk arg4 harg4 xk) (chunk arg5 harg5 xv) (chunk arg6 harg6 xg) 64 := by
  unfold pieces
  sl_unfold_run_names
  simp (disch := decide) only [↓ View.readCov_skip, View.readCov_cons_toLoadRect]
  rfl

end Cert.KernelIdeal.Ret
end
-- ==== Proof.RetFrame.lean ====
/- The run of the retention kernel: what each grid point leaves in its output block, the run of the whole grid, and
   the frame. -/
module

public import proofs.«01_k».proof.Proof.RetPieces
public import proofs.«01_k».proof.Proof.Gen.KernelIdeal.Frame
public import Idealize.ShloMosaic.Lib.Pipeline.CanonAppend
public import Idealize.ShloMosaic.Lib.Claim

@[expose] public section

set_option maxRecDepth 16384

noncomputable section

namespace Cert.KernelIdeal.Ret

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The output block -/

section Block
variable (xd : Vec F S1x2x128 .f32) (q k v g : ℕ → ℕ → Vec F S128x128 .bf16)

/-- The block the pieces make up. -/
def outBlk : Vec F S4x2048x128 .bf16 := fun y =>
  outC xd q k v g (y 0).val ((y 1).val / 128)
    (ix3 (0 : Fin 1) (⟨(y 1).val % 128, Nat.mod_lt _ (by decide)⟩ : Fin 128) (y 2))

theorem piece_blk (p : ℕ) (x : (piece xd q k v g p).1.shape.Idx) :
    (piece xd q k v g p).2 x = outBlk xd q k v g ((piece xd q k v g p).1.emb x) := by
  have h0 : (x 0).val < 1 := (x 0).isLt
  have h1 : (x 1).val < 128 := (x 1).isLt
  have hp : p % 64 < 64 := Nat.mod_lt _ (by decide)
  have e0 : (((piece xd q k v g p).1.emb x) 0).val = p % 64 / 16 := by
    show p % 64 / 16 + 1 * (x 0).val = _; omega
  have e1 : (((piece xd q k v g p).1.emb x) 1).val = 128 * (p % 16) + (x 1).val := by
    show 128 * (p % 16) + 1 * (x 1).val = _; omega
  unfold outBlk
  rw [e0]
  have d1 : (((piece xd q k v g p).1.emb x) 1).val / 128 = p % 16 := by rw [e1]; omega
  rw [d1]
  show outC xd q k v g (p % 64 / 16) (p % 16) x = _
  refine congrArg _ ?_
  funext a; apply Fin.ext
  fin_cases a
  · show (x 0).val = 0; omega
  · show (x 1).val = (((piece xd q k v g p).1.emb x) 1).val % 128; rw [e1]; omega
  · show (x 2).val = 0 + 1 * (x 2).val; omega

theorem mem_pieceList {p : View.Piece (Elt F) S4x2048x128 .bf16} : ∀ {n : ℕ}, p ∈ pieceList xd q k v g n → ∃ t, p = piece xd q k v g t
  | 0, h => absurd h (List.not_mem_nil)
  | n + 1, h => by
    rcases List.mem_cons.mp h with h | h
    · exact ⟨n, h⟩
    · exact mem_pieceList h

theorem piece_mem (t : ℕ) : ∀ {n : ℕ}, t < n → piece xd q k v g t ∈ pieceList xd q k v g n
  | 0, h => absurd h (Nat.not_lt_zero _)
  | n + 1, h => by
    rcases Nat.lt_succ_iff_lt_or_eq.mp h with h | rfl
    · exact List.mem_cons_of_mem _ (piece_mem t h)
    · exact List.mem_cons_self

/-- The pieces cover the block. -/
theorem pieces_cover (y : S4x2048x128.Idx) : ∃ p ∈ pieceList xd q k v g 64, y ∈ p.1.set := by
  have h0 : (y 0).val < 4 := (y 0).isLt
  have h1 : (y 1).val < 2048 := (y 1).isLt
  have h2 : (y 2).val < 128 := (y 2).isLt
  refine ⟨piece xd q k v g (16 * (y 0).val + (y 1).val / 128), piece_mem xd q k v g _ (by omega), ?_⟩
  refine LoadRect.mem_set _ |>.mpr fun a => ?_
  fin_cases a
  · exact ⟨0, Nat.one_pos, by show (y 0).val = (16 * (y 0).val + (y 1).val / 128) % 64 / 16 + 1 * 0; omega⟩
  · exact ⟨(y 1).val % 128, Nat.mod_lt _ (by decide), by
      show (y 1).val = 128 * ((16 * (y 0).val + (y 1).val / 128) % 16) + 1 * ((y 1).val % 128); omega⟩
  · exact ⟨(y 2).val, h2, by show (y 2).val = 0 + 1 * (y 2).val; omega⟩

theorem pieces_canon : View.canon (pieceList xd q k v g 64) = outBlk xd q k v g := by
  funext y
  have := View.canon_append_of_pieces (outBlk xd q k v g) [] (pieceList xd q k v g 64)
    (fun p hp x => by obtain ⟨t, rfl⟩ := mem_pieceList xd q k v g hp; exact piece_blk xd q k v g t x) y (pieces_cover xd q k v g y)
  rwa [List.append_nil] at this

end Block

/-- What a point leaves in its output block, by the blocks it reads. -/
def outOf (xd : Vec F S1x2x128 .f32) (xq xk xv xg : Vec F S4x2048x128 .bf16) : Vec F S4x2048x128 .bf16 :=
  outBlk xd (rows xq) (rows xk) (rows xv) (rows xg)

/-! ## The proof data -/

variable (m : (ℓ : Loc nD τ sig) → Buf (Elt F) ℓ) (ρ : Dev nD → PrngReg)

/-- The arrays as the launch finds them; each point leaves its inputs in place and its output block made. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outOf (iblk m c 0 t) (iblk m c 1 t) (iblk m c 2 t) (iblk m c 3 t) (iblk m c 4 t)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t
    = outOf (iblk m c 0 t) (iblk m c 1 t) (iblk m c 2 t) (iblk m c 3 t) (iblk m c 4 t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- Between points the three scratches hold anything. -/
theorem between_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)
          ∗ (∃ d, owns (c : Thread nD τ) (Memref.whole cc0_scratch2) fullShare d)) ∗ (∃ r, prngReg c r)) := by
  unfold Pipeline.ΦA; rw [scopedRest0_eq]; simp only [owns_whole]; try rfl

/-! ## A point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t)
    ∗ owns (c : Thread nD τ) (st0_5 t) fullShare (outOf (iblk m c 0 t) (iblk m c 1 t) (iblk m c 2 t) (iblk m c 3 t) (iblk m c 4 t)))

theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before_0, before_1, before_2, before_3, before_4]
  rw [show (dats m 0 c).Φ t.castSucc = Pipeline.ΦA spec0 c from rfl, show (dats m 0 c).Φ t.succ = Pipeline.ΦA spec0 c from rfl,
    show (dats m 0 c).owesAt () t.castSucc = (dats m 0 c).owesAt () t.succ from rfl, between_eq]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
  iapply ((pieces c (grid0.coords t) _ _ _ _ _ _ _ _ _ _ _ _ _ _ _ _ _ _ (iblk m c 0 t) (iblk m c 1 t) (iblk m c 2 t) (iblk m c 3 t) (iblk m c 4 t)).2 Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HS2]; · iexact HS2
  iintro ⟨H0, H1, H2, H3, H4, ⟨%e5, H5⟩, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro
  rw [pieces_eq, decs_eq, chunk_eq, chunk_eq, chunk_eq, chunk_eq]
  exact (View.read_writes_eq_canon _ _ _ (pieces_cover _ _ _ _ _)).trans (pieces_canon _ _ _ _ _)

theorem row_eq (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, row_eq]
  exact triple_restated (sound_body m c t) rfl .rfl fun _ => .rfl

/-! ## The run -/

-- unifying the launch theorem's conclusion with the statement unfolds plain definitions in types
set_option backward.isDefEq.respectTransparency.types false in
/-- Every execution ends, with the arrays at what the proof data say and every counter at zero. -/
theorem run_counters : θ_run defs (onTc (τ := τ) (main (F := F))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m)
    (hin := fun _ => Idealize.SL.BI.Entails.refl _) (hout := fun _ => Idealize.SL.BI.Entails.refl _)

theorem run_main : θ_run defs (onTc (τ := τ) (main (F := F))) (s₀ m ρ) (Pipeline.FramePost cfgs (dats m) 0 (V m)) :=
  (θ_run defs _ _).mono (fun _ h => h.1) (run_counters m ρ)

/-- The argument arrays end unchanged and every counter at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_counters m ρ))

end Cert.KernelIdeal.Ret

end
-- ==== Proof.RetForm.lean ====
/- The retention of one head over extended reals: the chunkwise sums of one direction, and that a grid point's output
   block is the two directions' sum, normalised and gated. -/
module

public import proofs.«01_k».proof.Proof.RetFrame
public import Idealize.ShloMosaic.Lib.Pipeline.ValueKit

@[expose] public section

set_option maxRecDepth 16384

noncomputable section

namespace Cert.KernelIdeal.Ret

open Cert.KernelIdeal Cert.KernelIdeal.Gen
open Idealize.ShloMosaic Idealize.ShloMosaic.TcCoe Idealize.SL.Sem

/-! ## The sums -/

/-- A number of rows, as an extended real. -/
def num (n : ℕ) : EReal := ((n : ℝ) : EReal)

theorem num_sub {a b : ℕ} (h : b ≤ a) : num a - num b = num (a - b) := by
  unfold num; rw [← EReal.coe_sub, Nat.cast_sub h]

theorem num_add (a b : ℕ) : num a + num b = num (a + b) := by
  unfold num; rw [← EReal.coe_add, Nat.cast_add]

theorem num_one : (1 : EReal) = num 1 := by unfold num; norm_cast

theorem num_zero : (0 : EReal) = num 0 := by unfold num; norm_cast

theorem num_le {a b : ℕ} : (0 : EReal) ≤ num a - num b ↔ b ≤ a := by
  unfold num; rw [← EReal.coe_sub, ← EReal.coe_zero, EReal.coe_le_coe_iff, sub_nonneg, Nat.cast_le]

theorem num_lt {a b : ℕ} : (0 : EReal) < num a - num b ↔ b < a := by
  unfold num; rw [← EReal.coe_sub, ← EReal.coe_zero, EReal.coe_lt_coe_iff, sub_pos, Nat.cast_lt]

theorem num_neg {a b : ℕ} (h : a ≤ b) : 0 - (num a - num b) = num (b - a) := by
  unfold num; rw [← EReal.coe_sub, ← EReal.coe_zero, ← EReal.coe_sub, Nat.cast_sub h]; norm_num

theorem num_127 : Ideal.ofBits .f32 0x42FE0000#32 = num 127 := by
  unfold num; simp [Ideal.ofBits, Ideal.ieee, -EReal.coe_mul]; norm_num

theorem num_128 : Ideal.ofBits .f32 0x43000000#32 = num 128 := by
  unfold num; simp [Ideal.ofBits, Ideal.ieee, -EReal.coe_mul]; norm_num

/-- The number a lane counter holds. -/
theorem num_word {n : ℕ} (h : n < 128) : (FloatOps.sitofp .f32 (BitVec.ofNat 32 n) : Ideal .f32) = num n := by
  show (((BitVec.ofNat 32 n).toInt : ℝ) : EReal) = num n
  unfold num
  rw [show (BitVec.ofNat 32 n).toInt = (n : ℤ) by
    rw [BitVec.toInt_eq_toNat_cond, BitVec.toNat_ofNat]; omega]
  norm_cast

/-- The decay over `n` rows at the logarithm `l` of the decay of one. -/
def ex (n : ℕ) (l : EReal) : EReal := Ideal.exp (num n * l)

section dir
variable (Q K V : ℕ → Fin 128 → Fin 128 → EReal) (l : EReal)

/-- What chunk `n` adds to the state. -/
def kvS (n : ℕ) (d e : Fin 128) : EReal := ∑ j : Fin 128, (K n j d * ex (127 - j.val) l) * V n j e

/-- The state before chunk `n`. -/
def stS : ℕ → Fin 128 → Fin 128 → EReal
  | 0, _, _ => 0
  | n + 1, d, e => ex 128 l * stS n d e + kvS K V l n d e

/-- One direction's retention, row `i` of chunk `n`, the decays within a chunk given. -/
def dirS (M : Fin 128 → Fin 128 → EReal) (n : ℕ) (i e : Fin 128) : EReal :=
  (∑ j : Fin 128, (∑ d : Fin 128, Q n i d * K n j d) * M i j * V n j e)
    + ∑ d : Fin 128, (Q n i d * ex (i.val + 1) l) * stS K V l n d e

end dir

/-- The decays within a chunk from the rows before. -/
def upto (l : EReal) (i j : Fin 128) : EReal := if j ≤ i then ex (i.val - j.val) l else 0

/-- Those from the rows strictly before. -/
def before (l : EReal) (i j : Fin 128) : EReal := if j < i then ex (i.val - j.val) l else 0

/-- The sequence read from its end. -/
def back (K : ℕ → Fin 128 → Fin 128 → EReal) (n : ℕ) (i d : Fin 128) : EReal := K (15 - n) i.rev d

/-- Both directions. -/
def bothS (Q K V : ℕ → Fin 128 → Fin 128 → EReal) (a b : EReal) (n : ℕ) (i e : Fin 128) : EReal :=
  dirS Q K V a (upto a) n i e + dirS (back Q) (back K) (back V) b (before b) (15 - n) i.rev e

/-- A row `Y` divided by the root of its mean square, at lane `e`, times the gate there. -/
def gated (G Y : Fin 128 → EReal) (e : Fin 128) : EReal :=
  G e * (Y e * Ideal.rsqrt (Ideal.div (∑ e, Y e * Y e) (Ideal.ofBits .f32 0x43000000#32) + Ideal.ofBits .f32 0x358637BD#32))

/-! ## The kernel's terms -/

section kernel
variable (xd : Vec Ideal S1x2x128 .f32) (q k v g : ℕ → ℕ → Vec Ideal S128x128 .bf16) (a b : EReal)

/-- The logarithm of a decay. -/
def lgD (x : EReal) : EReal := Ideal.log1p (0 - FloatOps.exp2 (F := Ideal) (φ := .f32) (0 - x))

theorem lg0 (j : Fin 128) : k0_pay3 xd (ix2 0 j) = lgD (xd (ix3 0 0 j)) := by
  unfold k0_pay3 k0_pay2 lgD
  pointwise

theorem lg1 (j : Fin 128) : k0_pay4 xd (ix2 0 j) = lgD (xd (ix3 0 1 j)) := by
  unfold k0_pay4 k0_pay2 lgD
  pointwise

/-- A chunk of a sequence, entry by entry. -/
abbrev ent (x : ℕ → ℕ → Vec Ideal S128x128 .bf16) (s : ℕ) (n : ℕ) (i d : Fin 128) : EReal := x s n (ix2 i d)

variable (ha : ∀ j, k0_pay3 xd (ix2 0 j) = a) (hb : ∀ j, k0_pay4 xd (ix2 0 j) = b)
include ha hb

theorem kdf (j : Fin 128) : k0_pay6 xd (ix2 0 j) = ex (127 - j.val) a := by
  unfold k0_pay6 k0_pay5
  pointwise
  rw [ha]
  show Ideal.exp ((Ideal.ofBits FTy.f32 1123942400#32 - (FloatOps.sitofp .f32 (BitVec.ofNat 32 j.val) : Ideal .f32)) * a) = _
  rw [num_word j.isLt, num_127, num_sub (by omega)]; rfl

theorem kdb (j : Fin 128) : k0_pay7 xd (ix2 0 j) = ex j.val b := by
  unfold k0_pay7 k0_pay5
  pointwise
  rw [hb]
  show Ideal.exp ((FloatOps.sitofp .f32 (BitVec.ofNat 32 j.val) : Ideal .f32) * b) = _
  rw [num_word j.isLt]; rfl

theorem kv_fwd (s n : ℕ) (d e : Fin 128) (r : Fin 256) (hr : r.val = d.val) :
    kvC xd k v s n (ix2 r e) = kvS (ent k s) (ent v s) a n d e := by
  unfold kvC k0_pay66 k0_pay18 k0_pay16 kvS
  pointwise
  refine Finset.sum_congr rfl fun j _ => ?_
  have hlt : r.val < 128 := by omega
  refine (congrArg (· * _) ((dif_pos hlt).trans (congrArg (_ * ·) (kdf xd a b ha hb j)))).trans ?_
  obtain rfl : (⟨r.val, hlt⟩ : Fin 128) = d := Fin.ext hr
  rfl

theorem kv_bwd (s t : ℕ) (ht : t ≤ 15) (d e : Fin 128) (r : Fin 256) (hr : r.val = 128 + d.val) :
    kvC xd k v s (15 - t) (ix2 r e) = kvS (back (ent k s)) (back (ent v s)) b t d e := by
  unfold kvC k0_pay66 k0_pay18 k0_pay16 kvS
  pointwise
  refine (Equiv.sum_comp Fin.revPerm _).symm.trans (Finset.sum_congr rfl fun j _ => ?_)
  have hlt : ¬ r.val < 128 := by omega
  refine (congrArg (· * _) ((dif_neg hlt).trans (congrArg (_ * ·) (kdb xd a b ha hb (Fin.revPerm j))))).trans ?_
  have hd : (⟨r.val - 128, by omega⟩ : Fin 128) = d := Fin.ext (by show r.val - 128 = d.val; omega)
  show k s (15 - t) (ix2 j.rev (⟨r.val - 128, by omega⟩ : Fin 128)) * ex j.rev.val b * v s (15 - t) (ix2 j.rev e) = _
  rw [hd]
  rw [show j.rev.val = 127 - j.val by rw [Fin.val_rev]; omega]
  rfl

theorem st_fwd (s : ℕ) : ∀ (n : ℕ) (d e : Fin 128), sfC xd k v s n (ix2 d e) = stS (ent k s) (ent v s) a n d e
  | 0, d, e => by
    unfold sfC k0_pay15 stS
    pointwise
  | n + 1, d, e => by
    unfold sfC k0_pay83 k0_pay8 stS
    pointwise
    rw [ha, num_128, st_fwd s n d e, kv_fwd xd k v a b ha hb s n d e _ rfl]
    rfl

theorem st_bwd (s : ℕ) : ∀ (t : ℕ) (_ : t ≤ 16) (d e : Fin 128),
    sbC xd k v s t (ix2 d e) = stS (back (ent k s)) (back (ent v s)) b t d e
  | 0, _, d, e => by
    unfold sbC k0_pay15 stS
    pointwise
  | t + 1, ht, d, e => by
    unfold sbC k0_pay84 k0_pay9 stS
    pointwise
    rw [hb, num_128, st_bwd s t (by omega) d e, kv_bwd xd k v a b ha hb s t (by omega) d e _ rfl]
    rfl

theorem decay (i j : Fin 128) :
    k0_pay10 xd (ix2 i j) = if j ≤ i then ex (i.val - j.val) a else ex (j.val - i.val) b := by
  unfold k0_pay10
  pointwise
  rw [ha, hb]
  change Ideal.exp (if 0 ≤ (FloatOps.sitofp .f32 (BitVec.ofNat 32 i.val) : Ideal .f32) - (FloatOps.sitofp .f32 (BitVec.ofNat 32 j.val) : Ideal .f32)
    then ((FloatOps.sitofp .f32 (BitVec.ofNat 32 i.val) : Ideal .f32) - (FloatOps.sitofp .f32 (BitVec.ofNat 32 j.val) : Ideal .f32)) * a
    else (0 - ((FloatOps.sitofp .f32 (BitVec.ofNat 32 i.val) : Ideal .f32) - (FloatOps.sitofp .f32 (BitVec.ofNat 32 j.val) : Ideal .f32))) * b) = _
  rw [num_word i.isLt, num_word j.isLt]
  by_cases h : j ≤ i
  · rw [if_pos (num_le.mpr h), if_pos h, num_sub h]; rfl
  · rw [if_neg (fun h' => h (num_le.mp h')), if_neg h, num_neg (by omega)]; rfl

theorem qdf (i d : Fin 128) : k0_pay13 (k0_pay12 xd) (ix2 i d) = ex (i.val + 1) a := by
  unfold k0_pay13 k0_pay12 k0_pay11
  pointwise
  rw [ha]
  change Ideal.exp (((FloatOps.sitofp .f32 (BitVec.ofNat 32 i.val) : Ideal .f32) + 1) * a) = _
  rw [num_word i.isLt, num_one, num_add]; rfl

theorem qdb (i d : Fin 128) : k0_pay14 (k0_pay4 xd) (k0_pay11 (F := Ideal)) (ix2 i d) = ex (128 - i.val) b := by
  unfold k0_pay14 k0_pay11
  pointwise
  rw [hb]
  change Ideal.exp ((Ideal.ofBits FTy.f32 1124073472#32 - (FloatOps.sitofp .f32 (BitVec.ofNat 32 i.val) : Ideal .f32)) * b) = _
  rw [num_word i.isLt, num_128, num_sub (by omega)]; rfl

omit ha hb in
/-- A sum over three runs of 128 terms. -/
theorem sum_runs (A B C A' B' C' : Fin 128 → EReal) :
    (∑ x : Fin 384,
      (if h : x.val < 128 then A ⟨x.val, h⟩ else if h : x.val - 128 < 128 then B ⟨x.val - 128, h⟩
        else C ⟨x.val - 128 - 128, by omega⟩)
      * (if h : x.val < 128 then A' ⟨x.val, h⟩ else if h : x.val - 128 < 128 then B' ⟨x.val - 128, h⟩
        else C' ⟨x.val - 128 - 128, by omega⟩))
    = ∑ j, A j * A' j + (∑ j, B j * B' j + ∑ j, C j * C' j) := by
  refine (Fin.sum_univ_add (a := 128) (b := 256) _).trans (congrArg₂ (· + ·) ?_ ?_)
  · refine Finset.sum_congr rfl fun j _ => ?_
    exact congrArg₂ (· * ·) (dif_pos j.isLt) (dif_pos j.isLt)
  · refine (Fin.sum_univ_add (a := 128) (b := 128) _).trans (congrArg₂ (· + ·) ?_ ?_)
    all_goals refine Finset.sum_congr rfl fun j _ => ?_
    · have h1 : ¬ 128 + j.val < 128 := by omega
      have h2 : 128 + j.val - 128 < 128 := by omega
      have e : (⟨128 + j.val - 128, h2⟩ : Fin 128) = j := Fin.ext (by show 128 + j.val - 128 = j.val; omega)
      refine congrArg₂ (· * ·) (((dif_neg h1).trans (dif_pos h2)).trans ?_) (((dif_neg h1).trans (dif_pos h2)).trans ?_)
      · exact congrArg B e
      · exact congrArg B' e
    · have h1 : ¬ 128 + (128 + j.val) < 128 := by omega
      have h2 : ¬ 128 + (128 + j.val) - 128 < 128 := by omega
      have e : (⟨128 + (128 + j.val) - 128 - 128, by omega⟩ : Fin 128) = j :=
        Fin.ext (by show 128 + (128 + j.val) - 128 - 128 = j.val; omega)
      refine congrArg₂ (· * ·) (((dif_neg h1).trans (dif_neg h2)).trans ?_) (((dif_neg h1).trans (dif_neg h2)).trans ?_)
      · exact congrArg C e
      · exact congrArg C' e

omit ha hb in
theorem back_back (K : ℕ → Fin 128 → Fin 128 → EReal) {n : ℕ} (hn : n ≤ 15) (i d : Fin 128) :
    back K (15 - n) i.rev d = K n i d := by
  unfold back
  rw [Fin.rev_rev, show 15 - (15 - n) = n by omega]

omit ha hb in
/-- The two directions' sums are one sum with both decays, and the two states' terms. -/
theorem both_eq (Q K V : ℕ → Fin 128 → Fin 128 → EReal) {n : ℕ} (hn : n ≤ 15) (i e : Fin 128) :
    bothS Q K V a b n i e
      = ∑ j, ((∑ d, Q n i d * K n j d) * (if j ≤ i then ex (i.val - j.val) a else ex (j.val - i.val) b)) * V n j e
        + (∑ d, (Q n i d * ex (i.val + 1) a) * stS K V a n d e
          + ∑ d, (Q n i d * ex (128 - i.val) b) * stS (back K) (back V) b (15 - n) d e) := by
  unfold bothS dirS
  rw [show (∑ j, (∑ d, back Q (15 - n) i.rev d * back K (15 - n) j d) * before b i.rev j * back V (15 - n) j e)
      = ∑ j, (∑ d, Q n i d * K n j d) * before b i.rev j.rev * V n j e from
    (Equiv.sum_comp Fin.revPerm _).symm.trans (Finset.sum_congr rfl fun j _ => by
      show (∑ d, back Q (15 - n) i.rev d * back K (15 - n) j.rev d) * before b i.rev j.rev * back V (15 - n) j.rev e = _
      rw [back_back V hn]
      simp only [back_back Q hn, back_back K hn])]
  simp only [back_back Q hn]
  rw [show i.rev.val + 1 = 128 - i.val by rw [Fin.val_rev]; omega]
  rw [add_add_add_comm, ← Finset.sum_add_distrib]
  refine congrArg (· + _) (Finset.sum_congr rfl fun j _ => ?_)
  unfold upto before
  by_cases h : j ≤ i
  · rw [if_pos h, if_neg (by rw [Fin.rev_lt_rev]; exact not_lt.mpr h), if_pos h, mul_zero, zero_mul, add_zero]
  · rw [if_neg h, if_pos (by rw [Fin.rev_lt_rev]; exact not_le.mp h), if_neg h, mul_zero, zero_mul, zero_add]
    rw [show i.rev.val - j.rev.val = j.val - i.val by rw [Fin.val_rev, Fin.val_rev]; omega]

theorem y_eq (s n : ℕ) (hn : n ≤ 15) (i e : Fin 128) :
    yC xd q k v s n (ix2 i e) = bothS (ent q s) (ent k s) (ent v s) a b n i e := by
  unfold yC k0_pay181 scC k0_pay132 k0_pay82 k0_pay17 k0_pay16
  pointwise
  rw [both_eq a b _ _ _ hn]
  refine (sum_runs
    (fun j => (∑ d, q s n (ix2 i d) * k s n (ix2 j d)) * k0_pay10 xd (ix2 i j))
    (fun d => q s n (ix2 i d) * k0_pay13 (k0_pay12 xd) (ix2 i d))
    (fun d => q s n (ix2 i d) * k0_pay14 (k0_pay4 xd) (k0_pay11 (F := Ideal)) (ix2 i d))
    (fun j => v s n (ix2 j e)) (fun d => sfC xd k v s n (ix2 d e)) (fun d => sbC xd k v s (15 - n) (ix2 d e))).trans ?_
  refine congrArg₂ (· + ·) (Finset.sum_congr rfl fun j _ => ?_) (congrArg₂ (· + ·) ?_ ?_)
  · rw [decay xd a b ha hb]
  · refine Finset.sum_congr rfl fun d _ => ?_
    rw [qdf xd a b ha hb, st_fwd xd k v a b ha hb]
  · refine Finset.sum_congr rfl fun d _ => ?_
    rw [qdb xd a b ha hb, st_bwd xd k v a b ha hb s (15 - n) (by omega)]

theorem out_eq (s n : ℕ) (hn : n ≤ 15) (i e : Fin 128) :
    outC xd q k v g s n (ix3 0 i e) = gated (ent g s n i) (bothS (ent q s) (ent k s) (ent v s) a b n i) e := by
  unfold outC k0_pay204 k0_pay203 gated
  pointwise
  rw [y_eq xd q k v a b ha hb s n hn]
  simp only [y_eq xd q k v a b ha hb s n hn]

end kernel

end Cert.KernelIdeal.Ret
-- ==== Proof.RetRef.lean ====
/- The reference's retention, stage by stage, as the sums of the two directions. -/
module

public import proofs.«01_k».proof.Proof.RetForm
public import proofs.«01_k».proof.Proof.Gen.ReferenceIdeal.Run
public import Idealize.ShloMosaic.Lib.KernelVsHost

@[expose] public section

set_option maxRecDepth 16384

noncomputable section

namespace Cert.ReferenceIdeal.Ret

open Cert.ReferenceIdeal Cert.ReferenceIdeal.Gen Cert.ReferenceIdeal.Value
open Idealize.ShloMosaic Idealize.ShloMosaic.TcCoe Idealize.SL.Sem
open Cert.KernelIdeal.Ret (num num_word num_127 num_128 num_sub num_add num_one num_le num_lt ex kvS stS dirS upto before back bothS gated lgD)

/-- Sequence `b`'s head `h` of the packed array's part at column `off`: chunk `n`'s entry. -/
def seqX (X : FVec Ideal S16x2048x6656 .bf16) (off : ℕ) (ho : off ≤ 4608) (b : Fin 16) (h : Fin 12) (n : ℕ) (i d : Fin 128) : EReal :=
  X (ix3 b ⟨n % 16 * 128 + i.val, by omega⟩ ⟨off + (h.val * 128 + d.val), by omega⟩)

/-- The retention at a row and a column of the result. -/
def retA (X : FVec Ideal S16x2048x6656 .bf16) (D : FVec Ideal S2x12 .f32) (b : Fin 16) (r : Fin 2048) (h : Fin 12) (e : Fin 128) : EReal :=
  gated (seqX X 4608 (by omega) b h (r.val / 128) ⟨r.val % 128, by omega⟩)
    (bothS (seqX X 0 (by omega) b h) (seqX X 1536 (by omega) b h) (seqX X 3072 (by omega) b h) (lgD (D (ix2 0 h))) (lgD (D (ix2 1 h)))
      (r.val / 128) ⟨r.val % 128, by omega⟩) e

/-- The retention over the arrays. -/
def retArr (X : FVec Ideal S16x2048x6656 .bf16) (D : FVec Ideal S2x12 .f32) :
    FVec Ideal S16x2048x1536 .bf16 := fun i =>
  have hi : (i 2).val < 1536 := (i 2).isLt
  retA X D (i 0) (i 1) ⟨(i 2).val / 128, by omega⟩ ⟨(i 2).val % 128, by omega⟩

theorem retArr_at (X : FVec Ideal S16x2048x6656 .bf16) (D : FVec Ideal S2x12 .f32)
    (i : S16x2048x1536.Idx) (b : Fin 16) (r : Fin 2048) (h : Fin 12) (e : Fin 128)
    (hb : i 0 = b) (hr : i 1 = r) (he : (i 2).val = h.val * 128 + e.val) : retArr X D i = retA X D b r h e := by
  subst hb hr
  exact congrArg₂ (retA X D (i 0) (i 1)) (Fin.ext (by show (i 2).val / 128 = h.val; omega)) (Fin.ext (by show (i 2).val % 128 = e.val; omega))

/-- A power of two. -/
theorem two_pow (y : EReal) : Ideal.pow (Ideal.ofBits .f32 0x40000000#32) y = Ideal.exp2 y := by
  have h2 : Ideal.ofBits .f32 0x40000000#32 = ((2 : ℝ) : EReal) := by
    simp [Ideal.ofBits, Ideal.ieee, -EReal.coe_mul]; norm_num
  rw [h2]
  induction y using EReal.rec with
  | bot => show (if (2 : ℝ) < 0 then ⊥ else if (1 : ℝ) < 2 then 0 else if (2 : ℝ) = 1 then 1 else ⊤) = (0 : EReal); norm_num
  | coe r => rfl
  | top => show (if (2 : ℝ) < 0 then ⊥ else if (1 : ℝ) < 2 then ⊤ else if (2 : ℝ) = 1 then 1 else 0) = (⊤ : EReal); norm_num

/-! ## One direction, over any arrays -/

section dir
variable (A : FVec Ideal S16x12x16x128x128 .f32) (w : FVec Ideal S1x12x1x1 .f32) (P : FVec Ideal S16x12x128x128 .f32) (kv : FVec Ideal S16x16x12x128x128 .f32)

theorem rev_at (b : Fin 16) (h : Fin 12) (n : Fin 16) (i d : Fin 128) :
    Host.reverse [2, 3] A (ix5 b h n i d) = A (ix5 b h n.rev i.rev d) := by
  pointwise
  rfl

theorem step (n : ℕ) (hn : n < 16) (hsl) (b : Fin 16) (h : Fin 12) (d e : Fin 128) :
    (addf (mulf (broadcastInDim S16x12x128x128 ![0, 1, 2, 3] bcast_S1x12x1x1_S16x12x128x128_0_1_2_3 w) P) (shapeCast _ (extractStridedSlice S1x16x12x128x128 ![n, 0, 0, 0, 0] kv hsl) shapeCasts_S1x16x12x128x128_S16x12x128x128)) (ix4 b h d e)
      = w (ix4 0 h 0 0) * P (ix4 b h d e) + kv (ix5 ⟨n, hn⟩ b h d e) := by
  pointwise

theorem cat (f : Fin 16 → FVec Ideal S16x12x128x128 .f32) (n b : Fin 16) (h : Fin 12) (d e : Fin 128) :
  (concatenate S16x16x12x128x128 0 [⟨S1x16x12x128x128, broadcastInDim S1x16x12x128x128 ![1, 2, 3, 4] bcast_S16x12x128x128_S1x16x12x128x128_1_2_3_4 (f 0)⟩, ⟨S1x16x12x128x128, broadcastInDim S1x16x12x128x128 ![1, 2, 3, 4] bcast_S16x12x128x128_S1x16x12x128x128_1_2_3_4 (f 1)⟩, ⟨S1x16x12x128x128, broadcastInDim S1x16x12x128x128 ![1, 2, 3, 4] bcast_S16x12x128x128_S1x16x12x128x128_1_2_3_4 (f 2)⟩, ⟨S1x16x12x128x128, broadcastInDim S1x16x12x128x128 ![1, 2, 3, 4] bcast_S16x12x128x128_S1x16x12x128x128_1_2_3_4 (f 3)⟩, ⟨S1x16x12x128x128, broadcastInDim S1x16x12x128x128 ![1, 2, 3, 4] bcast_S16x12x128x128_S1x16x12x128x128_1_2_3_4 (f 4)⟩, ⟨S1x16x12x128x128, broadcastInDim S1x16x12x128x128 ![1, 2, 3, 4] bcast_S16x12x128x128_S1x16x12x128x128_1_2_3_4 (f 5)⟩, ⟨S1x16x12x128x128, broadcastInDim S1x16x12x128x128 ![1, 2, 3, 4] bcast_S16x12x128x128_S1x16x12x128x128_1_2_3_4 (f 6)⟩, ⟨S1x16x12x128x128, broadcastInDim S1x16x12x128x128 ![1, 2, 3, 4] bcast_S16x12x128x128_S1x16x12x128x128_1_2_3_4 (f 7)⟩, ⟨S1x16x12x128x128, broadcastInDim S1x16x12x128x128 ![1, 2, 3, 4] bcast_S16x12x128x128_S1x16x12x128x128_1_2_3_4 (f 8)⟩, ⟨S1x16x12x128x128, broadcastInDim S1x16x12x128x128 ![1, 2, 3, 4] bcast_S16x12x128x128_S1x16x12x128x128_1_2_3_4 (f 9)⟩, ⟨S1x16x12x128x128, broadcastInDim S1x16x12x128x128 ![1, 2, 3, 4] bcast_S16x12x128x128_S1x16x12x128x128_1_2_3_4 (f 10)⟩, ⟨S1x16x12x128x128, broadcastInDim S1x16x12x128x128 ![1, 2, 3, 4] bcast_S16x12x128x128_S1x16x12x128x128_1_2_3_4 (f 11)⟩, ⟨S1x16x12x128x128, broadcastInDim S1x16x12x128x128 ![1, 2, 3, 4] bcast_S16x12x128x128_S1x16x12x128x128_1_2_3_4 (f 12)⟩, ⟨S1x16x12x128x128, broadcastInDim S1x16x12x128x128 ![1, 2, 3, 4] bcast_S16x12x128x128_S1x16x12x128x128_1_2_3_4 (f 13)⟩, ⟨S1x16x12x128x128, broadcastInDim S1x16x12x128x128 ![1, 2, 3, 4] bcast_S16x12x128x128_S1x16x12x128x128_1_2_3_4 (f 14)⟩, ⟨S1x16x12x128x128, broadcastInDim S1x16x12x128x128 ![1, 2, 3, 4] bcast_S16x12x128x128_S1x16x12x128x128_1_2_3_4 (f 15)⟩] concatenates_S1x16x12x128x128_S1x16x12x128x128_S1x16x12x128x128_S1x16x12x128x128_S1x16x12x128x128_S1x16x12x128x128_S1x16x12x128x128_S1x16x12x128x128_S1x16x12x128x128_S1x16x12x128x128_S1x16x12x128x128_S1x16x12x128x128_S1x16x12x128x128_S1x16x12x128x128_S1x16x12x128x128_S1x16x12x128x128_S16x16x12x128x128_d0 : FVec Ideal S16x16x12x128x128 .f32) (ix5 n b h d e) = f n (ix4 b h d e) := by
  pointwise
  fin_cases n <;> rfl

theorem inter (l : FVec Ideal S12 .f32) (io : FVec Ideal S128 .f32) (b : Fin 16) (h : Fin 12) (n : Fin 16) (i e : Fin 128) :
    (Host.dotGeneral dot_S16x12x16x128x128_S16x16x12x128x128_S16x12x16x128x128_4_3_3_4_012_120 none (mulf A (broadcastInDim S16x12x16x128x128 ![0, 1, 2, 3, 4] bcast_S1x12x1x128x1_S16x12x16x128x128_0_1_2_3_4 (broadcastInDim S1x12x1x128x1 ![1, 3] bcast_S12x128_S1x12x1x128x1_1_3 (Host.exp (mulf (broadcastInDim S12x128 ![0, 1] bcast_S1x128_S12x128_0_1 (broadcastInDim S1x128 ![1] bcast_S128_S1x128_1 (addf io (broadcastInDim S128 ![] bcast_S_S128 (constant S_ .f32 0x3F800000#32))))) (broadcastInDim S12x128 ![0, 1] bcast_S12x1_S12x128_0_1 (broadcastInDim S12x1 ![0] bcast_S12_S12x1_0 l))))))) kv : FVec Ideal S16x12x16x128x128 .f32) (ix5 b h n i e)
      = ∑ x, A (ix5 b h n i x) * Ideal.exp ((io (ix1 i) + 1) * l (ix1 h)) * kv (ix5 n b h x e) := by
  pointwise

theorem intra (B C R : FVec Ideal S16x12x16x128x128 .f32) (l : FVec Ideal S12 .f32) (ge : IVec S128x128 1) (df : FVec Ideal S128x128 .f32) (b : Fin 16) (h : Fin 12) (n : Fin 16) (i e : Fin 128) :
    (addf (Host.dotGeneral dot_S16x12x16x128x128_S16x12x16x128x128_S16x12x16x128x128_4_3_3_4_012_012 none (mulf (Host.dotGeneral dot_S16x12x16x128x128_S16x12x16x128x128_S16x12x16x128x128_4_4_3_3_012_012 none A B) (broadcastInDim S16x12x16x128x128 ![0, 1, 2, 3, 4] bcast_S1x12x1x128x128_S16x12x16x128x128_0_1_2_3_4 (broadcastInDim S1x12x1x128x128 ![1, 3, 4] bcast_S12x128x128_S1x12x1x128x128_1_3_4 (select (broadcastInDim S12x128x128 ![0, 1, 2] bcast_S1x128x128_S12x128x128_0_1_2 (broadcastInDim S1x128x128 ![1, 2] bcast_S128x128_S1x128x128_1_2 ge)) (Host.exp (mulf (broadcastInDim S12x128x128 ![0, 1, 2] bcast_S1x128x128_S12x128x128_0_1_2 (broadcastInDim S1x128x128 ![1, 2] bcast_S128x128_S1x128x128_1_2 (select ge df (broadcastInDim S128x128 ![] bcast_S_S128x128 (id (constant S_ .f32 0x00000000#32)))))) (broadcastInDim S12x128x128 ![0, 1, 2] bcast_S12x1x1_S12x128x128_0_1_2 (broadcastInDim S12x1x1 ![0] bcast_S12_S12x1x1_0 l)))) (broadcastInDim S12x128x128 ![] bcast_S_S12x128x128 (id (constant S_ .f32 0x00000000#32))))))) C) R : FVec Ideal S16x12x16x128x128 .f32) (ix5 b h n i e)
      = (∑ j, (∑ d, A (ix5 b h n i d) * B (ix5 b h n j d)) * Scalar.select (ge (ix2 i j)) (Ideal.exp (Scalar.select (ge (ix2 i j)) (df (ix2 i j)) (0 : EReal) * l (ix1 h))) (0 : EReal) * C (ix5 b h n j e))
        + R (ix5 b h n i e) := by
  have z : (id (constant (F := Ideal) S_ .f32 0x00000000#32) : FVec Ideal S_ .f32) ix0 = (0 : EReal) := Ideal.ofBits_zero_f32
  pointwise
  rw [z]
  refine congrArg (· + _) (Finset.sum_congr rfl fun x _ => ?_)
  unfold Scalar.select
  split
  · rfl
  · rw [mul_zero, zero_mul]

theorem whole (X Y : FVec Ideal S16x12x16x128x128 .f32) (b : Fin 16) (h : Fin 12) (r : Fin 2048) (e : Fin 128) :
    (shapeCast S16x2048x12x128 (transpose S16x16x128x12x128 [0, 2, 3, 1, 4] (addf X (Host.reverse [2, 3] Y)) transposes_S16x12x16x128x128_S16x16x128x12x128_0_2_3_1_4) shapeCasts_S16x16x128x12x128_S16x2048x12x128 : FVec Ideal S16x2048x12x128 .f32) (ix4 b r h e)
      = X (ix5 b h ⟨r.val / 128, by omega⟩ ⟨r.val % 128, by omega⟩ e)
        + Y (ix5 b h (⟨r.val / 128, by omega⟩ : Fin 16).rev (⟨r.val % 128, by omega⟩ : Fin 128).rev e) := by
  pointwise
  rfl

/-- Arrays each of which is a step from the one before hold the states. -/
theorem states (f : Fin 16 → FVec Ideal S16x12x128x128 .f32)
    (hs : ∀ n : Fin 15, ∃ hsl, f n.succ = addf (mulf (broadcastInDim S16x12x128x128 ![0, 1, 2, 3] bcast_S1x12x1x1_S16x12x128x128_0_1_2_3 w) (f n.castSucc)) (shapeCast _ (extractStridedSlice S1x16x12x128x128 ![n.val, 0, 0, 0, 0] kv hsl) shapeCasts_S1x16x12x128x128_S16x12x128x128))
    (b : Fin 16) (h : Fin 12) (K V : ℕ → Fin 128 → Fin 128 → EReal) (l : EReal)
    (h0 : ∀ d e, f 0 (ix4 b h d e) = 0) (hw : w (ix4 0 h 0 0) = ex 128 l)
    (hkv : ∀ (n : Fin 16) d e, kv (ix5 n b h d e) = kvS K V l n.val d e) (n : Fin 16) :
    ∀ d e, f n (ix4 b h d e) = stS K V l n.val d e := by
  induction n using Fin.induction with
  | zero => exact h0
  | succ n ih =>
    intro d e
    obtain ⟨hsl, he⟩ := hs n
    rw [he, step w _ kv n.val (by omega) hsl, hw, ih, hkv]
    rfl

end dir

/-- A decay within a chunk as the reference selects it. -/
theorem sel (p : Prop) [Decidable p] (x l : EReal) :
    Scalar.select (BitVec.ofBool (decide p)) (Ideal.exp (Scalar.select (BitVec.ofBool (decide p)) x 0 * l)) 0
      = if p then Ideal.exp (x * l) else (0 : EReal) := by
  by_cases h : p <;> simp [Scalar.select, h]

theorem sel_upto (l : EReal) (i j : Fin 128) :
    Scalar.select (BitVec.ofBool (decide ((0 : EReal) ≤ num i.val - num j.val))) (Ideal.exp (Scalar.select (BitVec.ofBool (decide ((0 : EReal) ≤ num i.val - num j.val))) (num i.val - num j.val) 0 * l)) 0
      = upto l i j := by
  rw [sel]
  unfold upto
  by_cases h : j ≤ i
  · rw [if_pos (num_le.mpr h), if_pos h, num_sub h]; rfl
  · rw [if_neg (fun h' => h (num_le.mp h')), if_neg h]

theorem sel_before (l : EReal) (i j : Fin 128) :
    Scalar.select (BitVec.ofBool (decide ((0 : EReal) < num i.val - num j.val))) (Ideal.exp (Scalar.select (BitVec.ofBool (decide ((0 : EReal) < num i.val - num j.val))) (num i.val - num j.val) 0 * l)) 0
      = before l i j := by
  rw [sel]
  unfold before
  by_cases h : j < i
  · rw [if_pos (num_lt.mpr h), if_pos h, num_sub (Nat.le_of_lt h)]; rfl
  · rw [if_neg (fun h' => h (num_lt.mp h')), if_neg h]

/-! ## The stages -/

variable (V0 : Valuation τ sig (Elt Ideal))

/-- The packed input and the decays. -/
abbrev inX : FVec Ideal S16x2048x6656 .bf16 := V0 (Proc.devRef .tc main_arg0)
abbrev inD : FVec Ideal S2x12 .f32 := V0 (Proc.devRef .tc main_arg1)

theorem v10 (r : Fin 2) (h : Fin 12) : (res_main_v10 V0 : FVec Ideal S2x12 .f32) (ix2 r h) = lgD (inD V0 (ix2 r h)) := by
  unfold res_main_v10 lgD
  pointwise
  rw [two_pow]
  show Ideal.log1p (-Ideal.exp2 _) = Ideal.log1p (0 - Ideal.exp2 (0 - _))
  rw [zero_sub, zero_sub]

theorem v21 (h : Fin 12) : (res_main_v21 V0 : FVec Ideal S12 .f32) (ix1 h) = lgD (inD V0 (ix2 0 h)) := by
  rw [← v10]
  unfold res_main_v21
  pointwise

theorem v175 (h : Fin 12) : (res_main_v175 V0 : FVec Ideal S12 .f32) (ix1 h) = lgD (inD V0 (ix2 1 h)) := by
  rw [← v10]
  unfold res_main_v175
  pointwise

section at_
variable (b : Fin 16) (h : Fin 12)

/-- The three sequences, and the two decays' logarithms. -/
abbrev Qs := seqX (inX V0) 0 (by omega) b h
abbrev Ks := seqX (inX V0) 1536 (by omega) b h
abbrev Vs := seqX (inX V0) 3072 (by omega) b h
abbrev la := lgD (inD V0 (ix2 0 h))
abbrev lb := lgD (inD V0 (ix2 1 h))

theorem v13 (n : Fin 16) (i d : Fin 128) : (res_main_v13 V0 : FVec Ideal S16x12x16x128x128 .f32) (ix5 b h n i d) = Qs V0 b h n.val i d := by
  unfold res_main_v13 res_main_v0 Qs seqX
  pointwise
  exact congrArg (inX V0) (congrArg₂ (ix3 b) (Fin.ext (by show n.val * 128 + i.val = n.val % 16 * 128 + i.val; omega)) rfl)

theorem v16 (n : Fin 16) (i d : Fin 128) : (res_main_v16 V0 : FVec Ideal S16x12x16x128x128 .f32) (ix5 b h n i d) = Ks V0 b h n.val i d := by
  unfold res_main_v16 res_main_v0 Ks seqX
  pointwise
  exact congrArg (inX V0) (congrArg₂ (ix3 b) (Fin.ext (by show n.val * 128 + i.val = n.val % 16 * 128 + i.val; omega)) rfl)

theorem v19 (n : Fin 16) (i d : Fin 128) : (res_main_v19 V0 : FVec Ideal S16x12x16x128x128 .f32) (ix5 b h n i d) = Vs V0 b h n.val i d := by
  unfold res_main_v19 res_main_v0 Vs seqX
  pointwise
  exact congrArg (inX V0) (congrArg₂ (ix3 b) (Fin.ext (by show n.val * 128 + i.val = n.val % 16 * 128 + i.val; omega)) rfl)

theorem rev_val (n : Fin 16) : n.rev.val = 15 - n.val := by rw [Fin.val_rev]; omega

theorem v171 (n : Fin 16) (i d : Fin 128) : (res_main_v171 V0 : FVec Ideal S16x12x16x128x128 .f32) (ix5 b h n i d) = back (Qs V0 b h) n.val i d :=
  (rev_at _ b h n i d).trans ((v13 V0 b h n.rev i.rev d).trans (by rw [rev_val]; rfl))

theorem v172 (n : Fin 16) (i d : Fin 128) : (res_main_v172 V0 : FVec Ideal S16x12x16x128x128 .f32) (ix5 b h n i d) = back (Ks V0 b h) n.val i d :=
  (rev_at _ b h n i d).trans ((v16 V0 b h n.rev i.rev d).trans (by rw [rev_val]; rfl))

theorem v173 (n : Fin 16) (i d : Fin 128) : (res_main_v173 V0 : FVec Ideal S16x12x16x128x128 .f32) (ix5 b h n i d) = back (Vs V0 b h) n.val i d :=
  (rev_at _ b h n i d).trans ((v19 V0 b h n.rev i.rev d).trans (by rw [rev_val]; rfl))

theorem v22 (i : Fin 128) : (res_main_v22 V0 : FVec Ideal S128 .f32) (ix1 i) = num i.val := by
  unfold res_main_v22
  pointwise
  exact num_word i.isLt

theorem v176 (i : Fin 128) : (res_main_v176 V0 : FVec Ideal S128 .f32) (ix1 i) = num i.val := v22 V0 i

theorem v27 (i j : Fin 128) : (res_main_v27 V0 : FVec Ideal S128x128 .f32) (ix2 i j) = num i.val - num j.val := by
  unfold res_main_v27
  pointwise
  rw [v22, v22]

theorem v181 (i j : Fin 128) : (res_main_v181 V0 : FVec Ideal S128x128 .f32) (ix2 i j) = num i.val - num j.val := v27 V0 i j

theorem v29 (i j : Fin 128) : (res_main_v29 V0 : IVec S128x128 1) (ix2 i j) = BitVec.ofBool (decide ((0 : EReal) ≤ num i.val - num j.val)) := by
  rw [← v27 V0]
  unfold res_main_v29
  pointwise

theorem v183 (i j : Fin 128) : (res_main_v183 V0 : IVec S128x128 1) (ix2 i j) = BitVec.ofBool (decide ((0 : EReal) < num i.val - num j.val)) := by
  rw [← v181 V0]
  unfold res_main_v183
  pointwise

theorem v55 (n : Fin 16) (d e : Fin 128) : (res_main_v55 V0 : FVec Ideal S16x16x12x128x128 .f32) (ix5 n b h d e) = kvS (Ks V0 b h) (Vs V0 b h) (la V0 h) n.val d e := by
  unfold res_main_v55 kvS
  pointwise
  refine Finset.sum_congr (M := EReal) rfl fun j _ => ?_
  rw [v16, v19, v21, v22, num_127, num_sub (by omega)]
  rfl

theorem v209 (n : Fin 16) (d e : Fin 128) : (res_main_v209 V0 : FVec Ideal S16x16x12x128x128 .f32) (ix5 n b h d e) = kvS (back (Ks V0 b h)) (back (Vs V0 b h)) (lb V0 h) n.val d e := by
  unfold res_main_v209 kvS
  pointwise
  refine Finset.sum_congr (M := EReal) rfl fun j _ => ?_
  rw [v172, v173, v175, v176, num_127, num_sub (by omega)]
  rfl

theorem v59 : (res_main_v59 V0 : FVec Ideal S1x12x1x1 .f32) (ix4 0 h 0 0) = ex 128 (la V0 h) := by
  unfold res_main_v59 ex
  pointwise
  rw [v21, num_128]

theorem v213 : (res_main_v213 V0 : FVec Ideal S1x12x1x1 .f32) (ix4 0 h 0 0) = ex 128 (lb V0 h) := by
  unfold res_main_v213 ex
  pointwise
  rw [v175, num_128]

theorem v60 (d e : Fin 128) : (res_main_v60 V0 : FVec Ideal S16x12x128x128 .f32) (ix4 b h d e) = (0 : EReal) := by
  unfold res_main_v60
  pointwise

/-- The states before the chunks, and those of the sequence from its end. -/
def stF : Fin 16 → FVec Ideal S16x12x128x128 .f32 := ![res_main_v60 V0, res_main_v95 V0, res_main_v98 V0, res_main_v101 V0, res_main_v104 V0, res_main_v107 V0, res_main_v110 V0, res_main_v113 V0, res_main_v116 V0, res_main_v119 V0, res_main_v122 V0, res_main_v125 V0, res_main_v128 V0, res_main_v131 V0, res_main_v134 V0, res_main_v137 V0]
def stB : Fin 16 → FVec Ideal S16x12x128x128 .f32 := ![res_main_v214 V0, res_main_v249 V0, res_main_v252 V0, res_main_v255 V0, res_main_v258 V0, res_main_v261 V0, res_main_v264 V0, res_main_v267 V0, res_main_v270 V0, res_main_v273 V0, res_main_v276 V0, res_main_v279 V0, res_main_v282 V0, res_main_v285 V0, res_main_v288 V0, res_main_v291 V0]

theorem stF_eq (n : Fin 16) (d e : Fin 128) : stF V0 n (ix4 b h d e) = stS (Ks V0 b h) (Vs V0 b h) (la V0 h) n.val d e :=
  states (res_main_v59 V0) (res_main_v55 V0) (stF V0) (fun n => by fin_cases n <;> exact ⟨_, rfl⟩) b h _ _ _
    (v60 V0 b h) (v59 V0 h) (v55 V0 b h) n d e

theorem stB_eq (n : Fin 16) (d e : Fin 128) : stB V0 n (ix4 b h d e) = stS (back (Ks V0 b h)) (back (Vs V0 b h)) (lb V0 h) n.val d e :=
  states (res_main_v213 V0) (res_main_v209 V0) (stB V0) (fun n => by fin_cases n <;> exact ⟨_, rfl⟩) b h _ _ _
    (v60 V0 b h) (v213 V0 h) (v209 V0 b h) n d e

theorem v169 (n : Fin 16) (i e : Fin 128) :
    (res_main_v169 V0 : FVec Ideal S16x12x16x128x128 .f32) (ix5 b h n i e) = ∑ d : Fin 128, (Qs V0 b h n.val i d * ex (i.val + 1) (la V0 h)) * stS (Ks V0 b h) (Vs V0 b h) (la V0 h) n.val d e := by
  unfold res_main_v169
  refine (inter _ _ _ _ b h n i e).trans (Finset.sum_congr rfl fun d _ => congrArg₂ (· * ·) ?_ ?_)
  · rw [v13, v21, v22, num_one, num_add]; rfl
  · exact (cat (stF V0) n b h d e).trans (stF_eq V0 b h n d e)

theorem v323 (n : Fin 16) (i e : Fin 128) :
    (res_main_v323 V0 : FVec Ideal S16x12x16x128x128 .f32) (ix5 b h n i e) = ∑ d : Fin 128, (back (Qs V0 b h) n.val i d * ex (i.val + 1) (lb V0 h)) * stS (back (Ks V0 b h)) (back (Vs V0 b h)) (lb V0 h) n.val d e := by
  unfold res_main_v323
  refine (inter _ _ _ _ b h n i e).trans (Finset.sum_congr rfl fun d _ => congrArg₂ (· * ·) ?_ ?_)
  · rw [v171, v175, v176, num_one, num_add]; rfl
  · exact (cat (stB V0) n b h d e).trans (stB_eq V0 b h n d e)

theorem v328 (r : Fin 2048) (e : Fin 128) : (res_main_v328 V0 : FVec Ideal S16x2048x12x128 .f32) (ix4 b r h e)
    = bothS (Qs V0 b h) (Ks V0 b h) (Vs V0 b h) (la V0 h) (lb V0 h) (r.val / 128) ⟨r.val % 128, by omega⟩ e := by
  unfold res_main_v328 bothS
  refine (whole _ _ b h r e).trans (congrArg₂ (· + ·) ?_ ?_)
  · refine (intra _ _ _ _ _ _ _ b h _ _ e).trans (congrArg₂ (· + ·) (Finset.sum_congr rfl fun j _ => ?_) (v169 V0 b h _ _ e))
    rw [v19, v29, v27, v21, sel_upto]
    refine congrArg (· * _ * _) (Finset.sum_congr rfl fun d _ => ?_)
    rw [v13, v16]
  · rw [← rev_val ⟨r.val / 128, by omega⟩]
    refine (intra _ _ _ _ _ _ _ b h _ _ e).trans (congrArg₂ (· + ·) (Finset.sum_congr rfl fun j _ => ?_) (v323 V0 b h _ _ e))
    rw [v173, v183, v181, v175, sel_before]
    refine congrArg (· * _ * _) (Finset.sum_congr rfl fun d _ => ?_)
    rw [v171, v172]

end at_

theorem v341 (b : Fin 16) (r : Fin 2048) (j : Fin 1536) : (truncf .bf16 (mulf (extractStridedSlice S16x2048x1536 ![0, 0, 4608] (res_main_v0 V0) slices_S16x2048x6656_S16x2048x1536_0_0_4608) (shapeCast _ (mulf (res_main_v328 V0) (broadcastInDim S16x2048x12x128 ![0, 1, 2, 3] bcast_S16x2048x12x1_S16x2048x12x128_0_1_2_3 (Host.rsqrt (addf (Host.divf (broadcastInDim S16x2048x12x1 ![0, 1, 2] bcast_S16x2048x12_S16x2048x12x1_0_1_2 (Host.reduceAdd (mulf (res_main_v328 V0) (res_main_v328 V0)) (constant S_ .f32 0x00000000#32) reducesTo_S16x2048x12x128_S16x2048x12_d3 h_S_)) (broadcastInDim S16x2048x12x1 ![] bcast_S_S16x2048x12x1 (constant S_ .f32 0x43000000#32))) (broadcastInDim S16x2048x12x1 ![] bcast_S_S16x2048x12x1 (constant S_ .f32 0x358637BD#32)))))) shapeCasts_S16x2048x12x128_S16x2048x1536)) bitsLt_bf16_f32 : FVec Ideal S16x2048x1536 .bf16) (ix3 b r j)
    = retA (inX V0) (inD V0) b r ⟨j.val / 128, by omega⟩ ⟨j.val % 128, by omega⟩ := by
  unfold retA gated res_main_v0
  pointwise
  simp only [v328]
  refine congrArg (· * _) (congrArg (inX V0) (congrArg₂ (ix3 b) (Fin.ext ?_) (Fin.ext ?_)))
  · show r.val = r.val / 128 % 16 * 128 + r.val % 128; omega
  · show 4608 + j.val = 4608 + (j.val / 128 * 128 + j.val % 128); omega

theorem ref_eq : (truncf .bf16 (mulf (extractStridedSlice S16x2048x1536 ![0, 0, 4608] (res_main_v0 V0) slices_S16x2048x6656_S16x2048x1536_0_0_4608) (shapeCast _ (mulf (res_main_v328 V0) (broadcastInDim S16x2048x12x128 ![0, 1, 2, 3] bcast_S16x2048x12x1_S16x2048x12x128_0_1_2_3 (Host.rsqrt (addf (Host.divf (broadcastInDim S16x2048x12x1 ![0, 1, 2] bcast_S16x2048x12_S16x2048x12x1_0_1_2 (Host.reduceAdd (mulf (res_main_v328 V0) (res_main_v328 V0)) (constant S_ .f32 0x00000000#32) reducesTo_S16x2048x12x128_S16x2048x12_d3 h_S_)) (broadcastInDim S16x2048x12x1 ![] bcast_S_S16x2048x12x1 (constant S_ .f32 0x43000000#32))) (broadcastInDim S16x2048x12x1 ![] bcast_S_S16x2048x12x1 (constant S_ .f32 0x358637BD#32)))))) shapeCasts_S16x2048x12x128_S16x2048x1536)) bitsLt_bf16_f32 : FVec Ideal S16x2048x1536 .bf16) = retArr (inX V0) (inD V0) := by
  funext i
  have hi : (i 2).val < 1536 := (i 2).isLt
  refine Eq.trans (congrArg _ ?_) (v341 V0 (i 0) (i 1) (i 2))
  funext a; fin_cases a <;> rfl

end Cert.ReferenceIdeal.Ret

end
-- ==== Proof.RetValue.lean ====
/- The retention's result array as the closed term of the arguments, and the retention's claims. -/
module

public import proofs.«01_k».proof.Defs
public import proofs.«01_k».proof.Proof.Gen.Kernel
public import proofs.«01_k».proof.Proof.RetRef
public import Idealize.ShloMosaic.Lib.Pipeline.ReadBack

@[expose] public section

set_option maxRecDepth 16384

noncomputable section

namespace Cert.KernelIdeal.Ret

open Cert.KernelIdeal Cert.KernelIdeal.Gen
open Idealize.ShloMosaic Idealize.ShloMosaic.TcCoe Idealize.SL.Sem
open Idealize.ShloMosaic.Pipeline (Dat)
open Cert.ReferenceIdeal.Ret (seqX retA retArr retArr_at)

variable (m : (ℓ : Loc nD τ sig) → Buf (Elt Ideal) ℓ) (c : Dev nD)

theorem idx : ∀ t : Fin cfg0.N, win0_0.index t = ![t.val % 12, 0, 0] ∧ win0_1.index t = ![t.val / 12, 0, t.val % 12]
    ∧ win0_2.index t = ![t.val / 12, 0, 12 + t.val % 12] ∧ win0_3.index t = ![t.val / 12, 0, 24 + t.val % 12]
    ∧ win0_4.index t = ![t.val / 12, 0, 36 + t.val % 12] ∧ win0_5.index t = ![t.val / 12, 0, t.val % 12] :=
  (by decide +kernel : ∀ t : Fin grid0.N, _)

/-- The two argument arrays, as launched. -/
abbrev aX : FVec Ideal Cert.ReferenceIdeal.S16x2048x6656 .bf16 := m ((c : Thread nD τ).loc main_arg0)
abbrev aD : FVec Ideal Cert.ReferenceIdeal.S2x12 .f32 := m ((c : Thread nD τ).loc main_arg1)

section point
variable (t : Fin cfg0.N) (ht : t.val < 48)
include ht

theorem read0 (r : Fin 2) (j : Fin 128) : iblk m c 0 t (ix3 0 r j) = aD m c (ix2 r ⟨t.val % 12, by omega⟩) := by
  blk_ext! [iblk, V, idx t]

theorem read1 (s : Fin 4) (r : Fin 2048) (d : Fin 128) :
    iblk m c 1 t (ix3 s r d) = aX m c (ix3 ⟨t.val / 12 * 4 + s.val, by omega⟩ r ⟨t.val % 12 * 128 + d.val, by omega⟩) := by
  blk_ext! [iblk, V, idx t]

theorem read2 (s : Fin 4) (r : Fin 2048) (d : Fin 128) :
    iblk m c 2 t (ix3 s r d) = aX m c (ix3 ⟨t.val / 12 * 4 + s.val, by omega⟩ r ⟨(12 + t.val % 12) * 128 + d.val, by omega⟩) := by
  blk_ext! [iblk, V, idx t]

theorem read3 (s : Fin 4) (r : Fin 2048) (d : Fin 128) :
    iblk m c 3 t (ix3 s r d) = aX m c (ix3 ⟨t.val / 12 * 4 + s.val, by omega⟩ r ⟨(24 + t.val % 12) * 128 + d.val, by omega⟩) := by
  blk_ext! [iblk, V, idx t]

theorem read4 (s : Fin 4) (r : Fin 2048) (d : Fin 128) :
    iblk m c 4 t (ix3 s r d) = aX m c (ix3 ⟨t.val / 12 * 4 + s.val, by omega⟩ r ⟨(36 + t.val % 12) * 128 + d.val, by omega⟩) := by
  blk_ext! [iblk, V, idx t]

/-- A block's chunks are the packed array's sequences, at the part the block's columns lie in. -/
theorem ent_eq (x : Vec Ideal S4x2048x128 .bf16) (off col : ℕ) (ho : off ≤ 4608) (hc : col * 128 = off + t.val % 12 * 128)
    (hx : ∀ (s : Fin 4) (r : Fin 2048) (d : Fin 128), x (ix3 s r d)
      = aX m c (ix3 ⟨t.val / 12 * 4 + s.val, by omega⟩ r ⟨col * 128 + d.val, by omega⟩))
    (s : Fin 4) (b : Fin 16) (h : Fin 12) (hb : b.val = t.val / 12 * 4 + s.val) (hh : h.val = t.val % 12) :
    ent (rows x) s.val = seqX (aX m c) off ho b h := by
  funext n i d
  refine (hx _ _ _).trans (congrArg (aX m c) ?_)
  refine congr (congrArg₂ ix3 (Fin.ext ?_) (Fin.ext ?_)) (Fin.ext ?_)
  · show t.val / 12 * 4 + s.val % 4 = b.val; omega
  · show 128 * (n % 16) + i.val = n % 16 * 128 + i.val; omega
  · show col * 128 + d.val = off + (h.val * 128 + d.val); omega

theorem out_at (s : Fin 4) (r : Fin 2048) (e : Fin 128) (b : Fin 16) (h : Fin 12) (hb : b.val = t.val / 12 * 4 + s.val) (hh : h.val = t.val % 12) :
    outOf (iblk m c 0 t) (iblk m c 1 t) (iblk m c 2 t) (iblk m c 3 t) (iblk m c 4 t) (ix3 s r e) = retA (aX m c) (aD m c) b r h e := by
  have hh' : (⟨t.val % 12, by omega⟩ : Fin 12) = h := Fin.ext hh.symm
  have ha : ∀ j, k0_pay3 (iblk m c 0 t) (ix2 0 j) = lgD (aD m c (ix2 0 h)) := fun j => by
    rw [lg0, read0 m c t ht, hh']
  have hb' : ∀ j, k0_pay4 (iblk m c 0 t) (ix2 0 j) = lgD (aD m c (ix2 1 h)) := fun j => by
    rw [lg1, read0 m c t ht, hh']
  refine (out_eq (iblk m c 0 t) _ _ _ _ _ _ ha hb' s.val (r.val / 128) (by omega) ⟨r.val % 128, by omega⟩ e).trans ?_
  rw [ent_eq m c t ht _ 0 (t.val % 12) (by omega) (by omega) (read1 m c t ht) s b h hb hh,
    ent_eq m c t ht _ 1536 (12 + t.val % 12) (by omega) (by omega) (read2 m c t ht) s b h hb hh,
    ent_eq m c t ht _ 3072 (24 + t.val % 12) (by omega) (by omega) (read3 m c t ht) s b h hb hh,
    ent_eq m c t ht _ 4608 (36 + t.val % 12) (by omega) (by omega) (read4 m c t ht) s b h hb hh]
  rfl

end point

theorem final : (dats m 0 c).arrAt 5 (cfgs 0).N = retArr (aX m c) (aD m c) := by
  refine (dats m 0 c).arrAt_eq_of_covers 5 _ (by decide +kernel) fun t hf y => ?_
  have hN : t.val < 48 := lt_of_lt_of_eq t.isLt N_0
  have h0 : ((win0_5.blk t).view.emb y 0 : ℕ) = t.val / 12 * 4 + (y 0 : ℕ) := by blk_simp [idx t]
  have h1 : (win0_5.blk t).view.emb y 1 = y 1 := by apply Fin.ext; blk_simp [idx t]
  have h2 : ((win0_5.blk t).view.emb y 2 : ℕ) = t.val % 12 * 128 + (y 2 : ℕ) := by blk_simp [idx t]
  have hy : y = ix3 (y 0) (y 1) (y 2) := by funext a; fin_cases a <;> rfl
  refine Eq.trans ?_ (retArr_at _ _ ((win0_5.blk t).view.emb y) _ (y 1) ⟨t.val % 12, by omega⟩ (y 2) rfl h1 h2).symm
  refine Eq.trans ?_ (out_at m c t hN (y 0) (y 1) (y 2) _ ⟨t.val % 12, by omega⟩ h0 rfl)
  exact (congrFun (after_5 m c t) y).trans
    (congrArg (outOf (iblk m c 0 t) (iblk m c 1 t) (iblk m c 2 t) (iblk m c 3 t) (iblk m c 4 t)) hy)

/-- The run, with the result array named. -/
theorem run_value (ρ : Dev nD → PrngReg) : θ_run defs (onTc (τ := τ) (main (F := Ideal))) ⟨m, fun _ => 0, ρ⟩ (fun r => ∀ c : Dev nD,
      r.2.mem ((c.tc : Thread nD τ).loc main_v3) = retArr (aX m c) (aD m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h.1 c).1 5).trans (final m c), h.2.1 c⟩)
    (θ_run_and (run_main m ρ) (frame_all m ρ))

end Cert.KernelIdeal.Ret

namespace Cert.Proof.RetClaims

open Idealize.ShloMosaic Idealize.SL.Sem

theorem body_eq : @Cert.Kernel.cc0_retention Bits _ _ = @Cert.KernelIdeal.cc0_retention Bits _ _ := by
  delta Cert.Kernel.cc0_retention Cert.KernelIdeal.cc0_retention
  rfl

open Cert.KernelIdeal Cert.KernelIdeal.Gen in
theorem table_eq : Cert.Kernel.defs₀ (F := Bits) = Cert.KernelIdeal.defs₀ (F := Bits) := by
  unfold Cert.Kernel.defs₀ Cert.KernelIdeal.defs₀
  refine congrArg _ (funext fun l => funext fun b => ?_)
  match l, b with
  | 0, (t, s) =>
    exact congrArg (fun K : type_of% (@Cert.KernelIdeal.cc0_retention Bits _ _) => K
        (grid0.coords t) (win0_0.stage (s 0)) (hstage0_0 ((s 0).cast nbuf0_0)) (win0_1.stage (s 1)) (hstage0_1 ((s
        1).cast nbuf0_1)) (win0_2.stage (s 2)) (hstage0_2 ((s 2).cast nbuf0_2)) (win0_3.stage (s 3)) (hstage0_3 ((s
        3).cast nbuf0_3)) (win0_4.stage (s 4)) (hstage0_4 ((s 4).cast nbuf0_4)) (win0_5.stage (s 5)) (hstage0_5 ((s
        5).cast nbuf0_5)) (Memref.whole cc0_scratch0) (Memref.isWhole_whole _) (Memref.whole cc0_scratch1)
        (Memref.isWhole_whole _) (Memref.whole cc0_scratch2) (Memref.isWhole_whole _)) body_eq

theorem defs_eq : Cert.Kernel.defs (F := Bits) = Cert.KernelIdeal.defs (F := Bits) := by
  unfold Cert.Kernel.defs Cert.KernelIdeal.defs
  exact congrArg (Pipeline.defs _) table_eq

/-- The two kernels have one text over any arithmetic, so the run above read at the bits is this one. -/
theorem frame_kernel : Cert.quiescent_Kernel := by
  intro m ρ _
  rw [defs_eq]
  exact Cert.KernelIdeal.Ret.frame_all (F := Bits) m ρ
theorem frame_ideal : Cert.quiescent_KernelIdeal := fun m ρ _ => Cert.KernelIdeal.Ret.frame_all m ρ
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)
theorem preserves : Cert.preserves_Kernel_KernelIdeal := trivial

/-- Both runs end at the retention of the arguments. -/
theorem algebraic : Cert.algebraic_KernelIdeal_ReferenceIdeal := by
  intro m ρ m' ρ' _ hagree
  refine ⟨fun c => Cert.ReferenceIdeal.Ret.retArr (Cert.KernelIdeal.Ret.aX m c) (Cert.KernelIdeal.Ret.aD m c), Cert.KernelIdeal.Ret.run_value m ρ, ?_⟩
  refine (θ_run Cert.ReferenceIdeal.defs _ _).mono (fun _ h c => ⟨(h c).1.trans ?_, (h c).2⟩)
    (Cert.ReferenceIdeal.Value.run (F := Ideal) m' ρ')
  obtain ⟨e0, e1⟩ := hagree c
  refine (Cert.ReferenceIdeal.Ret.ref_eq (StableHlo.launchContents m' c)).trans ?_
  exact congrArg₂ Cert.ReferenceIdeal.Ret.retArr e0 e1

end Cert.Proof.RetClaims

end
-- ==== Proof.MlpValue.lean ====
/- The squared-ReLU MLP: what one grid point leaves in the output block and in the scratch, the fold over the eight
   hidden tiles, and the result array as the reference's term. -/
module

public import proofs.«01_k».proof.Defs
public import proofs.«01_k».proof.Proof.Gen.Kernel2.Frame
public import proofs.«01_k».proof.Proof.Gen.Kernel2Ideal.Value
public import proofs.«01_k».proof.Proof.Gen.Reference2Ideal.Run
public import Idealize.ShloMosaic.Lib.Pipeline.ValueKit
public import Idealize.ShloMosaic.Lib.Claim
public import Idealize.ShloMosaic.Lib.Pipeline.ReadBack

@[expose] public section

set_option maxRecDepth 16384

noncomputable section

namespace Cert.Kernel2Ideal.Mlp

open Cert.Kernel2Ideal Cert.Kernel2Ideal.Gen
open Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val / 8, 0] ∧ win0_1.index t = ![0, 0] ∧ win0_2.index t = ![0, 0]
    ∧ win0_3.index t = ![1, 0, t.val % 8] ∧ win0_4.index t = ![1, t.val % 8, 0] ∧ win0_5.index t = ![t.val / 8, 0] :=
  (by decide +kernel : ∀ t : Fin grid0.N, _)

/-- A row `X` divided by the root of its mean square, at column `d`, times the gain there. -/
def nrm (X g : Fin 2048 → EReal) (d : Fin 2048) : EReal :=
  X d * Ideal.rsqrt (Ideal.div (∑ e, X e * X e) (Ideal.ofBits FTy.f32 1157627904#32) + Ideal.ofBits FTy.f32 897988541#32) * g d

/-- The squared positive part of the product of a row with each of `n` columns, times a column of `n` entries. -/
def part {n : ℕ} (h : Fin 2048 → EReal) (w1 : Fin 2048 → Fin n → EReal) (w2 : Fin n → EReal) : EReal :=
  ∑ k, max (∑ d, h d * w1 d k) 0 * max (∑ d, h d * w1 d k) 0 * w2 k

section point
variable (c : Dev nD) (t : Fin cfg0.N)

/-- The point's normalised row `i` of the block of `x`. -/
abbrev hblk (i : Fin 1024) : Fin 2048 → EReal := nrm (fun e => iblk m c 0 t (ix2 i e)) (fun e => iblk m c 1 t (ix2 0 e))
/-- The point's part of the product with the second weight, from the normalised row `h`, at column `j`. -/
abbrev pblk (h : Fin 2048 → EReal) (j : Fin 2048) : EReal :=
  part (fun d => h d) (fun d (k : Fin 1024) => iblk m c 3 t (ix3 0 d k)) (fun k => iblk m c 4 t (ix3 0 k j))

theorem outA (h0 : t.val % 8 = 0) (h1 : ¬(1 ≤ t.val % 8 ∧ t.val % 8 ≤ 6)) (h2 : ¬t.val % 8 = 7) (y : S1024x2048.Idx) :
    (outsAt0 m c t.val t.isLt).1 y = pblk m c t (hblk m c t (y 0)) (y 1) := by
  rw [outsAt0_A m c t h0 h1 h2]
  frame_out
  canon_tiles x h
  all_goals (open_payloads; pointwise [part, nrm]; blk_point)

theorem scrA (h0 : t.val % 8 = 0) (h1 : ¬(1 ≤ t.val % 8 ∧ t.val % 8 ≤ 6)) (h2 : ¬t.val % 8 = 7) (y : S1024x2048.Idx) :
    (outsAt0 m c t.val t.isLt).2 y = hblk m c t (y 0) (y 1) := by
  rw [outsAt0_A m c t h0 h1 h2]
  frame_out
  canon_tiles x h
  all_goals (open_payloads; pointwise [nrm]; blk_point)

/-- What the point before left. -/
abbrev prev : Vec Ideal S1024x2048 .f32 × Vec Ideal S1024x2048 .bf16 := outsAt0 m c (t.val - 1) (Nat.lt_of_le_of_lt (Nat.sub_le _ _) t.isLt)

theorem outB (h0 : ¬t.val % 8 = 0) (h1 : 1 ≤ t.val % 8 ∧ t.val % 8 ≤ 6) (h2 : ¬t.val % 8 = 7) (y : S1024x2048.Idx) :
    (outsAt0 m c t.val t.isLt).1 y = (prev m c t).1 (ix2 (y 0) (y 1)) + pblk m c t (fun d => (prev m c t).2 (ix2 (y 0) d)) (y 1) := by
  rw [outsAt0_B m c t h0 h1 h2]
  frame_out
  simp only [read_unread_whole]
  canon_tiles x h
  all_goals (open_payloads; pointwise [part]; blk_point)

theorem scrB (h0 : ¬t.val % 8 = 0) (h1 : 1 ≤ t.val % 8 ∧ t.val % 8 ≤ 6) (h2 : ¬t.val % 8 = 7) :
    (outsAt0 m c t.val t.isLt).2 = (prev m c t).2 := by
  rw [outsAt0_B m c t h0 h1 h2]; rfl

theorem outC (h0 : ¬t.val % 8 = 0) (h1 : ¬(1 ≤ t.val % 8 ∧ t.val % 8 ≤ 6)) (h2 : t.val % 8 = 7) (y : S1024x2048.Idx) :
    (outsAt0 m c t.val t.isLt).1 y = (show EReal from iblk m c 0 t (ix2 (y 0) (y 1)))
      + nrm (fun j => (prev m c t).1 (ix2 (y 0) j) + pblk m c t (fun d => (prev m c t).2 (ix2 (y 0) d)) j) (fun e => iblk m c 2 t (ix2 0 e)) (y 1) := by
  rw [outsAt0_C m c t h0 h1 h2]
  frame_out
  simp only [read_unread_whole]
  canon_tiles x h
  all_goals (open_payloads; pointwise [part, nrm]; blk_point)

theorem outA_at (h0 : t.val % 8 = 0) (h1 : ¬(1 ≤ t.val % 8 ∧ t.val % 8 ≤ 6)) (h2 : ¬t.val % 8 = 7) (i : Fin 1024) (j : Fin 2048) :
    (outsAt0 m c t.val t.isLt).1 (ix2 i j) = pblk m c t (hblk m c t i) j := outA m c t h0 h1 h2 (ix2 i j)

theorem outB_at (h0 : ¬t.val % 8 = 0) (h1 : 1 ≤ t.val % 8 ∧ t.val % 8 ≤ 6) (h2 : ¬t.val % 8 = 7) (i : Fin 1024) (j : Fin 2048) :
    (outsAt0 m c t.val t.isLt).1 (ix2 i j) = (prev m c t).1 (ix2 i j) + pblk m c t (fun d => (prev m c t).2 (ix2 i d)) j :=
  outB m c t h0 h1 h2 (ix2 i j)

end point

/-! ## Over the arrays -/

section arrays
variable (X : FVec Ideal S32768x2048 .f32) (gi go : FVec Ideal S2048 .f32) (W1 : FVec Ideal S2x2048x8192 .f32) (W2 : FVec Ideal S2x8192x2048 .f32)

/-- The normalised row `R`. -/
def hA (R : Fin 32768) : Fin 2048 → EReal := nrm (fun e => X (ix2 R e)) (fun e => gi (ix1 e))

/-- The part of hidden tile `s` (of eight) in the product with the second weight, from the row `h`, at column `j`. -/
def pA (h : Fin 2048 → EReal) (s : ℕ) (j : Fin 2048) : EReal :=
  part h (fun d (k : Fin 1024) => W1 (ix3 1 d ⟨s % 8 * 1024 + k, by omega⟩)) (fun k => W2 (ix3 1 ⟨s % 8 * 1024 + k, by omega⟩ j))

/-- The whole hidden layer's. -/
def qA (h : Fin 2048 → EReal) (j : Fin 2048) : EReal :=
  part h (fun d (k : Fin 8192) => W1 (ix3 1 d k)) (fun k => W2 (ix3 1 k j))

/-- The MLP's result at row `R`, column `j`. -/
def mlpA (R : Fin 32768) (j : Fin 2048) : EReal :=
  X (ix2 R j) + nrm (qA W1 W2 (hA X gi R)) (fun e => go (ix1 e)) j

theorem sum_pA (h : Fin 2048 → EReal) (j : Fin 2048) : ∑ s ∈ Finset.range 8, pA W1 W2 h s j = qA W1 W2 h j := by
  rw [Finset.sum_range]
  unfold pA qA part
  refine Fin.sum_mul_add_congr fun s k hl => ?_
  have hs : (s : ℕ) % 8 = s := Nat.mod_eq_of_lt s.isLt
  simp only [hs]

end arrays

section fold
variable (c : Dev nD)

/-- The five argument arrays, as launched. -/
abbrev aX : FVec Ideal S32768x2048 .f32 := m ((c : Thread nD τ).loc main_arg0)
abbrev aI : FVec Ideal S2048 .f32 := m ((c : Thread nD τ).loc main_arg1)
abbrev aO : FVec Ideal S2048 .f32 := m ((c : Thread nD τ).loc main_arg2)
abbrev aW : FVec Ideal S2x2048x8192 .f32 := m ((c : Thread nD τ).loc main_arg3)
abbrev aV : FVec Ideal S2x8192x2048 .f32 := m ((c : Thread nD τ).loc main_arg4)

theorem read0 (t : Fin cfg0.N) (i : Fin 1024) (R : Fin 32768) (hR : (R : ℕ) = t.val / 8 * 1024 + i) (j : Fin 2048) :
    iblk m c 0 t (ix2 i j) = m ((c : Thread nD τ).loc main_arg0) (ix2 R j) := by
  blk_ext! [iblk, V, idx t]

theorem read1 (t : Fin cfg0.N) (j : Fin 2048) : iblk m c 1 t (ix2 0 j) = m ((c : Thread nD τ).loc main_arg1) (ix1 j) := by
  blk_ext! [iblk, V, idx t]

theorem read2 (t : Fin cfg0.N) (j : Fin 2048) : iblk m c 2 t (ix2 0 j) = m ((c : Thread nD τ).loc main_arg2) (ix1 j) := by
  blk_ext! [iblk, V, idx t]

theorem read3 (t : Fin cfg0.N) (d : Fin 2048) (k : Fin 1024) :
    iblk m c 3 t (ix3 0 d k) = m ((c : Thread nD τ).loc main_arg3) (ix3 1 d ⟨t.val % 8 * 1024 + k, by omega⟩) := by
  blk_ext! [iblk, V, idx t]

theorem read4 (t : Fin cfg0.N) (k : Fin 1024) (j : Fin 2048) :
    iblk m c 4 t (ix3 0 k j) = m ((c : Thread nD τ).loc main_arg4) (ix3 1 ⟨t.val % 8 * 1024 + k, by omega⟩ j) := by
  blk_ext! [iblk, V, idx t]

theorem hblk_eq (t : Fin cfg0.N) (i : Fin 1024) (R : Fin 32768) (hR : (R : ℕ) = t.val / 8 * 1024 + i) : hblk m c t i = hA (aX m c) (aI m c) R :=
  congrArg₂ nrm (funext fun e => read0 m c t i R hR e) (funext fun e => read1 m c t e)

theorem pblk_eq (t : Fin cfg0.N) (h : Fin 2048 → EReal) (j : Fin 2048) : pblk m c t h j = pA (aW m c) (aV m c) h t.val j :=
  congrArg₂ (part h) (funext fun d => funext fun k => read3 m c t d k) (funext fun k => read4 m c t k j)

/-- Through the points that are not the last of their run: the scratch holds the normalised rows, the output block the
    parts of the hidden tiles so far. -/
theorem inv : ∀ (n : ℕ) (hn : n < cfg0.N), n % 8 ≤ 6 → ∀ (i : Fin 1024) (R : Fin 32768), (R : ℕ) = n / 8 * 1024 + i →
    (∀ j, (outsAt0 m c n hn).2 (ix2 i j) = hA (aX m c) (aI m c) R j)
      ∧ ∀ j, (outsAt0 m c n hn).1 (ix2 i j) = ∑ s ∈ Finset.range (n % 8 + 1), pA (aW m c) (aV m c) (hA (aX m c) (aI m c) R) s j := by
  intro n
  induction n with
  | zero =>
    intro hn h6 i R hR
    have e := hblk_eq m c ⟨0, hn⟩ i R hR
    refine ⟨fun j => ?_, fun j => ?_⟩
    · exact (scrA m c ⟨0, hn⟩ (Nat.zero_mod 8) (fun h => absurd (show 1 ≤ 0 % 8 from h.1) (by decide)) (show ¬0 % 8 = 7 by decide) (ix2 i j)).trans (congrFun e j)
    · refine (outA_at m c ⟨0, hn⟩ (Nat.zero_mod 8) (fun h => absurd (show 1 ≤ 0 % 8 from h.1) (by decide)) (show ¬0 % 8 = 7 by decide) i j).trans ?_
      rw [e, pblk_eq]
      exact (Finset.sum_range_one fun s => pA (aW m c) (aV m c) (hA (aX m c) (aI m c) R) s j).symm
  | succ n ih =>
    intro hn h6 i R hR
    by_cases h0 : (n + 1) % 8 = 0
    · have h1 : ¬(1 ≤ (n + 1) % 8 ∧ (n + 1) % 8 ≤ 6) := by omega
      have h2 : ¬(n + 1) % 8 = 7 := by omega
      have e := hblk_eq m c ⟨n + 1, hn⟩ i R hR
      refine ⟨fun j => ?_, fun j => ?_⟩
      · exact (scrA m c ⟨n + 1, hn⟩ h0 h1 h2 (ix2 i j)).trans (congrFun e j)
      · refine (outA_at m c ⟨n + 1, hn⟩ h0 h1 h2 i j).trans ?_
        rw [e, pblk_eq, h0]
        refine Eq.trans ?_ (Finset.sum_range_one _).symm
        unfold pA
        simp only [h0, Nat.zero_mod]
    · have h1 : 1 ≤ (n + 1) % 8 ∧ (n + 1) % 8 ≤ 6 := by omega
      have h2 : ¬(n + 1) % 8 = 7 := by omega
      have hp := ih (Nat.lt_of_succ_lt hn) (by omega) i R (by omega)
      refine ⟨fun j => ?_, fun j => ?_⟩
      · exact (congrFun (scrB m c ⟨n + 1, hn⟩ h0 h1 h2) (ix2 i j)).trans (hp.1 j)
      · refine (outB_at m c ⟨n + 1, hn⟩ h0 h1 h2 i j).trans ?_
        have e2 : (fun d => (prev m c ⟨n + 1, hn⟩).2 (ix2 i d)) = hA (aX m c) (aI m c) R := funext fun d => hp.1 d
        have e1 : (prev m c ⟨n + 1, hn⟩).1 (ix2 i j) = _ := hp.2 j
        rw [e2, e1, pblk_eq, show n % 8 + 1 = (n + 1) % 8 by omega, Finset.sum_range_succ]
        refine congrArg (fun z => (∑ s ∈ Finset.range ((n + 1) % 8), pA (aW m c) (aV m c) (hA (aX m c) (aI m c) R) s j) + z) ?_
        unfold pA
        simp only [Nat.mod_mod]

theorem final : (dats m 0 c).arrAt 5 (cfgs 0).N = fun i => mlpA (aX m c) (aI m c) (aO m c) (aW m c) (aV m c) (i 0) (i 1) := by
  refine (dats m 0 c).arrAt_eq_of_covers 5 _ (by decide +kernel) fun t hf y => ?_
  have h2 : t.val % 8 = 7 := (flush0_5 t).mp hf
  have hN : t.val < 256 := lt_of_lt_of_eq t.isLt N_0
  blk_simp
  rw [after0_5, outC m c t (by omega) (by omega) h2]
  have hR : ((win0_5.blk t).view.emb y 0 : ℕ) = t.val / 8 * 1024 + (y 0 : ℕ) := by blk_simp [idx t]
  have hC : (win0_5.blk t).view.emb y 1 = y 1 := by apply Fin.ext; blk_simp [idx t]
  have hp := inv m c (t.val - 1) (Nat.lt_of_le_of_lt (Nat.sub_le _ _) t.isLt) (by omega) (y 0) ((win0_5.blk t).view.emb y 0) (by omega)
  have e2 : (fun d => (prev m c t).2 (ix2 (y 0) d)) = hA (aX m c) (aI m c) ((win0_5.blk t).view.emb y 0) := funext fun d => hp.1 d
  have e1 : (fun j => (prev m c t).1 (ix2 (y 0) j) + pblk m c t (fun d => (prev m c t).2 (ix2 (y 0) d)) j)
      = qA (aW m c) (aV m c) (hA (aX m c) (aI m c) ((win0_5.blk t).view.emb y 0)) := by
    funext j
    rw [e2, pblk_eq, ← sum_pA, Finset.sum_range_succ]
    have e3 : (prev m c t).1 (ix2 (y 0) j) = _ := hp.2 j
    have e4 : pA (aW m c) (aV m c) (hA (aX m c) (aI m c) ((win0_5.blk t).view.emb y 0)) t.val j = pA (aW m c) (aV m c) (hA (aX m c) (aI m c) ((win0_5.blk t).view.emb y 0)) 7 j := by
      unfold pA
      simp only [h2, show 7 % 8 = 7 from rfl]
    rw [e3, e4, show (t.val - 1) % 8 + 1 = 7 by omega]
  rw [e1, hC]
  exact congrArg₂ (fun a b : EReal => a + b) (read0 m c t (y 0) _ hR (y 1)) (congrArg (fun g => nrm (qA (aW m c) (aV m c) (hA (aX m c) (aI m c) ((win0_5.blk t).view.emb y 0))) g (y 1)) (funext fun e => read2 m c t e))

end fold

theorem ref_eq (m : (ℓ : Loc Cert.Reference2Ideal.nD Cert.Reference2Ideal.τ Cert.Reference2Ideal.sig) → Buf (Elt Ideal) ℓ) (c : Dev Cert.Reference2Ideal.nD) :
    Cert.Reference2Ideal.Value.res_out0 m c = fun i => mlpA (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (i 0) (i 1) := by
  funext i
  pointwise [Cert.Reference2Ideal.Value.res_out0, Cert.Reference2Ideal.Value.res_main_v34, mlpA, qA, hA, part, nrm]

end Cert.Kernel2Ideal.Mlp

namespace Cert.Proof.MlpClaims

open Idealize.ShloMosaic Idealize.SL.Sem

theorem frame_kernel : Cert.quiescent_Kernel2 := fun m ρ _ => Cert.Kernel2.Gen.frame m ρ
theorem frame_ideal : Cert.quiescent_Kernel2Ideal := fun m ρ _ => Cert.Kernel2Ideal.Gen.frame m ρ
theorem frame_reference : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)
theorem preserves : Cert.preserves_Kernel2_Kernel2Ideal := trivial

/-- Both runs end at the MLP's term of the arguments. -/
theorem algebraic : Cert.algebraic_Kernel2Ideal_Reference2Ideal := by
  intro m ρ m' ρ' _ hagree
  refine ⟨_, Cert.Kernel2Ideal.Value.run_blocks (F := Ideal) m ρ, ?_⟩
  refine (θ_run Cert.Reference2Ideal.defs _ _).mono (fun _ h c => ⟨(h c).1.trans ?_, (h c).2⟩)
    (Cert.Reference2Ideal.Value.run (F := Ideal) m' ρ')
  refine (Cert.Kernel2Ideal.Mlp.ref_eq m' c).trans (Eq.trans ?_ (Cert.Kernel2Ideal.Mlp.final m c).symm)
  obtain ⟨e0, e1, e2, e3, e4⟩ := hagree c
  rw [e0, e1, e2, e3, e4]
  rfl

end Cert.Proof.MlpClaims

end
-- ==== Proof.ColForm.lean ====
/- The retention layer's product with its columns' weight: the column blocks of one point, as one table. -/
module

public import proofs.«01_k».proof.Defs
public import proofs.«01_k».proof.Proof.Gen.Kernel3Ideal.Value
public import Idealize.ShloMosaic.Lib.Pipeline.ValueKit

@[expose] public section

set_option maxRecDepth 16384

noncomputable section

namespace Cert.Kernel3Ideal.Col

open Cert.Kernel3Ideal Cert.Kernel3Ideal.Gen
open Idealize.ShloMosaic Idealize.ShloMosaic.TcCoe Idealize.SL.Sem

theorem cuts : ∀ b : Fin 52, S256x6656.Slices ![0, 128 * b.val] S256x128 := by decide +kernel

section table
variable (R : FVec Ideal S256x6656 .f32) (C S : FVec Ideal S256x128 .f32)

/-- A block turned: times the cosines, plus itself shifted by half times the signed sines. -/
def turned (x : FVec Ideal S256x128 .f32) : FVec Ideal S256x128 .f32 :=
  addf (mulf x C) (mulf (dynamicRotate 1 64#32 none x rotates_S256x128_d1) S)

/-- A block gated by its logistic. -/
def gatedBy (x : FVec Ideal S256x128 .f32) : FVec Ideal S256x128 .f32 :=
  mulf x (divf (broadcast S256x128 (Scalar.ofBits .f32 0x3F800000#32))
    (addf (broadcast S256x128 (Scalar.ofBits .f32 0x3F800000#32)) (exp (subf (broadcast S256x128 (Scalar.ofBits .f32 0x00000000#32)) x))))

/-- What column block `b` becomes. -/
def block (b : Fin 52) : FVec Ideal S256x128 .bf16 :=
  let x := extractStridedSlice S256x128 ![0, 128 * b.val] R (cuts b)
  truncf .bf16 (if b.val < 12 then turned C S x
    else if b.val < 24 then mulf (turned C S x) (broadcast S256x128 (Scalar.ofBits .f32 0x3DB504F3#32))
    else if b.val < 36 then x else if b.val < 48 then gatedBy x else x) bitsLt_bf16_f32

/-- The 52 pieces fit side by side. -/
theorem joins : Shape.Concatenates ((List.ofFn fun b : Fin 52 => (⟨S256x128, block R C S b⟩ : (s : Shape) × (s.Idx → Elt Ideal .bf16))).map (·.1)) S256x6656 1 :=
  concatenates_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x6656_d1

/-- The blocks side by side. -/
def table : FVec Ideal S256x6656 .bf16 :=
  concatenate S256x6656 1 (List.ofFn fun b : Fin 52 => (⟨S256x128, block R C S b⟩ : (s : Shape) × (s.Idx → Elt Ideal .bf16))) (joins R C S)

end table

theorem join_congr {xs ys : List ((s : Shape) × (s.Idx → Elt Ideal .bf16))} (e : xs = ys) (h : Shape.Concatenates (xs.map (·.1)) S256x6656 1)
    (h' : Shape.Concatenates (ys.map (·.1)) S256x6656 1) : concatenate S256x6656 1 xs h = concatenate S256x6656 1 ys h' := by
  subst e; rfl

theorem two_congr {p p' q q' : Vec Ideal S256x6656 .bf16} (hp : p = p') (hq : q = q') :
    View.canon ([⟨r0_7, p⟩, ⟨r0_4, q⟩] : List (View.Piece (Elt Ideal) S512x6656 .bf16)) = View.canon [⟨r0_7, p'⟩, ⟨r0_4, q'⟩] := by
  subst hp hq; rfl

variable (x0 : Vec Ideal S512x2048 .f32) (x1 : Vec Ideal S1x2048 .f32) (x2 : Vec Ideal S1x2048x6656 .bf16) (x3 x4 : Vec Ideal S512x128 .f32)

theorem out_eq : out0_5 x0 x1 x2 x3 x4 = View.canon
    [⟨r0_7, table (k0_pay65 (k0_pay3 (View.ld x1 r0_0)) (View.ld x0 r0_5) (View.ld x2 r0_2)) (k0_pay66 (View.ld x3 r0_6)) (k0_pay67 (View.ld x4 r0_6))⟩,
      ⟨r0_4, table (k0_pay4 (View.ld x1 r0_0) (View.ld x0 r0_1) (View.ld x2 r0_2)) (k0_pay5 (View.ld x3 r0_3)) (k0_pay6 (View.ld x4 r0_3))⟩] := by
  unfold out0_5
  refine two_congr ?_ ?_
  · exact join_congr (by rfl) (joins _ _ _) (joins _ _ _)
  · exact join_congr (by rfl) (joins _ _ _) (joins _ _ _)

end Cert.Kernel3Ideal.Col

end
-- ==== Proof.ColValue.lean ====
/- The retention layer's product with its columns' weight: one point's block at an index, the result array, and the
   reference's columns. -/
module

public import proofs.«01_k».proof.Proof.ColForm
public import proofs.«01_k».proof.Proof.Gen.Kernel3.Frame
public import proofs.«01_k».proof.Proof.Gen.Reference3Ideal.Run
public import Idealize.ShloMosaic.Lib.Pipeline.ValueKit
public import Idealize.ShloMosaic.Lib.Claim
public import Idealize.ShloMosaic.Lib.Pipeline.ReadBack

@[expose] public section

set_option maxRecDepth 16384

noncomputable section

namespace Cert.Kernel3Ideal.Col

open Cert.Kernel3Ideal Cert.Kernel3Ideal.Gen
open Idealize.ShloMosaic Idealize.ShloMosaic.TcCoe Idealize.SL.Sem
open Idealize.ShloMosaic.Pipeline (Dat)

/-- A row `r` of products turned at column `j`, by the cosines `c` and the signed sines `s` of its position. -/
def rotA (r : Fin 6656 → EReal) (c s : Fin 128 → EReal) (j : Fin 6656) : EReal :=
  r j * c ⟨j % 128, by omega⟩ + r ⟨j / 128 * 128 + (j % 128 + 64) % 128, by omega⟩ * s ⟨j % 128, by omega⟩

/-- What a row `r` of products becomes at column `j`. -/
def colA (r : Fin 6656 → EReal) (c s : Fin 128 → EReal) (j : Fin 6656) : EReal :=
  if j < 1536 then rotA r c s j
  else if j < 3072 then rotA r c s j * Ideal.ofBits FTy.f32 1035273459#32
  else if j < 4608 then r j
  else if j < 6144 then r j * Ideal.div (Ideal.ofBits FTy.f32 1065353216#32) (Ideal.ofBits FTy.f32 1065353216#32 + Ideal.exp (Ideal.ofBits FTy.f32 0#32 - r j))
  else r j

theorem turned_at (C S x : FVec Ideal S256x128 .f32) (i : Fin 256) (d : Fin 128) :
    (turned C S x (ix2 i d) : EReal) = x (ix2 i d) * C (ix2 i d) + x (ix2 i ⟨(d + 64) % 128, by omega⟩) * S (ix2 i d) := by
  pointwise [turned]
  exact congrArg (fun z : Fin 128 => x (ix2 i d) * C (ix2 i d) + x (ix2 i z) * S (ix2 i d)) (Fin.ext (by show (d.val + 128 - 64) % 128 = (d.val + 64) % 128; omega))

theorem gatedBy_at (x : FVec Ideal S256x128 .f32) (i : Fin 256) (d : Fin 128) :
    (gatedBy x (ix2 i d) : EReal) = x (ix2 i d) * Ideal.div (Ideal.ofBits FTy.f32 1065353216#32) (Ideal.ofBits FTy.f32 1065353216#32 + Ideal.exp (Ideal.ofBits FTy.f32 0#32 - x (ix2 i d))) := by
  pointwise [gatedBy]

theorem cut_at (R : FVec Ideal S256x6656 .f32) (b : Fin 52) (i : Fin 256) (d : Fin 128) :
    (extractStridedSlice S256x128 ![0, 128 * b.val] R (cuts b)) (ix2 i d) = R (ix2 i ⟨128 * b + d, by omega⟩) := by
  pointwise

theorem table_at (R : FVec Ideal S256x6656 .f32) (C S : FVec Ideal S256x128 .f32) (i : Fin 256) (j : Fin 6656) :
    table R C S (ix2 i j) = colA (fun j => R (ix2 i j)) (fun d => C (ix2 i d)) (fun d => S (ix2 i d)) j := by
  have hb : j.val / 128 < 52 := by omega
  refine (concatenate_ofFn_apply (t := S256x6656) (s₁ := S256x128) 1 (fun b => block R C S b) (joins R C S) rfl 128 rfl (ix2 i j)
    ⟨j.val / 128, hb⟩ rfl (ix2 i ⟨j.val % 128, by omega⟩) rfl (fun b hne => ?_)).trans ?_
  · match b, hne with
    | 0, _ => rfl
    | 1, h => exact absurd rfl h
  have hcut : ∀ d : Fin 128, (extractStridedSlice S256x128 ![0, 128 * (j.val / 128)] R (cuts ⟨j.val / 128, hb⟩)) (ix2 i d)
      = R (ix2 i ⟨j.val / 128 * 128 + d, by omega⟩) := fun d =>
    (cut_at R ⟨j.val / 128, hb⟩ i d).trans (congrArg (fun z => R (ix2 i z)) (Fin.ext (by show 128 * (j.val / 128) + d.val = j.val / 128 * 128 + d.val; omega)))
  have hself : R (ix2 i ⟨j.val / 128 * 128 + (⟨j.val % 128, by omega⟩ : Fin 128), by omega⟩) = R (ix2 i j) :=
    congrArg (fun z => R (ix2 i z)) (Fin.ext (by show j.val / 128 * 128 + j.val % 128 = j.val; omega))
  have hrot : (turned C S (extractStridedSlice S256x128 ![0, 128 * (j.val / 128)] R (cuts ⟨j.val / 128, hb⟩)) (ix2 i ⟨j.val % 128, by omega⟩) : EReal)
      = rotA (fun j => R (ix2 i j)) (fun d => C (ix2 i d)) (fun d => S (ix2 i d)) j := by
    rw [turned_at, hcut, hcut, hself]; rfl
  unfold colA block
  by_cases h1 : j.val < 1536
  · rw [if_pos (show j < 1536 from h1), if_pos (show j.val / 128 < 12 by omega)]
    exact hrot
  rw [if_neg (show ¬j < 1536 from h1), if_neg (show ¬j.val / 128 < 12 by omega)]
  by_cases h2 : j.val < 3072
  · rw [if_pos (show j < 3072 from h2), if_pos (show j.val / 128 < 24 by omega)]
    exact congrArg (fun z : EReal => z * Ideal.ofBits FTy.f32 1035273459#32) hrot
  rw [if_neg (show ¬j < 3072 from h2), if_neg (show ¬j.val / 128 < 24 by omega)]
  by_cases h3 : j.val < 4608
  · rw [if_pos (show j < 4608 from h3), if_pos (show j.val / 128 < 36 by omega)]
    exact (hcut _).trans hself
  rw [if_neg (show ¬j < 4608 from h3), if_neg (show ¬j.val / 128 < 36 by omega)]
  by_cases h4 : j.val < 6144
  · rw [if_pos (show j < 6144 from h4), if_pos (show j.val / 128 < 48 by omega)]
    refine (gatedBy_at _ i _).trans ?_
    rw [hcut, hself]
  rw [if_neg (show ¬j < 6144 from h4), if_neg (show ¬j.val / 128 < 48 by omega)]
  exact (hcut _).trans hself

/-- A row `X` divided by the root of its mean square, at column `d`, times the gain there. -/
def nrm (X g : Fin 2048 → EReal) (d : Fin 2048) : EReal :=
  X d * Ideal.rsqrt (Ideal.div (∑ e, X e * X e) (Ideal.ofBits FTy.f32 1157627904#32) + Ideal.ofBits FTy.f32 897988541#32) * g d

theorem colA_congr {r r' : Fin 6656 → EReal} {c c' s s' : Fin 128 → EReal} {j j' : Fin 6656} (hr : r = r') (hc : c = c') (hs : s = s') (hj : j = j') :
    colA r c s j = colA r' c' s' j' := by
  subst hr hc hs hj; rfl

section point
variable (x0 : Vec Ideal S512x2048 .f32) (x1 : Vec Ideal S1x2048 .f32) (x2 : Vec Ideal S1x2048x6656 .bf16) (x3 x4 : Vec Ideal S512x128 .f32)

/-- Row `i` of the point's block of products. -/
def prodB (i : Fin 512) (j : Fin 6656) : EReal :=
  ∑ e : Fin 2048, nrm (fun e => x0 (ix2 i e)) (fun e => x1 (ix2 0 e)) e * x2 (ix3 0 e j)

theorem out_at (y : S512x6656.Idx) :
    out0_5 x0 x1 x2 x3 x4 y = colA (prodB x0 x1 x2 (y 0)) (fun d => x3 (ix2 (y 0) d)) (fun d => x4 (ix2 (y 0) d)) (y 1) := by
  rw [out_eq]
  canon_tiles x h
  all_goals
    refine (congrArg (table _ _ _) (show x = ix2 (x 0) (x 1) by funext b; match b with | 0 => rfl | 1 => rfl)).trans ((table_at _ _ _ _ _).trans ?_)
    refine colA_congr (funext fun j => ?_) (funext fun d => ?_) (funext fun d => ?_) (Fin.ext h1.symm)
    all_goals (open_payloads; pointwise [prodB, nrm]; blk_point)

end point

/-! ## Over the arrays -/

section fold
variable (m : (ℓ : Loc nD τ sig) → Buf (Elt Ideal) ℓ) (c : Dev nD)

/-- The angle of position `p` at lane `e` of a half. -/
def ang (p e : ℕ) : EReal :=
  FloatOps.sitofp (F := Ideal) FTy.f32 (BitVec.ofNat 32 p) * Ideal.pow (Ideal.ofBits FTy.f32 1176256512#32)
    (Ideal.div (-FloatOps.sitofp (F := Ideal) FTy.f32 (BitVec.ofNat 32 e)) (Ideal.ofBits FTy.f32 1115684864#32))

/-- The cosines of position `p`, the half's twice. -/
def cosA (p : ℕ) (d : Fin 128) : EReal := if d.val < 64 then Ideal.cos (ang p d.val) else Ideal.cos (ang p (d.val - 64))
/-- The sines of position `p`, the half's negated and as they are. -/
def sinA (p : ℕ) (d : Fin 128) : EReal := if d.val < 64 then -Ideal.sin (ang p d.val) else Ideal.sin (ang p (d.val - 64))

theorem idx : ∀ t : Fin cfg0.N, win0_0.index t = ![t.val, 0] ∧ win0_1.index t = ![0, 0] ∧ win0_2.index t = ![0, 0, 0]
    ∧ win0_3.index t = ![t.val % 4, 0] ∧ win0_4.index t = ![t.val % 4, 0] ∧ win0_5.index t = ![t.val, 0] :=
  (by decide +kernel : ∀ t : Fin grid0.N, _)

/-- The three argument arrays, as launched. -/
abbrev aX : FVec Ideal S16x2048x2048 .f32 := m ((c : Thread nD τ).loc main_arg0)
abbrev aG : FVec Ideal S2048 .f32 := m ((c : Thread nD τ).loc main_arg1)
abbrev aW : FVec Ideal S1x2048x6656 .f32 := m ((c : Thread nD τ).loc main_arg2)

theorem read0 (t : Fin cfg0.N) (i : Fin 512) (R : Fin 32768) (hR : (R : ℕ) = t.val * 512 + i) (e : Fin 2048) :
    iblk m c 0 t (ix2 i e) = aX m c (ix3 ⟨R / 2048, by omega⟩ ⟨R % 2048, by omega⟩ e) := by
  blk_ext! [iblk, V, idx t]

theorem read1 (t : Fin cfg0.N) (e : Fin 2048) : iblk m c 1 t (ix2 0 e) = aG m c (ix1 e) := by
  blk_ext! [iblk, V, idx t]

theorem read2 (t : Fin cfg0.N) (e : Fin 2048) (j : Fin 6656) : iblk m c 2 t (ix3 0 e j) = aW m c (ix3 0 e j) := by
  blk_ext! [iblk, V, idx t]

theorem read3 (t : Fin cfg0.N) (i : Fin 512) (d : Fin 128) : iblk m c 3 t (ix2 i d) = cosA (t.val % 4 * 512 + i) d := by
  blk_simp [iblk, V, idx t]
  entry_read
  pointwise
  blk_simp [idx t]
  unfold cosA ang
  split_ifs <;> rfl

theorem read4 (t : Fin cfg0.N) (i : Fin 512) (d : Fin 128) : iblk m c 4 t (ix2 i d) = sinA (t.val % 4 * 512 + i) d := by
  blk_simp [iblk, V, idx t]
  entry_read
  pointwise
  blk_simp [idx t]
  unfold sinA ang
  split_ifs <;> rfl

section arrays
variable (X : FVec Ideal S16x2048x2048 .f32) (g : FVec Ideal S2048 .f32) (W : FVec Ideal S1x2048x6656 .f32)

/-- The products of the normalised row at sequence `b`, position `l`. -/
def prodA (b : Fin 16) (l : Fin 2048) (j : Fin 6656) : EReal :=
  ∑ e : Fin 2048, nrm (fun e => X (ix3 b l e)) (fun e => g (ix1 e)) e * W (ix3 0 e j)

/-- The result array: the columns of each row. -/
def colsA : FVec Ideal S32768x6656 .bf16 := fun i =>
  colA (prodA X g W ⟨(i 0).val / 2048, Nat.div_lt_of_lt_mul (i 0).isLt⟩ ⟨(i 0).val % 2048, Nat.mod_lt _ (by decide)⟩)
    (cosA ((i 0).val % 2048)) (sinA ((i 0).val % 2048)) (i 1)

end arrays

theorem final : (dats m 0 c).arrAt 5 (cfgs 0).N = colsA (aX m c) (aG m c) (aW m c) := by
  refine (dats m 0 c).arrAt_eq_of_covers 5 _ (by decide +kernel) fun t hf y => ?_
  have hN : t.val < 64 := lt_of_lt_of_eq t.isLt N_0
  blk_simp
  rw [after0_5, out_at]
  have hR : ((win0_5.blk t).view.emb y 0 : ℕ) = t.val * 512 + (y 0 : ℕ) := by blk_simp [idx t]
  have hC : (win0_5.blk t).view.emb y 1 = y 1 := by apply Fin.ext; blk_simp [idx t]
  have hy : (y 0 : ℕ) < 512 := (y 0).isLt
  have hp : t.val % 4 * 512 + (y 0 : ℕ) = ((win0_5.blk t).view.emb y 0 : ℕ) % 2048 := by omega
  refine colA_congr (funext fun j => ?_) (funext fun d => ?_) (funext fun d => ?_) hC.symm
  · unfold prodB prodA
    refine Finset.sum_congr (M := EReal) rfl fun e _ => ?_
    refine congrArg₂ (fun a b : EReal => a * b) ?_ (read2 m c t e j)
    exact congrArg₂ (fun a b => nrm a b e) (funext fun e => read0 m c t (y 0) _ hR e) (funext fun e => read1 m c t e)
  · rw [← hp]; exact read3 m c t (y 0) d
  · rw [← hp]; exact read4 m c t (y 0) d

end fold

end Cert.Kernel3Ideal.Col

end
-- ==== Proof.ColRef.lean ====
/- The retention layer's columns: the reference's columns are the result array's, and the claims. -/
module

public import proofs.«01_k».proof.Defs
public import proofs.«01_k».proof.Proof.ColValue
public import proofs.«01_k».proof.Proof.Gen.Kernel3Ideal.Value

@[expose] public section

set_option maxRecDepth 16384

noncomputable section

namespace Cert.Reference3Ideal.Col

open Cert.Reference3Ideal Cert.Reference3Ideal.Gen
open Idealize.ShloMosaic Idealize.ShloMosaic.TcCoe Idealize.SL.Sem
open Cert.Kernel3Ideal.Col (ang cosA sinA rotA colA colsA prodA nrm colA_congr)

section terms
variable (X : FVec Ideal S16x2048x2048 .f32) (g : FVec Ideal S2048 .f32) (W : FVec Ideal S1x2048x6656 .f32)

/-- The normalised rows' products with the weight. -/
def prodR : FVec Ideal S16x2048x6656 .f32 :=
  Host.dotGeneral dot_S16x2048x2048_S2048x6656_S16x2048x6656_2_0_01_1_n_n none
    (mulf (mulf X (broadcastInDim S16x2048x2048 ![0, 1, 2] bcast_S16x2048x1_S16x2048x2048_0_1_2
      (Host.rsqrt (addf (Host.divf (broadcastInDim S16x2048x1 ![0, 1] bcast_S16x2048_S16x2048x1_0_1
          (Host.reduceAdd (mulf X X) (constant S_ .f32 0x00000000#32) reducesTo_S16x2048x2048_S16x2048_d2 h_S_))
        (broadcastInDim S16x2048x1 ![] bcast_S_S16x2048x1 (constant S_ .f32 0x45000000#32)))
        (broadcastInDim S16x2048x1 ![] bcast_S_S16x2048x1 (constant S_ .f32 0x358637BD#32))))))
      (broadcastInDim S16x2048x2048 ![0, 1, 2] bcast_S1x1x2048_S16x2048x2048_0_1_2 (broadcastInDim S1x1x2048 ![2] bcast_S2048_S1x1x2048_2 g)))
    (shapeCast _ W shapeCasts_S1x2048x6656_S2048x6656)

/-- The angles of all positions. -/
def angR : FVec Ideal S2048x64 .f32 :=
  mulf (broadcastInDim S2048x64 ![0, 1] bcast_S2048x1_S2048x64_0_1 (broadcastInDim S2048x1 ![0] bcast_S2048_S2048x1_0 (sitofp .f32 (iotaInDim S2048 32 0))))
    (broadcastInDim S2048x64 ![0, 1] bcast_S1x64_S2048x64_0_1 (broadcastInDim S1x64 ![1] bcast_S64_S1x64_1
      (Host.powf (broadcastInDim S64 ![] bcast_S_S64 (constant S_ .f32 0x461C4000#32))
        (Host.divf (Host.negf (sitofp .f32 (iotaInDim S64 32 0))) (broadcastInDim S64 ![] bcast_S_S64 (constant S_ .f32 0x42800000#32))))))

/-- A table of the positions, for every sequence and head. -/
def spread (t : FVec Ideal S2048x64 .f32) : FVec Ideal S16x2048x12x64 .f32 :=
  broadcastInDim S16x2048x12x64 ![0, 1, 2, 3] bcast_S1x2048x1x64_S16x2048x12x64_0_1_2_3 (broadcastInDim S1x2048x1x64 ![1, 3] bcast_S2048x64_S1x2048x1x64_1_3 t)

/-- The heads `T` turned by the tables `C` and `S`. -/
def turnR (T : FVec Ideal S16x2048x12x128 .f32) (C S : FVec Ideal S16x2048x12x64 .f32) : FVec Ideal S16x2048x12x128 .f32 :=
  concatenate S16x2048x12x128 3
    [⟨S16x2048x12x64, subf (mulf (extractStridedSlice S16x2048x12x64 ![0, 0, 0, 0] T slices_S16x2048x12x128_S16x2048x12x64_0_0_0_0) C)
        (mulf (extractStridedSlice S16x2048x12x64 ![0, 0, 0, 64] T slices_S16x2048x12x128_S16x2048x12x64_0_0_0_64) S)⟩,
     ⟨S16x2048x12x64, addf (mulf (extractStridedSlice S16x2048x12x64 ![0, 0, 0, 0] T slices_S16x2048x12x128_S16x2048x12x64_0_0_0_0) S)
        (mulf (extractStridedSlice S16x2048x12x64 ![0, 0, 0, 64] T slices_S16x2048x12x128_S16x2048x12x64_0_0_0_64) C)⟩]
    concatenates_S16x2048x12x64_S16x2048x12x64_S16x2048x12x128_d3

/-- The columns of products `M` as heads, from column 0. -/
def headQ (M : FVec Ideal S16x2048x6656 .f32) : FVec Ideal S16x2048x12x128 .f32 :=
  shapeCast _ (extractStridedSlice S16x2048x1536 ![0, 0, 0] M slices_S16x2048x6656_S16x2048x1536_0_0_0) shapeCasts_S16x2048x1536_S16x2048x12x128
/-- The columns of products `M` as heads, from column 1536. -/
def headK (M : FVec Ideal S16x2048x6656 .f32) : FVec Ideal S16x2048x12x128 .f32 :=
  shapeCast _ (extractStridedSlice S16x2048x1536 ![0, 0, 1536] M slices_S16x2048x6656_S16x2048x1536_0_0_1536) shapeCasts_S16x2048x1536_S16x2048x12x128

/-- The columns times their logistic. -/
def gateR (M : FVec Ideal S16x2048x6656 .f32) : FVec Ideal S16x2048x1536 .f32 :=
  mulf (extractStridedSlice S16x2048x1536 ![0, 0, 4608] M slices_S16x2048x6656_S16x2048x1536_0_0_4608)
    (Host.divf (broadcastInDim S16x2048x1536 ![] bcast_S_S16x2048x1536 (constant S_ .f32 0x3F800000#32))
      (addf (broadcastInDim S16x2048x1536 ![] bcast_S_S16x2048x1536 (constant S_ .f32 0x3F800000#32))
        (Host.exp (Host.negf (extractStridedSlice S16x2048x1536 ![0, 0, 4608] M slices_S16x2048x6656_S16x2048x1536_0_0_4608)))))

/-- The five parts side by side. -/
def joinR (M : FVec Ideal S16x2048x6656 .f32) (q k : FVec Ideal S16x2048x12x128 .f32) (z : FVec Ideal S16x2048x1536 .f32) : FVec Ideal S32768x6656 .bf16 :=
  truncf .bf16 (shapeCast _ (concatenate S16x2048x6656 2
    [⟨S16x2048x1536, shapeCast _ q shapeCasts_S16x2048x12x128_S16x2048x1536⟩,
     ⟨S16x2048x1536, shapeCast _ (mulf k (broadcastInDim S16x2048x12x128 ![] bcast_S_S16x2048x12x128 (constant S_ .f32 0x3DB504F3#32))) shapeCasts_S16x2048x12x128_S16x2048x1536⟩,
     ⟨S16x2048x1536, extractStridedSlice S16x2048x1536 ![0, 0, 3072] M slices_S16x2048x6656_S16x2048x1536_0_0_3072⟩,
     ⟨S16x2048x1536, z⟩,
     ⟨S16x2048x512, extractStridedSlice S16x2048x512 ![0, 0, 6144] M slices_S16x2048x6656_S16x2048x512_0_0_6144⟩]
    concatenates_S16x2048x1536_S16x2048x1536_S16x2048x1536_S16x2048x1536_S16x2048x512_S16x2048x6656_d2) shapeCasts_S16x2048x6656_S32768x6656) bitsLt_bf16_f32

theorem prodR_at (b : Fin 16) (l : Fin 2048) (j : Fin 6656) : (prodR X g W (ix3 b l j) : EReal) = prodA X g W b l j := by
  pointwise [prodR, prodA, nrm]

theorem cos_at (b : Fin 16) (l : Fin 2048) (h : Fin 12) (d : Fin 64) : (spread (Host.cos angR) (ix4 b l h d) : EReal) = Ideal.cos (ang l d) := by
  pointwise [spread, angR, ang]

theorem sin_at (b : Fin 16) (l : Fin 2048) (h : Fin 12) (d : Fin 64) : (spread (Host.sin angR) (ix4 b l h d) : EReal) = Ideal.sin (ang l d) := by
  pointwise [spread, angR, ang]

theorem headQ_at (M : FVec Ideal S16x2048x6656 .f32) (b : Fin 16) (l : Fin 2048) (h : Fin 12) (d : Fin 128) :
    (headQ M (ix4 b l h d) : EReal) = M (ix3 b l ⟨h * 128 + d, by omega⟩) := by
  pointwise [headQ]

theorem headK_at (M : FVec Ideal S16x2048x6656 .f32) (b : Fin 16) (l : Fin 2048) (h : Fin 12) (d : Fin 128) :
    (headK M (ix4 b l h d) : EReal) = M (ix3 b l ⟨1536 + (h * 128 + d), by omega⟩) := by
  pointwise [headK]

theorem turnR_at (T : FVec Ideal S16x2048x12x128 .f32) (C S : FVec Ideal S16x2048x12x64 .f32) (b : Fin 16) (l : Fin 2048) (h : Fin 12) (d : Fin 128) :
    (turnR T C S (ix4 b l h d) : EReal) =
      if hd : d.val < 64 then T (ix4 b l h d) * C (ix4 b l h ⟨d.val, hd⟩) - T (ix4 b l h ⟨64 + d.val, by omega⟩) * S (ix4 b l h ⟨d.val, hd⟩)
      else T (ix4 b l h ⟨d.val - 64, by omega⟩) * S (ix4 b l h ⟨d.val - 64, by omega⟩)
        + T (ix4 b l h ⟨64 + (d.val - 64), by omega⟩) * C (ix4 b l h ⟨d.val - 64, by omega⟩) := by
  pointwise [turnR]

/-- Heads that hold a row `r` from block `B` on, turned: the row's column. -/
theorem turned_row (T : FVec Ideal S16x2048x12x128 .f32) (r : Fin 6656 → EReal) (b : Fin 16) (l : Fin 2048) (h : Fin 12) (B : Fin 52)
    (hT : ∀ d : Fin 128, (T (ix4 b l h d) : EReal) = r ⟨B * 128 + d, by omega⟩) (d : Fin 128) (j : Fin 6656) (hj : (j : ℕ) = B * 128 + d) :
    (turnR T (spread (Host.cos angR)) (spread (Host.sin angR)) (ix4 b l h d) : EReal) = rotA r (cosA l) (sinA l) j := by
  rw [turnR_at]
  have hr : ∀ (x y : Fin 6656), x.val = y.val → r x = r y := fun x y e => congrArg r (Fin.ext e)
  have hd : (⟨j % 128, by omega⟩ : Fin 128) = d := Fin.ext (by show j.val % 128 = d.val; omega)
  unfold rotA
  rw [hd]
  unfold cosA sinA
  by_cases h1 : d.val < 64
  · rw [dif_pos h1, if_pos h1, if_pos h1, hT, hT, cos_at, sin_at, mul_neg, ← sub_eq_add_neg]
    refine congrArg₂ (fun x y : EReal => x * Ideal.cos (ang l d) - y * Ideal.sin (ang l d)) (hr _ _ hj.symm) (hr _ _ ?_)
    show B.val * 128 + (64 + d.val) = j.val / 128 * 128 + (j.val % 128 + 64) % 128
    omega
  · rw [dif_neg h1, if_neg h1, if_neg h1, hT, hT, cos_at, sin_at, add_comm]
    refine congrArg₂ (fun x y : EReal => x * Ideal.cos (ang l (d.val - 64)) + y * Ideal.sin (ang l (d.val - 64))) (hr _ _ ?_) (hr _ _ ?_)
    · show B.val * 128 + (64 + (d.val - 64)) = j.val
      omega
    · show B.val * 128 + (d.val - 64) = j.val / 128 * 128 + (j.val % 128 + 64) % 128
      omega

theorem gateR_at (M : FVec Ideal S16x2048x6656 .f32) (b : Fin 16) (l : Fin 2048) (j : Fin 1536) :
    (gateR M (ix3 b l j) : EReal) = M (ix3 b l ⟨4608 + j, by omega⟩) * Ideal.div (Ideal.ofBits FTy.f32 1065353216#32)
      (Ideal.ofBits FTy.f32 1065353216#32 + Ideal.exp (Ideal.ofBits FTy.f32 0#32 - M (ix3 b l ⟨4608 + j, by omega⟩))) := by
  pointwise [gateR]
  rw [zero_sub]

theorem joinR_at (M : FVec Ideal S16x2048x6656 .f32) (q k : FVec Ideal S16x2048x12x128 .f32) (z : FVec Ideal S16x2048x1536 .f32) (r : Fin 32768) (j : Fin 6656) :
    (joinR M q k z (ix2 r j) : EReal) =
      if h : j.val < 1536 then q (ix4 ⟨r / 2048, by omega⟩ ⟨r % 2048, by omega⟩ ⟨j / 128, by omega⟩ ⟨j % 128, by omega⟩)
      else if h : j.val - 1536 < 1536 then
        k (ix4 ⟨r / 2048, by omega⟩ ⟨r % 2048, by omega⟩ ⟨(j - 1536) / 128, by omega⟩ ⟨(j - 1536) % 128, by omega⟩) * Ideal.ofBits FTy.f32 1035273459#32
      else if h : j.val - 1536 - 1536 < 1536 then M (ix3 ⟨r / 2048, by omega⟩ ⟨r % 2048, by omega⟩ ⟨3072 + (j - 1536 - 1536), by omega⟩)
      else if h : j.val - 1536 - 1536 - 1536 < 1536 then z (ix3 ⟨r / 2048, by omega⟩ ⟨r % 2048, by omega⟩ ⟨j - 1536 - 1536 - 1536, by omega⟩)
      else M (ix3 ⟨r / 2048, by omega⟩ ⟨r % 2048, by omega⟩ ⟨6144 + (j - 1536 - 1536 - 1536 - 1536), by omega⟩) := by
  pointwise [joinR]

/-- The joined parts at a row and column, of the row `r` of products. -/
theorem joined (M : FVec Ideal S16x2048x6656 .f32) (R : Fin 32768) (j : Fin 6656) :
    (joinR M (turnR (headQ M) (spread (Host.cos angR)) (spread (Host.sin angR))) (turnR (headK M) (spread (Host.cos angR)) (spread (Host.sin angR))) (gateR M) (ix2 R j) : EReal)
      = colA (fun j => M (ix3 ⟨R / 2048, by omega⟩ ⟨R % 2048, by omega⟩ j)) (cosA (R % 2048)) (sinA (R % 2048)) j := by
  rw [joinR_at]
  unfold colA
  have hM : ∀ (b : Fin 16) (l : Fin 2048) (x y : Fin 6656), x.val = y.val → M (ix3 b l x) = M (ix3 b l y) := fun b l x y e => congrArg (fun z => M (ix3 b l z)) (Fin.ext e)
  by_cases h1 : j.val < 1536
  · rw [dif_pos h1, if_pos (show j < 1536 from h1)]
    exact turned_row _ _ _ _ _ ⟨j / 128, by omega⟩ (fun d => headQ_at M _ _ _ d) _ j (by show j.val = j.val / 128 * 128 + j.val % 128; omega)
  rw [dif_neg h1, if_neg (show ¬j < 1536 from h1)]
  by_cases h2 : j.val < 3072
  · rw [dif_pos (show j.val - 1536 < 1536 by omega), if_pos (show j < 3072 from h2)]
    refine congrArg (fun z : EReal => z * Ideal.ofBits FTy.f32 1035273459#32) ?_
    refine turned_row _ _ _ _ _ ⟨j / 128, by omega⟩ (fun d => (headK_at M _ _ _ d).trans (hM _ _ _ _ ?_)) _ j ?_
    · show 1536 + ((j.val - 1536) / 128 * 128 + d.val) = j.val / 128 * 128 + d.val
      omega
    · show j.val = j.val / 128 * 128 + (j.val - 1536) % 128
      omega
  rw [dif_neg (show ¬j.val - 1536 < 1536 by omega), if_neg (show ¬j < 3072 from h2)]
  by_cases h3 : j.val < 4608
  · rw [dif_pos (show j.val - 1536 - 1536 < 1536 by omega), if_pos (show j < 4608 from h3)]
    exact hM _ _ _ _ (by show 3072 + (j.val - 1536 - 1536) = j.val; omega)
  rw [dif_neg (show ¬j.val - 1536 - 1536 < 1536 by omega), if_neg (show ¬j < 4608 from h3)]
  by_cases h4 : j.val < 6144
  · rw [dif_pos (show j.val - 1536 - 1536 - 1536 < 1536 by omega), if_pos (show j < 6144 from h4), gateR_at]
    rw [hM _ _ ⟨4608 + (j.val - 1536 - 1536 - 1536), by omega⟩ j (by show 4608 + (j.val - 1536 - 1536 - 1536) = j.val; omega)]
  rw [dif_neg (show ¬j.val - 1536 - 1536 - 1536 < 1536 by omega), if_neg (show ¬j < 6144 from h4)]
  exact hM _ _ _ _ (by show 6144 + (j.val - 1536 - 1536 - 1536 - 1536) = j.val; omega)

end terms

theorem split (m : (ℓ : Loc nD τ sig) → Buf (Elt Ideal) ℓ) (c : Dev nD) (M : FVec Ideal S16x2048x6656 .f32)
    (hM : M = prodR (m ((c.tc : Thread nD τ).loc main_arg0)) (m ((c.tc : Thread nD τ).loc main_arg1)) (m ((c.tc : Thread nD τ).loc main_arg2))) :
    Value.res_out0 m c = joinR M (turnR (headQ M) (spread (Host.cos angR)) (spread (Host.sin angR))) (turnR (headK M) (spread (Host.cos angR)) (spread (Host.sin angR))) (gateR M) := by
  subst hM; rfl

theorem ref_eq (m : (ℓ : Loc nD τ sig) → Buf (Elt Ideal) ℓ) (c : Dev nD) :
    Value.res_out0 m c = colsA (m ((c.tc : Thread nD τ).loc main_arg0)) (m ((c.tc : Thread nD τ).loc main_arg1)) (m ((c.tc : Thread nD τ).loc main_arg2)) := by
  funext i
  rw [split m c _ rfl]
  refine (congrArg (joinR _ _ _ _) (show i = ix2 (i 0) (i 1) by funext b; match b with | 0 => rfl | 1 => rfl)).trans ((joined _ _ _).trans ?_)
  exact colA_congr (funext fun j => prodR_at _ _ _ _ _ j) rfl rfl rfl

end Cert.Reference3Ideal.Col

namespace Cert.Proof.ColClaims

open Idealize.ShloMosaic Idealize.SL.Sem

theorem frame_kernel : Cert.quiescent_Kernel3 := fun m ρ _ => Cert.Kernel3.Gen.frame m ρ
theorem frame_ideal : Cert.quiescent_Kernel3Ideal := fun m ρ _ => Cert.Kernel3Ideal.Gen.frame m ρ
theorem frame_reference : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)
theorem preserves : Cert.preserves_Kernel3_Kernel3Ideal := trivial

/-- Both runs end at the columns of the arguments. -/
theorem algebraic : Cert.algebraic_Kernel3Ideal_Reference3Ideal := by
  intro m ρ m' ρ' _ hagree
  refine ⟨_, Cert.Kernel3Ideal.Value.run_blocks (F := Ideal) m ρ, ?_⟩
  refine (θ_run Cert.Reference3Ideal.defs _ _).mono (fun _ h c => ⟨(h c).1.trans ?_, (h c).2⟩)
    (Cert.Reference3Ideal.Value.run (F := Ideal) m' ρ')
  refine (Cert.Reference3Ideal.Col.ref_eq m' c).trans (Eq.trans ?_ (Cert.Kernel3Ideal.Col.final m c).symm)
  obtain ⟨e0, e1, e2⟩ := hagree c
  rw [e0, e1, e2]

end Cert.Proof.ColClaims

end
-- ==== Proof.OutForm.lean ====
/- The output projections with the memory attention: the four row blocks of one point, as one function of their loads. -/
module

public import proofs.«01_k».proof.Defs
public import proofs.«01_k».proof.Proof.Gen.Kernel4Ideal.Value
public import Idealize.ShloMosaic.Lib.Pipeline.ValueKit

@[expose] public section

set_option maxRecDepth 16384

noncomputable section

namespace Cert.Kernel4Ideal.Out

open Cert.Kernel4Ideal Cert.Kernel4Ideal.Gen
open Idealize.ShloMosaic Idealize.ShloMosaic.TcCoe Idealize.SL.Sem

theorem cuts : ∀ h : Fin 4, S256x512.Slices ![0, 128 * h.val] S256x128 := by decide +kernel

/-- The scores of head `h`: its queries against the keys, scaled. -/
def scores (q : FVec Ideal S256x512 .bf16) (h : Fin 4) (k : FVec Ideal S1x256x128 .bf16) : FVec Ideal S256x256 .f32 :=
  mulf (matmul dot_S256x128_S256x128_S256x256_1_1_0_0_n_n none (extractStridedSlice S256x128 ![0, 128 * h.val] q (cuts h))
      (shapeCast S256x128 k shapeCasts_S1x256x128_S256x128) (constant S256x256 .f32 0x00000000#32))
    (broadcast S256x256 (Scalar.ofBits .f32 0x3DB504F3#32))

/-- The exponentials of scores less their row's largest. -/
def powers (s : FVec Ideal S256x256 .f32) : FVec Ideal S256x256 .f32 :=
  exp (subf s (broadcastTo S256x256 (shapeCast S256x1 (multiReduction .maximumf [1] S256 s 0xFF800000#32 reduces_S256x256_S256 (.inl rfl) rfl)
    shapeCasts_S256_S256x1) broadcasts_S256x1_S256x256))

/-- The values weighted by the powers, over the powers' sum. -/
def weighted (p : FVec Ideal S256x256 .f32) (v : FVec Ideal S1x256x128 .bf16) : FVec Ideal S256x128 .bf16 :=
  truncf .bf16 (divf (matmul dot_S256x256_S256x128_S256x128_1_0_0_1_n_n none (truncf .bf16 p bitsLt_bf16_f32)
      (shapeCast S256x128 v shapeCasts_S1x256x128_S256x128) (constant S256x128 .f32 0x00000000#32))
    (broadcastTo S256x128 (shapeCast S256x1 (multiReduction .add [1] S256 p 0x00000000#32 reduces_S256x256_S256 (.inl rfl) rfl)
      shapeCasts_S256_S256x1) broadcasts_S256x1_S256x128)) bitsLt_bf16_f32

/-- One head's part. -/
def head (q : FVec Ideal S256x512 .bf16) (h : Fin 4) (k v : FVec Ideal S1x256x128 .bf16) : FVec Ideal S256x128 .bf16 :=
  weighted (powers (scores q h k)) v

/-- The four heads side by side. -/
def heads (q : FVec Ideal S256x512 .bf16) (k0 k1 k2 k3 v0 v1 v2 v3 : FVec Ideal S1x256x128 .bf16) : FVec Ideal S256x512 .bf16 :=
  concatenate S256x512 1 [⟨S256x128, head q 0 k0 v0⟩, ⟨S256x128, head q 1 k1 v1⟩, ⟨S256x128, head q 2 k2 v2⟩, ⟨S256x128, head q 3 k3 v3⟩]
    concatenates_S256x128_S256x128_S256x128_S256x128_S256x512_d1

/-- The two products, summed. -/
def mixes (tok : FVec Ideal S256x1536 .bf16) (mem : FVec Ideal S256x512 .bf16) (wt : FVec Ideal S1x1536x2048 .bf16) (wm : FVec Ideal S1x512x2048 .bf16) :
    FVec Ideal S256x2048 .f32 :=
  addf (matmul dot_S256x1536_S1536x2048_S256x2048_1_0_0_1_n_n none tok (shapeCast S1536x2048 wt shapeCasts_S1x1536x2048_S1536x2048) (constant S256x2048 .f32 0x00000000#32))
    (matmul dot_S256x512_S512x2048_S256x2048_1_0_0_1_n_n none mem (shapeCast S512x2048 wm shapeCasts_S1x512x2048_S512x2048) (constant S256x2048 .f32 0x00000000#32))

/-- Rows plus their mixes normalised. -/
def rows (g : FVec Ideal S1x2048 .f32) (u x : FVec Ideal S256x2048 .f32) : FVec Ideal S256x2048 .f32 :=
  addf x (mulf (mulf u (broadcastTo S256x2048 (rsqrt (addf (divf (shapeCast S256x1 (multiReduction .add [1] S256 (mulf u u) 0x00000000#32 reduces_S256x2048_S256 (.inl rfl) rfl)
      shapeCasts_S256_S256x1) (broadcast S256x1 (Scalar.ofBits .f32 0x45000000#32))) (broadcast S256x1 (Scalar.ofBits .f32 0x358637BD#32)))) broadcasts_S256x1_S256x2048))
    (broadcastTo S256x2048 (shapeCast S1x2048 g shapeCasts_S1x2048_S1x2048) broadcasts_S1x2048_S256x2048))

theorem inbs : ∀ h : Fin 4, ∀ a, (![0, 0, 128 * h.val] : Fin 3 → Nat) a + S1x256x128.size a ≤ S1x256x512.size a := by decide +kernel

/-- The columns of head `h`. -/
def cutH (K : Vec Ideal S1x256x512 .bf16) (h : Fin 4) : Vec Ideal S1x256x128 .bf16 :=
  View.ld K (Rect.unit (s := S1x256x512) ![0, 0, 128 * h.val] S1x256x128.size (inbs h))

/-- What a block of 256 rows becomes. -/
def rowBlock (tok : FVec Ideal S256x1536 .bf16) (q : FVec Ideal S256x512 .bf16) (K V : FVec Ideal S1x256x512 .bf16) (x : FVec Ideal S256x2048 .f32)
    (g : FVec Ideal S1x2048 .f32) (wt : FVec Ideal S1x1536x2048 .bf16) (wm : FVec Ideal S1x512x2048 .bf16) : FVec Ideal S256x2048 .f32 :=
  rows g (mixes tok (heads q (cutH K 0) (cutH K 1) (cutH K 2) (cutH K 3) (cutH V 0) (cutH V 1) (cutH V 2) (cutH V 3)) wt wm) x

theorem four_congr {a b c d a' b' c' d' : Vec Ideal S256x2048 .f32} (ha : a = a') (hb : b = b') (hc : c = c') (hd : d = d') :
    View.canon ([⟨Rect.unit ![768, 0] ![256, 2048] inb_S1024x2048_S256x2048_768_0, a⟩, ⟨Rect.unit ![512, 0] ![256, 2048] inb_S1024x2048_S256x2048_512_0, b⟩,
      ⟨Rect.unit ![256, 0] ![256, 2048] inb_S1024x2048_S256x2048_256_0, c⟩, ⟨Rect.unit ![0, 0] ![256, 2048] inb_S1024x2048_S256x2048_0_0, d⟩] : List (View.Piece (Elt Ideal) S1024x2048 .f32))
    = View.canon [⟨Rect.unit ![768, 0] ![256, 2048] inb_S1024x2048_S256x2048_768_0, a'⟩, ⟨Rect.unit ![512, 0] ![256, 2048] inb_S1024x2048_S256x2048_512_0, b'⟩,
      ⟨Rect.unit ![256, 0] ![256, 2048] inb_S1024x2048_S256x2048_256_0, c'⟩, ⟨Rect.unit ![0, 0] ![256, 2048] inb_S1024x2048_S256x2048_0_0, d'⟩] := by
  subst ha hb hc hd; rfl

variable (m : (ℓ : Loc nD τ sig) → Buf (Elt Ideal) ℓ) (c : Dev nD)

theorem out_eq (t : Fin cfg0.N) : outsAt0 m c t = View.canon
    [⟨Rect.unit ![768, 0] ![256, 2048] inb_S1024x2048_S256x2048_768_0,
        rowBlock (View.ld (iblk m c 0 t) (Rect.unit ![768, 0] ![256, 1536] inb_S1024x1536_S256x1536_768_0)) (View.ld (iblk m c 1 t) (Rect.unit ![768, 0] ![256, 512] inb_S1024x512_S256x512_768_0))
          (iblk m c 2 t) (iblk m c 3 t) (View.ld (iblk m c 4 t) (Rect.unit ![768, 0] ![256, 2048] inb_S1024x2048_S256x2048_768_0)) (iblk m c 5 t) (X0_6 m c t) (iblk m c 7 t)⟩,
      ⟨Rect.unit ![512, 0] ![256, 2048] inb_S1024x2048_S256x2048_512_0,
        rowBlock (View.ld (iblk m c 0 t) (Rect.unit ![512, 0] ![256, 1536] inb_S1024x1536_S256x1536_512_0)) (View.ld (iblk m c 1 t) (Rect.unit ![512, 0] ![256, 512] inb_S1024x512_S256x512_512_0))
          (iblk m c 2 t) (iblk m c 3 t) (View.ld (iblk m c 4 t) (Rect.unit ![512, 0] ![256, 2048] inb_S1024x2048_S256x2048_512_0)) (iblk m c 5 t) (X0_6 m c t) (iblk m c 7 t)⟩,
      ⟨Rect.unit ![256, 0] ![256, 2048] inb_S1024x2048_S256x2048_256_0,
        rowBlock (View.ld (iblk m c 0 t) (Rect.unit ![256, 0] ![256, 1536] inb_S1024x1536_S256x1536_256_0)) (View.ld (iblk m c 1 t) (Rect.unit ![256, 0] ![256, 512] inb_S1024x512_S256x512_256_0))
          (iblk m c 2 t) (iblk m c 3 t) (View.ld (iblk m c 4 t) (Rect.unit ![256, 0] ![256, 2048] inb_S1024x2048_S256x2048_256_0)) (iblk m c 5 t) (X0_6 m c t) (iblk m c 7 t)⟩,
      ⟨Rect.unit ![0, 0] ![256, 2048] inb_S1024x2048_S256x2048_0_0,
        rowBlock (View.ld (iblk m c 0 t) (Rect.unit ![0, 0] ![256, 1536] inb_S1024x1536_S256x1536_0_0)) (View.ld (iblk m c 1 t) (Rect.unit ![0, 0] ![256, 512] inb_S1024x512_S256x512_0_0))
          (iblk m c 2 t) (iblk m c 3 t) (View.ld (iblk m c 4 t) (Rect.unit ![0, 0] ![256, 2048] inb_S1024x2048_S256x2048_0_0)) (iblk m c 5 t) (X0_6 m c t) (iblk m c 7 t)⟩] := by
  unfold outsAt0
  frame_out
  exact four_congr (by rfl) (by rfl) (by rfl) (by rfl)

end Cert.Kernel4Ideal.Out

end
-- ==== Proof.OutMath.lean ====
/- Sums of extended reals under a division: weights of a softmax applied before and after their sum's division. -/
module

public import Idealize.ShloMosaic.Lib.Pipeline.ValueKit

@[expose] public section

noncomputable section

namespace Cert.OutMath

open Idealize.ShloMosaic

theorem sum_mul_real {ι : Type} (S : Finset ι) (f : ι → EReal) {c : ℝ} (hc : 0 ≤ c) : (∑ k ∈ S, f k) * (c : EReal) = ∑ k ∈ S, f k * (c : EReal) := by
  classical
  induction S using Finset.induction_on with
  | empty => simp
  | insert a S ha ih =>
    rw [Finset.sum_insert ha, Finset.sum_insert ha, ← ih]
    exact EReal.right_distrib_of_nonneg_of_ne_top (EReal.coe_nonneg.mpr hc) (EReal.coe_ne_top c) _ _

theorem coe_sum {ι : Type} (S : Finset ι) (f : ι → ℝ) : ∑ k ∈ S, (f k : EReal) = ((∑ k ∈ S, f k : ℝ) : EReal) := by
  classical
  induction S using Finset.induction_on with
  | empty => simp
  | insert a S ha ih => rw [Finset.sum_insert ha, Finset.sum_insert ha, ih, EReal.coe_add]

/-- Weights `exp (s - M)` of real scores: the weighted sum over the weights' sum is the sum at the weights over their sum. -/
theorem soft {n : ℕ} [NeZero n] (s v : Fin n → EReal) (M : EReal) (hs : ∀ k, ∃ r : ℝ, s k = r) (hM : ∃ r : ℝ, M = r) :
    Ideal.div (∑ k, Ideal.exp (s k - M) * v k) (∑ k, Ideal.exp (s k - M)) = ∑ k, Ideal.div (Ideal.exp (s k - M)) (∑ k, Ideal.exp (s k - M)) * v k := by
  obtain ⟨μ, rfl⟩ := hM
  choose σ hσ using hs
  have he : ∀ k, Ideal.exp (s k - (μ : EReal)) = ((Real.exp (σ k - μ) : ℝ) : EReal) := fun k => by
    rw [hσ k, ← EReal.coe_sub, Ideal.exp_coe]
  have hd : (∑ k, Ideal.exp (s k - (μ : EReal))) = ((∑ k, Real.exp (σ k - μ) : ℝ) : EReal) := by
    rw [← coe_sum]; exact Finset.sum_congr rfl fun k _ => he k
  have hpos : 0 < ∑ k, Real.exp (σ k - μ) := Finset.sum_pos (fun k _ => Real.exp_pos _) Finset.univ_nonempty
  rw [hd, Ideal.div_coe hpos.ne', sum_mul_real _ _ (by positivity)]
  refine Finset.sum_congr rfl fun k _ => ?_
  rw [Ideal.div_coe hpos.ne', mul_right_comm]

theorem real_mul {x y : EReal} (hx : ∃ r : ℝ, x = r) (hy : ∃ r : ℝ, y = r) : ∃ r : ℝ, x * y = r := by
  obtain ⟨a, rfl⟩ := hx
  obtain ⟨b, rfl⟩ := hy
  exact ⟨a * b, (EReal.coe_mul a b).symm⟩

theorem real_sum {n : ℕ} {f : Fin n → EReal} (hf : ∀ k, ∃ r : ℝ, f k = r) : ∃ r : ℝ, ∑ k, f k = r := by
  choose g hg using hf
  exact ⟨∑ k, g k, by rw [← coe_sum]; exact Finset.sum_congr rfl fun k _ => hg k⟩

end Cert.OutMath

end
-- ==== Proof.OutValue.lean ====
/- The output projections with the memory attention: one point's block at an index, and the result array. -/
module

public import proofs.«01_k».proof.Proof.OutForm
public import proofs.«01_k».proof.Proof.OutMath
public import proofs.«01_k».proof.Proof.ColValue
public import Idealize.ShloMosaic.Lib.Pipeline.ValueKit
public import Idealize.ShloMosaic.Lib.Claim
public import Idealize.ShloMosaic.Lib.Pipeline.ReadBack

@[expose] public section

set_option maxRecDepth 16384

noncomputable section

namespace Cert.Kernel4Ideal.Out

open Cert.Kernel4Ideal Cert.Kernel4Ideal.Gen
open Idealize.ShloMosaic Idealize.ShloMosaic.TcCoe Idealize.SL.Sem
open Idealize.ShloMosaic.Pipeline (Dat)
open Cert.Kernel3Ideal.Col (nrm)

/-! ## One row -/

/-- The score of a row of queries `q` against memory row `n`, in head `h`. -/
def scoreA (q : Fin 512 → EReal) (K : Fin 256 → Fin 512 → EReal) (h : Fin 4) (n : Fin 256) : EReal :=
  (∑ e : Fin 128, q ⟨128 * h + e, by omega⟩ * K n ⟨128 * h + e, by omega⟩) * Ideal.ofBits FTy.f32 1035273459#32

/-- The largest of a row of scores. -/
def topA (s : Fin 256 → EReal) : EReal := Finset.fold max (Ideal.ofBits FTy.f32 4286578688#32) s Finset.univ

/-- The power of memory row `n`. -/
def powA (s : Fin 256 → EReal) (n : Fin 256) : EReal := Ideal.exp (s n - topA s)

/-- The attention of a row of queries over the memory, in head `h` at lane `d`. -/
def memA (q : Fin 512 → EReal) (K V : Fin 256 → Fin 512 → EReal) (h : Fin 4) (d : Fin 128) : EReal :=
  Ideal.div (∑ n, powA (scoreA q K h) n * V n ⟨128 * h + d, by omega⟩) (∑ n, powA (scoreA q K h) n)

/-- The attention at a column of all heads. -/
def memC (q : Fin 512 → EReal) (K V : Fin 256 → Fin 512 → EReal) (j : Fin 512) : EReal :=
  memA q K V ⟨j / 128, by omega⟩ ⟨j % 128, by omega⟩

/-- A row's two products, summed. -/
def mixA (tok : Fin 1536 → EReal) (mem : Fin 512 → EReal) (Wt : Fin 1536 → Fin 2048 → EReal) (Wm : Fin 512 → Fin 2048 → EReal) (d : Fin 2048) : EReal :=
  ∑ e, tok e * Wt e d + ∑ e, mem e * Wm e d

/-- A row plus its mix normalised. -/
def rowA (tok : Fin 1536 → EReal) (q : Fin 512 → EReal) (K V : Fin 256 → Fin 512 → EReal) (x g : Fin 2048 → EReal)
    (Wt : Fin 1536 → Fin 2048 → EReal) (Wm : Fin 512 → Fin 2048 → EReal) (d : Fin 2048) : EReal :=
  x d + nrm (mixA tok (memC q K V) Wt Wm) g d

theorem rowA_congr {tok tok' : Fin 1536 → EReal} {q q' : Fin 512 → EReal} {K K' V V' : Fin 256 → Fin 512 → EReal} {x x' g g' : Fin 2048 → EReal}
    {Wt Wt' : Fin 1536 → Fin 2048 → EReal} {Wm Wm' : Fin 512 → Fin 2048 → EReal} {d d' : Fin 2048} (ht : tok = tok') (hq : q = q') (hK : K = K') (hV : V = V')
    (hx : x = x') (hg : g = g') (hWt : Wt = Wt') (hWm : Wm = Wm') (hd : d = d') : rowA tok q K V x g Wt Wm d = rowA tok' q' K' V' x' g' Wt' Wm' d' := by
  subst ht hq hK hV hx hg hWt hWm hd; rfl

/-! ## One block of rows -/

theorem scores_at (q : FVec Ideal S256x512 .bf16) (h : Fin 4) (k : FVec Ideal S1x256x128 .bf16) (i n : Fin 256) :
    (scores q h k (ix2 i n) : EReal) = (∑ e : Fin 128, q (ix2 i ⟨128 * h + e, by omega⟩) * k (ix3 0 n e)) * Ideal.ofBits FTy.f32 1035273459#32 := by
  pointwise [scores]

theorem powers_at (s : FVec Ideal S256x256 .f32) (i n : Fin 256) : (powers s (ix2 i n) : EReal) = powA (fun n => s (ix2 i n)) n := by
  pointwise [powers]
  rfl

theorem weighted_at (p : FVec Ideal S256x256 .f32) (v : FVec Ideal S1x256x128 .bf16) (i : Fin 256) (d : Fin 128) :
    (weighted p v (ix2 i d) : EReal) = Ideal.div (∑ n : Fin 256, p (ix2 i n) * v (ix3 0 n d)) (∑ n : Fin 256, p (ix2 i n)) := by
  pointwise [weighted]

theorem cutH_at (K : Vec Ideal S1x256x512 .bf16) (h : Fin 4) (n : Fin 256) (d : Fin 128) : (cutH K h (ix3 0 n d) : EReal) = K (ix3 0 n ⟨128 * h + d, by omega⟩) := by
  pointwise [cutH]

theorem head_at (q : FVec Ideal S256x512 .bf16) (K V : Vec Ideal S1x256x512 .bf16) (h : Fin 4) (i : Fin 256) (d : Fin 128) :
    (head q h (cutH K h) (cutH V h) (ix2 i d) : EReal) = memA (fun e => q (ix2 i e)) (fun n e => K (ix3 0 n e)) (fun n e => V (ix3 0 n e)) h d := by
  have hs : (fun n => (scores q h (cutH K h) (ix2 i n) : EReal)) = scoreA (fun e => q (ix2 i e)) (fun n e => K (ix3 0 n e)) h := by
    funext n
    rw [scores_at]
    exact congrArg (fun z : EReal => z * Ideal.ofBits FTy.f32 1035273459#32) (Finset.sum_congr (M := EReal) rfl fun e _ => by rw [cutH_at])
  have hp : ∀ n, (powers (scores q h (cutH K h)) (ix2 i n) : EReal) = powA (scoreA (fun e => q (ix2 i e)) (fun n e => K (ix3 0 n e)) h) n := fun n => by
    rw [powers_at, hs]
  unfold head memA
  rw [weighted_at]
  refine congrArg₂ Ideal.div (Finset.sum_congr (M := EReal) rfl fun n _ => ?_) (Finset.sum_congr (M := EReal) rfl fun n _ => hp n)
  rw [hp, cutH_at]

theorem heads_parts (q : FVec Ideal S256x512 .bf16) (k0 k1 k2 k3 v0 v1 v2 v3 : FVec Ideal S1x256x128 .bf16) (i : Fin 256) (j : Fin 512) :
    (heads q k0 k1 k2 k3 v0 v1 v2 v3 (ix2 i j) : EReal) =
      if h : j.val < 128 then head q 0 k0 v0 (ix2 i ⟨j, h⟩)
      else if h : j.val - 128 < 128 then head q 1 k1 v1 (ix2 i ⟨j - 128, h⟩)
      else if h : j.val - 128 - 128 < 128 then head q 2 k2 v2 (ix2 i ⟨j - 128 - 128, h⟩)
      else head q 3 k3 v3 (ix2 i ⟨j - 128 - 128 - 128, by omega⟩) := by
  pointwise [heads]

theorem heads_at (q : FVec Ideal S256x512 .bf16) (K V : Vec Ideal S1x256x512 .bf16) (i : Fin 256) (j : Fin 512) :
    (heads q (cutH K 0) (cutH K 1) (cutH K 2) (cutH K 3) (cutH V 0) (cutH V 1) (cutH V 2) (cutH V 3) (ix2 i j) : EReal)
      = memC (fun e => q (ix2 i e)) (fun n e => K (ix3 0 n e)) (fun n e => V (ix3 0 n e)) j := by
  rw [heads_parts]
  unfold memC
  by_cases h0 : j.val < 128
  · rw [dif_pos h0, head_at]
    exact congrArg₂ (memA _ _ _) (Fin.ext (by show 0 = j.val / 128; omega)) (Fin.ext (by show j.val = j.val % 128; omega))
  rw [dif_neg h0]
  by_cases h1 : j.val - 128 < 128
  · rw [dif_pos h1, head_at]
    exact congrArg₂ (memA _ _ _) (Fin.ext (by show 1 = j.val / 128; omega)) (Fin.ext (by show j.val - 128 = j.val % 128; omega))
  rw [dif_neg h1]
  by_cases h2 : j.val - 128 - 128 < 128
  · rw [dif_pos h2, head_at]
    exact congrArg₂ (memA _ _ _) (Fin.ext (by show 2 = j.val / 128; omega)) (Fin.ext (by show j.val - 128 - 128 = j.val % 128; omega))
  rw [dif_neg h2, head_at]
  exact congrArg₂ (memA _ _ _) (Fin.ext (by show 3 = j.val / 128; omega)) (Fin.ext (by show j.val - 128 - 128 - 128 = j.val % 128; omega))

theorem mixes_at (tok : FVec Ideal S256x1536 .bf16) (mem : FVec Ideal S256x512 .bf16) (wt : FVec Ideal S1x1536x2048 .bf16) (wm : FVec Ideal S1x512x2048 .bf16)
    (i : Fin 256) (d : Fin 2048) : (mixes tok mem wt wm (ix2 i d) : EReal)
      = mixA (fun e => tok (ix2 i e)) (fun e => mem (ix2 i e)) (fun e d => wt (ix3 0 e d)) (fun e d => wm (ix3 0 e d)) d := by
  pointwise [mixes, mixA]

theorem rows_at (g : FVec Ideal S1x2048 .f32) (u x : FVec Ideal S256x2048 .f32) (i : Fin 256) (d : Fin 2048) :
    (rows g u x (ix2 i d) : EReal) = x (ix2 i d) + nrm (fun e => u (ix2 i e)) (fun e => g (ix2 0 e)) d := by
  pointwise [rows, nrm]

theorem rowBlock_at (tok : FVec Ideal S256x1536 .bf16) (q : FVec Ideal S256x512 .bf16) (K V : FVec Ideal S1x256x512 .bf16) (x : FVec Ideal S256x2048 .f32)
    (g : FVec Ideal S1x2048 .f32) (wt : FVec Ideal S1x1536x2048 .bf16) (wm : FVec Ideal S1x512x2048 .bf16) (i : Fin 256) (d : Fin 2048) :
    (rowBlock tok q K V x g wt wm (ix2 i d) : EReal) = rowA (fun e => tok (ix2 i e)) (fun e => q (ix2 i e)) (fun n e => K (ix3 0 n e)) (fun n e => V (ix3 0 n e))
      (fun e => x (ix2 i e)) (fun e => g (ix2 0 e)) (fun e d => wt (ix3 0 e d)) (fun e d => wm (ix3 0 e d)) d := by
  unfold rowBlock rowA
  rw [rows_at]
  refine congrArg (fun u => (x (ix2 i d) : EReal) + nrm u (fun e => g (ix2 0 e)) d) (funext fun e => ?_)
  rw [mixes_at]
  exact congrArg (fun z => mixA (fun e => tok (ix2 i e)) z (fun e d => wt (ix3 0 e d)) (fun e d => wm (ix3 0 e d)) e) (funext fun j => heads_at q K V i j)

/-! ## Over the arrays -/

variable (m : (ℓ : Loc nD τ sig) → Buf (Elt Ideal) ℓ) (c : Dev nD)

theorem out_at (t : Fin cfg0.N) (y : S1024x2048.Idx) :
    outsAt0 m c t y = rowA (fun e => iblk m c 0 t (ix2 (y 0) e)) (fun e => iblk m c 1 t (ix2 (y 0) e)) (fun n e => iblk m c 2 t (ix3 0 n e))
      (fun n e => iblk m c 3 t (ix3 0 n e)) (fun e => iblk m c 4 t (ix2 (y 0) e)) (fun e => iblk m c 5 t (ix2 0 e)) (fun e d => X0_6 m c t (ix3 0 e d))
      (fun e d => iblk m c 7 t (ix3 0 e d)) (y 1) := by
  rw [out_eq]
  canon_tiles x h
  all_goals
    refine (congrArg (rowBlock _ _ _ _ _ _ _ _) (show x = ix2 (x 0) (x 1) by funext b; match b with | 0 => rfl | 1 => rfl)).trans ((rowBlock_at _ _ _ _ _ _ _ _ _ _).trans ?_)
    refine rowA_congr (funext fun e => ?_) (funext fun e => ?_) rfl rfl (funext fun e => ?_) rfl rfl rfl (Fin.ext h1.symm)
    all_goals (pointwise; blk_point)

theorem idx : ∀ t : Fin cfg0.N, win0_0.index t = ![t.val, 0] ∧ win0_1.index t = ![t.val, 9] ∧ win0_2.index t = ![t.val / 2, 0, 0]
    ∧ win0_3.index t = ![t.val / 2, 0, 1] ∧ win0_4.index t = ![t.val, 0] ∧ win0_5.index t = ![0, 0] ∧ win0_6.index t = ![1, 0, 0]
    ∧ win0_7.index t = ![1, 3, 0] ∧ win0_8.index t = ![t.val, 0] :=
  (by decide +kernel : ∀ t : Fin grid0.N, _)

/-- The six argument arrays, as launched. -/
abbrev aT : FVec Ideal S32768x1536 .bf16 := m ((c : Thread nD τ).loc main_arg0)
abbrev aP : FVec Ideal S32768x5120 .bf16 := m ((c : Thread nD τ).loc main_arg1)
abbrev aM : FVec Ideal S16x256x1024 .bf16 := m ((c : Thread nD τ).loc main_arg2)
abbrev aX : FVec Ideal S32768x2048 .f32 := m ((c : Thread nD τ).loc main_arg3)
abbrev aG : FVec Ideal S2048 .f32 := m ((c : Thread nD τ).loc main_arg4)
abbrev aW : FVec Ideal S2x2048x2048 .f32 := m ((c : Thread nD τ).loc main_arg5)

section reads
variable (t : Fin cfg0.N) (i : Fin 1024) (R : Fin 32768) (hR : (R : ℕ) = t.val * 1024 + i)
include hR

theorem read0 (e : Fin 1536) : iblk m c 0 t (ix2 i e) = aT m c (ix2 R e) := by
  blk_ext! [iblk, V, idx t]

theorem read1 (e : Fin 512) : iblk m c 1 t (ix2 i e) = aP m c (ix2 R ⟨4608 + e, by omega⟩) := by
  blk_ext! [iblk, V, idx t]

theorem read2 (n : Fin 256) (e : Fin 512) : iblk m c 2 t (ix3 0 n e) = aM m c (ix3 ⟨R / 2048, by omega⟩ n ⟨e, by omega⟩) := by
  blk_ext! [iblk, V, idx t]

theorem read3 (n : Fin 256) (e : Fin 512) : iblk m c 3 t (ix3 0 n e) = aM m c (ix3 ⟨R / 2048, by omega⟩ n ⟨512 + e, by omega⟩) := by
  blk_ext! [iblk, V, idx t]

theorem read4 (e : Fin 2048) : iblk m c 4 t (ix2 i e) = aX m c (ix2 R e) := by
  blk_ext! [iblk, V, idx t]

end reads

theorem read5 (t : Fin cfg0.N) (e : Fin 2048) : iblk m c 5 t (ix2 0 e) = aG m c (ix1 e) := by
  blk_ext! [iblk, V, idx t]

theorem read6 (t : Fin cfg0.N) (e : Fin 1536) (d : Fin 2048) : X0_6 m c t (ix3 0 e d) = aW m c (ix3 1 ⟨e, by omega⟩ d) := by
  unfold X0_6 Pipeline.Window.fill
  rw [dif_pos (moved0_6 t _)]
  blk_ext! [iblk, V, idx t]

theorem read7 (t : Fin cfg0.N) (e : Fin 512) (d : Fin 2048) : iblk m c 7 t (ix3 0 e d) = aW m c (ix3 1 ⟨1536 + e, by omega⟩ d) := by
  blk_ext! [iblk, V, idx t]

/-- The result array. -/
def outA (T : FVec Ideal S32768x1536 .bf16) (P : FVec Ideal S32768x5120 .bf16) (M : FVec Ideal S16x256x1024 .bf16) (X : FVec Ideal S32768x2048 .f32)
    (g : FVec Ideal S2048 .f32) (W : FVec Ideal S2x2048x2048 .f32) : FVec Ideal S32768x2048 .f32 := fun i =>
  rowA (fun e => T (ix2 (i 0) e)) (fun e => P (ix2 (i 0) ⟨4608 + e, by omega⟩))
    (fun n e => M (ix3 ⟨(i 0).val / 2048, Nat.div_lt_of_lt_mul (i 0).isLt⟩ n ⟨e, by omega⟩))
    (fun n e => M (ix3 ⟨(i 0).val / 2048, Nat.div_lt_of_lt_mul (i 0).isLt⟩ n ⟨512 + e, by omega⟩))
    (fun e => X (ix2 (i 0) e)) (fun e => g (ix1 e)) (fun e d => W (ix3 1 ⟨e, by omega⟩ d)) (fun e d => W (ix3 1 ⟨1536 + e, by omega⟩ d)) (i 1)

theorem final : (dats m 0 c).arrAt 8 cfg0.N = outA (aT m c) (aP m c) (aM m c) (aX m c) (aG m c) (aW m c) := by
  refine (dats m 0 c).arrAt_eq_of_covers 8 _ (by decide +kernel) fun t hf y => ?_
  have hN : t.val < 32 := lt_of_lt_of_eq t.isLt N_0
  blk_simp
  rw [after0_8, out_at]
  have hR : ((win0_8.blk t).view.emb y 0 : ℕ) = t.val * 1024 + (y 0 : ℕ) := by blk_simp [idx t]
  have hC : (win0_8.blk t).view.emb y 1 = y 1 := by apply Fin.ext; blk_simp [idx t]
  exact rowA_congr (funext fun e => read0 m c t (y 0) _ hR e) (funext fun e => read1 m c t (y 0) _ hR e) (funext fun n => funext fun e => read2 m c t (y 0) _ hR n e)
    (funext fun n => funext fun e => read3 m c t (y 0) _ hR n e) (funext fun e => read4 m c t (y 0) _ hR e) (funext fun e => read5 m c t e)
    (funext fun e => funext fun d => read6 m c t e d) (funext fun e => funext fun d => read7 m c t e d) hC.symm

end Cert.Kernel4Ideal.Out

end
-- ==== Proof.OutFinite.lean ====
/- The output projections with the memory attention: the precondition's finite entries, and the attention of finite scores. -/
module

public import proofs.«01_k».proof.Defs
public import proofs.«01_k».proof.Proof.OutValue
public import proofs.«01_k».proof.Proof.Gen.Pre_finite_scores

@[expose] public section

set_option maxRecDepth 16384

noncomputable section

namespace Cert.Pre_finite_scores.Out

open Idealize.ShloMosaic Cert.Pre_finite_scores Cert.Pre_finite_scores.Gen
open Cert.Kernel4Ideal.Out (scoreA topA powA memA)

/-! ## The precondition -/

/-- The query rows above the key rows. -/
def stacked (q : FVec Ideal S32768x512 .bf16) (k : FVec Ideal S4096x512 .bf16) : FVec Ideal S36864x512 .bf16 :=
  concatenate S36864x512 0 [⟨S32768x512, q⟩, ⟨S4096x512, k⟩] concatenates_S32768x512_S4096x512_S36864x512_d0

/-- Where the absolute value is below infinity. -/
def small (x : FVec Ideal S36864x512 .bf16) : IVec S36864x512 1 :=
  cmpf .olt (Host.absf x) (broadcastInDim S36864x512 ![] bcast_S_S36864x512 (constant S_ .bf16 0x7F80#16))

theorem real_of_abs {x : EReal} (h : max x (-x) < ⊤) : ∃ r : ℝ, x = r := by
  induction x using EReal.rec with
  | bot => simp at h
  | coe r => exact ⟨r, rfl⟩
  | top => simp at h

theorem high : Ideal.ofBits FTy.bf16 32640#16 = ⊤ := by simp [Ideal.ofBits, Ideal.ieee]

theorem real_of_small (x : FVec Ideal S36864x512 .bf16) (r : Fin 36864) (e : Fin 512) (h : small x (ix2 r e) = 1#1) : ∃ z : ℝ, (x (ix2 r e) : EReal) = z := by
  have hs : small x (ix2 r e) = BitVec.ofBool (decide (max (x (ix2 r e) : EReal) (-(x (ix2 r e) : EReal)) < Ideal.ofBits FTy.bf16 32640#16)) := by
    pointwise [small]
    rfl
  rw [hs, high] at h
  refine real_of_abs ?_
  by_contra hn
  rw [decide_eq_false hn] at h
  exact absurd h (by decide)

theorem stacked_at (q : FVec Ideal S32768x512 .bf16) (k : FVec Ideal S4096x512 .bf16) (r : Fin 36864) (e : Fin 512) :
    (stacked q k (ix2 r e) : EReal) = if h : r.val < 32768 then q (ix2 ⟨r, h⟩ e) else k (ix2 ⟨r - 32768, by omega⟩ e) := by
  pointwise [stacked]

theorem queries_at (P : FVec Ideal S32768x5120 .bf16) (r : Fin 32768) (e : Fin 512) :
    (extractStridedSlice S32768x512 ![0, 4608] P slices_S32768x5120_S32768x512_0_4608 (ix2 r e) : EReal) = P (ix2 r ⟨4608 + e, by omega⟩) := by
  pointwise

theorem keys_at (M : FVec Ideal S16x256x1024 .bf16) (r : Fin 4096) (e : Fin 512) :
    ((shapeCast S4096x512 (extractStridedSlice S16x256x512 ![0, 0, 0] M slices_S16x256x1024_S16x256x512_0_0_0) shapeCasts_S16x256x512_S4096x512) (ix2 r e) : EReal)
      = M (ix3 ⟨r / 256, by omega⟩ ⟨r % 256, by omega⟩ ⟨e, by omega⟩) := by
  pointwise

section
variable (T : FVec Ideal S32768x1536 .bf16) (P : FVec Ideal S32768x5120 .bf16) (M : FVec Ideal S16x256x1024 .bf16) (X : FVec Ideal S32768x2048 .f32)
  (g : FVec Ideal S2048 .f32) (W : FVec Ideal S2x2048x2048 .f32) (hf : fn (F := Ideal) T P M X g W = fun _ => 1#1)
include hf

theorem stacked_real (r : Fin 36864) (e : Fin 512) : ∃ z : ℝ, (stacked (extractStridedSlice S32768x512 ![0, 4608] P slices_S32768x5120_S32768x512_0_4608)
    (shapeCast S4096x512 (extractStridedSlice S16x256x512 ![0, 0, 0] M slices_S16x256x1024_S16x256x512_0_0_0) shapeCasts_S16x256x512_S4096x512) (ix2 r e) : EReal) = z :=
  real_of_small _ r e (congrFun hf (ix2 r e))

/-- The memory queries are finite. -/
theorem query_real (r : Fin 32768) (e : Fin 512) : ∃ z : ℝ, (P (ix2 r ⟨4608 + e, by omega⟩) : EReal) = z := by
  obtain ⟨z, hz⟩ := stacked_real T P M X g W hf ⟨r, by omega⟩ e
  rw [stacked_at, dif_pos (show r.val < 32768 from r.isLt), queries_at] at hz
  exact ⟨z, hz⟩

/-- The memory keys are finite. -/
theorem key_real (b : Fin 16) (n : Fin 256) (e : Fin 512) : ∃ z : ℝ, (M (ix3 b n ⟨e, by omega⟩) : EReal) = z := by
  obtain ⟨z, hz⟩ := stacked_real T P M X g W hf ⟨32768 + (b * 256 + n), by omega⟩ e
  rw [stacked_at, dif_neg (show ¬32768 + (b.val * 256 + n.val) < 32768 by omega), keys_at] at hz
  refine ⟨z, (congrArg₂ (fun x y => (M (ix3 x y ⟨e, by omega⟩) : EReal)) (Fin.ext ?_) (Fin.ext ?_)).trans hz⟩
  · show b.val = (32768 + (b.val * 256 + n.val) - 32768) / 256
    omega
  · show n.val = (32768 + (b.val * 256 + n.val) - 32768) % 256
    omega

end

/-! ## Finite scores -/

theorem low : Ideal.ofBits FTy.f32 4286578688#32 = ⊥ := by simp [Ideal.ofBits, Ideal.ieee]

theorem scale : ∃ r : ℝ, Ideal.ofBits FTy.f32 1035273459#32 = (r : EReal) := by
  simp only [Ideal.ofBits, Ideal.ieee]
  exact ⟨_, rfl⟩

theorem max_top (s : Fin 256 → EReal) : max (Ideal.ofBits FTy.f32 4286578688#32) (topA s) = topA s :=
  max_eq_right (by rw [low]; exact bot_le)

theorem top_real {s : Fin 256 → EReal} (hs : ∀ n, ∃ r : ℝ, s n = r) : ∃ r : ℝ, topA s = r := by
  have h1 : topA s < ⊤ := by
    unfold topA
    rw [Finset.fold_max_lt, low]
    exact ⟨bot_lt_top, fun n _ => by obtain ⟨r, hr⟩ := hs n; rw [hr]; exact EReal.coe_lt_top r⟩
  have h2 : ⊥ < topA s := by
    unfold topA
    rw [Finset.lt_fold_max]
    refine Or.inr ⟨0, Finset.mem_univ _, ?_⟩
    obtain ⟨r, hr⟩ := hs 0
    rw [hr]
    exact EReal.bot_lt_coe r
  exact ⟨(topA s).toReal, (EReal.coe_toReal h1.ne h2.ne').symm⟩

theorem score_real {q : Fin 512 → EReal} {K : Fin 256 → Fin 512 → EReal} (hq : ∀ e, ∃ r : ℝ, q e = r) (hK : ∀ n e, ∃ r : ℝ, K n e = r) (h : Fin 4) (n : Fin 256) :
    ∃ r : ℝ, scoreA q K h n = r :=
  OutMath.real_mul (OutMath.real_sum fun e => OutMath.real_mul (hq _) (hK n _)) scale

/-- Over finite scores the values weighted by their shares are the attention. -/
theorem shares {q : Fin 512 → EReal} {K : Fin 256 → Fin 512 → EReal} (V : Fin 256 → Fin 512 → EReal) (hq : ∀ e, ∃ r : ℝ, q e = r) (hK : ∀ n e, ∃ r : ℝ, K n e = r)
    (h : Fin 4) (d : Fin 128) :
    ∑ n, V n ⟨128 * h + d, by omega⟩ * Ideal.div (powA (scoreA q K h) n) (∑ n, powA (scoreA q K h) n) = memA q K V h d := by
  unfold memA
  refine Eq.trans ?_ (OutMath.soft (scoreA q K h) (fun n => V n ⟨128 * h + d, by omega⟩) (topA (scoreA q K h)) (score_real hq hK h) (top_real (score_real hq hK h))).symm
  exact Finset.sum_congr rfl fun n _ => mul_comm _ _

end Cert.Pre_finite_scores.Out

end
-- ==== Proof.OutRef.lean ====
/- The output projections with the memory attention: the reference's rows are the result array's where the scores are finite,
   and the claims. -/
module

public import proofs.«01_k».proof.Defs
public import proofs.«01_k».proof.Proof.OutValue
public import proofs.«01_k».proof.Proof.Gen.Kernel4.Frame
public import proofs.«01_k».proof.Proof.Gen.Reference4Ideal.Run
public import proofs.«01_k».proof.Proof.OutFinite

@[expose] public section

set_option maxRecDepth 16384

noncomputable section

namespace Cert.Reference4Ideal.Out

open Cert.Reference4Ideal Cert.Reference4Ideal.Gen
open Idealize.ShloMosaic Idealize.ShloMosaic.TcCoe Idealize.SL.Sem
open Cert.Kernel3Ideal.Col (nrm)
open Cert.Kernel4Ideal.Out (scoreA topA powA memA memC mixA rowA rowA_congr outA)

section terms

/-- The memory queries, by head. -/
def qR (P : FVec Ideal S32768x5120 .bf16) : FVec Ideal S16x2048x4x128 .f32 :=
  shapeCast _ (extractStridedSlice S32768x512 ![0, 4608] (extf .f32 P bitsLt_bf16_f32) slices_S32768x5120_S32768x512_0_4608) shapeCasts_S32768x512_S16x2048x4x128
/-- The memory keys, by head. -/
def kR (M : FVec Ideal S16x256x1024 .bf16) : FVec Ideal S16x256x4x128 .f32 :=
  shapeCast _ (extractStridedSlice S16x256x512 ![0, 0, 0] (extf .f32 M bitsLt_bf16_f32) slices_S16x256x1024_S16x256x512_0_0_0) shapeCasts_S16x256x512_S16x256x4x128
/-- The memory values, by head. -/
def vR (M : FVec Ideal S16x256x1024 .bf16) : FVec Ideal S16x256x4x128 .f32 :=
  shapeCast _ (extractStridedSlice S16x256x512 ![0, 0, 512] (extf .f32 M bitsLt_bf16_f32) slices_S16x256x1024_S16x256x512_0_0_512) shapeCasts_S16x256x512_S16x256x4x128

/-- The scores. -/
def sR (q : FVec Ideal S16x2048x4x128 .f32) (k : FVec Ideal S16x256x4x128 .f32) : FVec Ideal S16x4x2048x256 .f32 :=
  mulf (Host.dotGeneral dot_S16x2048x4x128_S16x256x4x128_S16x4x2048x256_3_3_1_1_02_02 none q k)
    (broadcastInDim S16x4x2048x256 ![] bcast_S_S16x4x2048x256 (constant S_ .f32 0x3DB504F3#32))

/-- A number for every row of scores, over the row. -/
def overR (z : FVec Ideal S16x4x2048 .f32) : FVec Ideal S16x4x2048x256 .f32 :=
  broadcastInDim S16x4x2048x256 ![0, 1, 2, 3] bcast_S16x4x2048x1_S16x4x2048x256_0_1_2_3 (broadcastInDim S16x4x2048x1 ![0, 1, 2] bcast_S16x4x2048_S16x4x2048x1_0_1_2 z)

/-- The largest of every row of scores. -/
def maxR (s : FVec Ideal S16x4x2048x256 .f32) : FVec Ideal S16x4x2048 .f32 :=
  Host.reduce FloatOps.maximumf s (constant S_ .f32 0xFF800000#32) reducesTo_S16x4x2048x256_S16x4x2048_d3 h_S_

/-- The powers of the scores, of their rows' largest. -/
def powR (s : FVec Ideal S16x4x2048x256 .f32) (z : FVec Ideal S16x4x2048 .f32) : FVec Ideal S16x4x2048x256 .f32 :=
  Host.exp (subf s (overR (maximumf (broadcastInDim S16x4x2048 ![] bcast_S_S16x4x2048 (constant S_ .f32 0xFF800000#32)) z)))

/-- The powers over their row's sum. -/
def shareR (p : FVec Ideal S16x4x2048x256 .f32) : FVec Ideal S16x4x2048x256 .f32 :=
  Host.divf p (overR (Host.reduceAdd p (constant S_ .f32 0x00000000#32) reducesTo_S16x4x2048x256_S16x4x2048_d3 h_S_))

/-- The values weighted by the shares, the heads side by side. -/
def memR (v : FVec Ideal S16x256x4x128 .f32) (w : FVec Ideal S16x4x2048x256 .f32) : FVec Ideal S32768x512 .f32 :=
  shapeCast _ (transpose S16x2048x4x128 [0, 3, 1, 2] (Host.dotGeneral dot_S16x256x4x128_S16x4x2048x256_S16x4x128x2048_1_3_3_2_02_01 none v w)
    transposes_S16x4x128x2048_S16x2048x4x128_0_3_1_2) shapeCasts_S16x2048x4x128_S32768x512

/-- The rows' products with the weight. -/
def mixR (T : FVec Ideal S32768x1536 .bf16) (mem : FVec Ideal S32768x512 .f32) (W : FVec Ideal S2x2048x2048 .f32) : FVec Ideal S32768x2048 .f32 :=
  Host.dotGeneral dot_S32768x2048_S2048x2048_S32768x2048_1_0_0_1_n_n none
    (concatenate S32768x2048 1 [⟨S32768x1536, (extf .f32 T bitsLt_bf16_f32)⟩, ⟨S32768x512, mem⟩] concatenates_S32768x1536_S32768x512_S32768x2048_d1)
    (shapeCast _ (extractStridedSlice S1x2048x2048 ![1, 0, 0] W slices_S2x2048x2048_S1x2048x2048_1_0_0) shapeCasts_S1x2048x2048_S2048x2048)

/-- Rows plus their products normalised. -/
def rowsR (X u : FVec Ideal S32768x2048 .f32) (g : FVec Ideal S2048 .f32) : FVec Ideal S32768x2048 .f32 :=
  addf X (mulf (mulf u (broadcastInDim S32768x2048 ![0, 1] bcast_S32768x1_S32768x2048_0_1
      (Host.rsqrt (addf (Host.divf (broadcastInDim S32768x1 ![0] bcast_S32768_S32768x1_0 (Host.reduceAdd (mulf u u) (constant S_ .f32 0x00000000#32) reducesTo_S32768x2048_S32768_d1 h_S_))
        (broadcastInDim S32768x1 ![] bcast_S_S32768x1 (constant S_ .f32 0x45000000#32))) (broadcastInDim S32768x1 ![] bcast_S_S32768x1 (constant S_ .f32 0x358637BD#32))))))
    (broadcastInDim S32768x2048 ![0, 1] bcast_S1x2048_S32768x2048_0_1 (broadcastInDim S1x2048 ![1] bcast_S2048_S1x2048_1 g)))

theorem qR_at (P : FVec Ideal S32768x5120 .bf16) (b : Fin 16) (l : Fin 2048) (h : Fin 4) (d : Fin 128) :
    (qR P (ix4 b l h d) : EReal) = P (ix2 ⟨b * 2048 + l, by omega⟩ ⟨4608 + (h * 128 + d), by omega⟩) := by
  pointwise [qR]

theorem kR_at (M : FVec Ideal S16x256x1024 .bf16) (b : Fin 16) (n : Fin 256) (h : Fin 4) (d : Fin 128) :
    (kR M (ix4 b n h d) : EReal) = M (ix3 b n ⟨h * 128 + d, by omega⟩) := by
  pointwise [kR]

theorem vR_at (M : FVec Ideal S16x256x1024 .bf16) (b : Fin 16) (n : Fin 256) (h : Fin 4) (d : Fin 128) :
    (vR M (ix4 b n h d) : EReal) = M (ix3 b n ⟨512 + (h * 128 + d), by omega⟩) := by
  pointwise [vR]

theorem sR_at (q : FVec Ideal S16x2048x4x128 .f32) (k : FVec Ideal S16x256x4x128 .f32) (b : Fin 16) (h : Fin 4) (l : Fin 2048) (n : Fin 256) :
    (sR q k (ix4 b h l n) : EReal) = (∑ e : Fin 128, q (ix4 b l h e) * k (ix4 b n h e)) * Ideal.ofBits FTy.f32 1035273459#32 := by
  pointwise [sR]

theorem maxR_at (s : FVec Ideal S16x4x2048x256 .f32) (b : Fin 16) (h : Fin 4) (l : Fin 2048) :
    (maxR s (ix3 b h l) : EReal) = topA (fun n => s (ix4 b h l n)) := by
  pointwise [maxR, topA]

theorem powR_at (s : FVec Ideal S16x4x2048x256 .f32) (z : FVec Ideal S16x4x2048 .f32) (b : Fin 16) (h : Fin 4) (l : Fin 2048) (n : Fin 256) :
    (powR s z (ix4 b h l n) : EReal) = Ideal.exp (s (ix4 b h l n) - max (Ideal.ofBits FTy.f32 4286578688#32) (z (ix3 b h l))) := by
  pointwise [powR, overR]

theorem shareR_at (p : FVec Ideal S16x4x2048x256 .f32) (b : Fin 16) (h : Fin 4) (l : Fin 2048) (n : Fin 256) :
    (shareR p (ix4 b h l n) : EReal) = Ideal.div (p (ix4 b h l n)) (∑ n : Fin 256, p (ix4 b h l n)) := by
  pointwise [shareR, overR]

theorem memR_at (v : FVec Ideal S16x256x4x128 .f32) (w : FVec Ideal S16x4x2048x256 .f32) (r : Fin 32768) (j : Fin 512) :
    (memR v w (ix2 r j) : EReal) = ∑ n : Fin 256, v (ix4 ⟨r / 2048, by omega⟩ n ⟨j / 128, by omega⟩ ⟨j % 128, by omega⟩)
      * w (ix4 ⟨r / 2048, by omega⟩ ⟨j / 128, by omega⟩ ⟨r % 2048, by omega⟩ n) := by
  pointwise [memR]

theorem mixR_at (T : FVec Ideal S32768x1536 .bf16) (mem : FVec Ideal S32768x512 .f32) (W : FVec Ideal S2x2048x2048 .f32) (r : Fin 32768) (d : Fin 2048) :
    (mixR T mem W (ix2 r d) : EReal)
      = ∑ e : Fin 2048, (if h : e.val < 1536 then (T (ix2 r ⟨e, h⟩) : EReal) else mem (ix2 r ⟨e - 1536, by omega⟩)) * W (ix3 1 e d) := by
  pointwise [mixR]

theorem rowsR_at (X u : FVec Ideal S32768x2048 .f32) (g : FVec Ideal S2048 .f32) (r : Fin 32768) (d : Fin 2048) :
    (rowsR X u g (ix2 r d) : EReal) = X (ix2 r d) + nrm (fun e => u (ix2 r e)) (fun e => g (ix1 e)) d := by
  pointwise [rowsR, nrm]

end terms

theorem split (m : (ℓ : Loc nD τ sig) → Buf (Elt Ideal) ℓ) (c : Dev nD) (s p : FVec Ideal S16x4x2048x256 .f32) (u : FVec Ideal S32768x2048 .f32)
    (hs : s = sR (qR (m ((c.tc : Thread nD τ).loc main_arg1))) (kR (m ((c.tc : Thread nD τ).loc main_arg2)))) (hp : p = powR s (maxR s))
    (hu : u = mixR (m ((c.tc : Thread nD τ).loc main_arg0)) (memR (vR (m ((c.tc : Thread nD τ).loc main_arg2))) (shareR p)) (m ((c.tc : Thread nD τ).loc main_arg5))) :
    Value.res_out0 m c = rowsR (m ((c.tc : Thread nD τ).loc main_arg3)) u (m ((c.tc : Thread nD τ).loc main_arg4)) := by
  subst hu hp hs; rfl

section value
variable (T : FVec Ideal S32768x1536 .bf16) (P : FVec Ideal S32768x5120 .bf16) (M : FVec Ideal S16x256x1024 .bf16) (W : FVec Ideal S2x2048x2048 .f32)
  (hP : ∀ (r : Fin 32768) (e : Fin 512), ∃ z : ℝ, (P (ix2 r ⟨4608 + e, by omega⟩) : EReal) = z)
  (hM : ∀ (b : Fin 16) (n : Fin 256) (e : Fin 512), ∃ z : ℝ, (M (ix3 b n ⟨e, by omega⟩) : EReal) = z)

/-- A row of the scores. -/
theorem score_row (b : Fin 16) (h : Fin 4) (l : Fin 2048) (r : Fin 32768) (hr : (r : ℕ) = b * 2048 + l) :
    (fun n => (sR (qR P) (kR M) (ix4 b h l n) : EReal)) = scoreA (fun e => P (ix2 r ⟨4608 + e, by omega⟩)) (fun n e => M (ix3 b n ⟨e, by omega⟩)) h := by
  funext n
  rw [sR_at]
  refine congrArg (fun z : EReal => z * Ideal.ofBits FTy.f32 1035273459#32) (Finset.sum_congr (M := EReal) rfl fun e _ => ?_)
  rw [qR_at, kR_at]
  refine congrArg₂ (fun x y : EReal => x * y) (congrArg₂ (fun x y => (P (ix2 x y) : EReal)) (Fin.ext hr.symm) (Fin.ext ?_)) (congrArg (fun y => (M (ix3 b n y) : EReal)) (Fin.ext ?_))
  · show 4608 + (h.val * 128 + e.val) = 4608 + (128 * h.val + e.val)
    omega
  · show h.val * 128 + e.val = 128 * h.val + e.val
    omega

theorem pow_row (s : FVec Ideal S16x4x2048x256 .f32) (b : Fin 16) (h : Fin 4) (l : Fin 2048) (n : Fin 256) :
    (powR s (maxR s) (ix4 b h l n) : EReal) = powA (fun n => s (ix4 b h l n)) n := by
  rw [powR_at, maxR_at, Cert.Pre_finite_scores.Out.max_top]
  rfl

include hP hM in
/-- The reference's attention at a row and column. -/
theorem mem_row (r : Fin 32768) (j : Fin 512) : (memR (vR M) (shareR (powR (sR (qR P) (kR M)) (maxR (sR (qR P) (kR M))))) (ix2 r j) : EReal)
    = memC (fun e => P (ix2 r ⟨4608 + e, by omega⟩)) (fun n e => M (ix3 ⟨r / 2048, by omega⟩ n ⟨e, by omega⟩)) (fun n e => M (ix3 ⟨r / 2048, by omega⟩ n ⟨512 + e, by omega⟩)) j := by
  rw [memR_at]
  unfold memC
  rw [← Cert.Pre_finite_scores.Out.shares (fun n e => M (ix3 ⟨r / 2048, by omega⟩ n ⟨512 + e, by omega⟩)) (fun e => hP r e) (fun n e => hM ⟨r / 2048, by omega⟩ n e)]
  have hs := score_row P M ⟨r / 2048, by omega⟩ ⟨j / 128, by omega⟩ ⟨r % 2048, by omega⟩ r (by show r.val = r.val / 2048 * 2048 + r.val % 2048; omega)
  refine Finset.sum_congr (M := EReal) rfl fun n _ => ?_
  rw [vR_at, shareR_at]
  simp only [pow_row]
  rw [hs]
  refine congrArg (fun y => (M (ix3 ⟨r / 2048, by omega⟩ n y) : EReal) * _) (Fin.ext ?_)
  show 512 + (j.val / 128 * 128 + j.val % 128) = 512 + (128 * (j.val / 128) + j.val % 128)
  omega

/-- A sum over 2048 columns, the first 1536 and the others apart. -/
theorem sum_parts (f : Fin 2048 → EReal) : ∑ e, f e = ∑ e : Fin 1536, f ⟨e, by omega⟩ + ∑ e : Fin 512, f ⟨1536 + e, by omega⟩ :=
  Fin.sum_univ_add (a := 1536) (b := 512) f

theorem mix_row (mem : FVec Ideal S32768x512 .f32) (r : Fin 32768) (d : Fin 2048) :
    (mixR T mem W (ix2 r d) : EReal) = mixA (fun e => T (ix2 r e)) (fun e => mem (ix2 r e)) (fun e d => W (ix3 1 ⟨e, by omega⟩ d)) (fun e d => W (ix3 1 ⟨1536 + e, by omega⟩ d)) d := by
  rw [mixR_at, sum_parts]
  unfold mixA
  refine congrArg₂ (fun x y : EReal => x + y) (Finset.sum_congr (M := EReal) rfl fun e _ => ?_) (Finset.sum_congr (M := EReal) rfl fun e _ => ?_)
  · rw [dif_pos (show (e : ℕ) < 1536 from e.isLt)]
  · rw [dif_neg (show ¬1536 + (e : ℕ) < 1536 by omega)]
    exact congrArg (fun z => (mem (ix2 r z) : EReal) * W (ix3 1 ⟨1536 + e, by omega⟩ d)) (Fin.ext (by show 1536 + e.val - 1536 = e.val; omega))

end value

theorem ref_eq (m : (ℓ : Loc nD τ sig) → Buf (Elt Ideal) ℓ) (c : Dev nD) (P : FVec Ideal S32768x5120 .bf16) (M : FVec Ideal S16x256x1024 .bf16)
    (e1 : m ((c.tc : Thread nD τ).loc main_arg1) = P) (e2 : m ((c.tc : Thread nD τ).loc main_arg2) = M)
    (hP : ∀ (r : Fin 32768) (e : Fin 512), ∃ z : ℝ, (P (ix2 r ⟨4608 + e, by omega⟩) : EReal) = z)
    (hM : ∀ (b : Fin 16) (n : Fin 256) (e : Fin 512), ∃ z : ℝ, (M (ix3 b n ⟨e, by omega⟩) : EReal) = z) :
    Value.res_out0 m c = outA (m ((c.tc : Thread nD τ).loc main_arg0)) P M
      (m ((c.tc : Thread nD τ).loc main_arg3)) (m ((c.tc : Thread nD τ).loc main_arg4)) (m ((c.tc : Thread nD τ).loc main_arg5)) := by
  subst e1 e2
  funext i
  rw [split m c _ _ _ rfl rfl rfl]
  refine (congrArg (rowsR _ _ _) (show i = ix2 (i 0) (i 1) by funext b; match b with | 0 => rfl | 1 => rfl)).trans ((rowsR_at _ _ _ _ _).trans ?_)
  unfold outA rowA
  refine congrArg (fun u => _ + nrm u _ (i 1)) (funext fun e => ?_)
  refine (mix_row _ _ _ _ _).trans ?_
  exact congrArg (fun z => mixA _ z _ _ e) (funext fun j => mem_row _ _ hP hM (i 0) j)

end Cert.Reference4Ideal.Out

namespace Cert.Proof.OutClaims

open Idealize.ShloMosaic Idealize.SL.Sem

theorem frame_kernel : Cert.quiescent_Kernel4 := fun m ρ _ => Cert.Kernel4.Gen.frame m ρ
theorem frame_ideal : Cert.quiescent_Kernel4Ideal := fun m ρ _ => Cert.Kernel4Ideal.Gen.frame m ρ
theorem frame_ideal_finite : Cert.quiescent_Kernel4Ideal_pre_finite_scores := fun m ρ _ => Cert.Kernel4Ideal.Gen.frame m ρ
theorem frame_reference : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)
theorem frame_reference_finite : Cert.quiescent_Reference4Ideal_pre_finite_scores := fun m ρ _ => frame_reference m ρ trivial
theorem preserves : Cert.preserves_Kernel4_Kernel4Ideal := trivial

/-- Both runs end at the result array of the arguments. -/
theorem algebraic : Cert.algebraic_Kernel4Ideal_Reference4Ideal_pre_finite_scores := by
  intro m ρ m' ρ' hf hagree
  refine ⟨_, Cert.Kernel4Ideal.Value.run_blocks (F := Ideal) m ρ, ?_⟩
  refine (θ_run Cert.Reference4Ideal.defs _ _).mono (fun _ h c => ⟨(h c).1.trans ?_, (h c).2⟩)
    (Cert.Reference4Ideal.Value.run (F := Ideal) m' ρ')
  obtain ⟨e0, e1, e2, e3, e4, e5⟩ := hagree c
  have hq := Cert.Pre_finite_scores.Out.query_real _ _ _ _ _ _ (hf c)
  have hk := Cert.Pre_finite_scores.Out.key_real _ _ _ _ _ _ (hf c)
  refine (Cert.Reference4Ideal.Out.ref_eq m' c _ _ e1 e2 hq hk).trans (Eq.trans ?_ (Cert.Kernel4Ideal.Out.final m c).symm)
  rw [e0, e3, e4, e5]

end Cert.Proof.OutClaims

end
-- ==== Proof.lean ====
module

public import proofs.«01_k».proof.Defs
public import proofs.«01_k».proof.Proof.RetValue
public import proofs.«01_k».proof.Proof.MlpValue
public import proofs.«01_k».proof.Proof.ColRef
public import proofs.«01_k».proof.Proof.OutRef
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Pre_finite_scores
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts, Cert.Pre_finite_scores.Gen.facts,
    RetClaims.frame_kernel, RetClaims.frame_ideal, RetClaims.frame_reference,
    MlpClaims.frame_kernel, MlpClaims.frame_ideal, MlpClaims.frame_reference,
    ColClaims.frame_kernel, ColClaims.frame_ideal, ColClaims.frame_reference,
    OutClaims.frame_kernel, OutClaims.frame_ideal, OutClaims.frame_ideal_finite, OutClaims.frame_reference, OutClaims.frame_reference_finite,
    RetClaims.preserves, RetClaims.algebraic, MlpClaims.preserves, MlpClaims.algebraic,
    ColClaims.preserves, ColClaims.algebraic,
    OutClaims.preserves, OutClaims.algebraic⟩

end Cert.Proof

end
